-- ==== Defs.lean ====
def Pre_Kernel [hPre_idx_names_rows : Cert.Pre_idx_names_rows.Facts] (m : (ℓ : Loc Cert.Kernel.nD Cert.Kernel.τ Cert.Kernel.sig) → Buf (Elt Bits) ℓ) : Prop :=
  ∀ c : Dev Cert.Kernel.nD,
    (Cert.Pre_idx_names_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_idx_names_rows : Cert.Pre_idx_names_rows.Facts] (m : (ℓ : Loc Cert.KernelIdeal.nD Cert.KernelIdeal.τ Cert.KernelIdeal.sig) → Buf (Elt Ideal) ℓ) : Prop :=
  ∀ c : Dev Cert.KernelIdeal.nD,
    (Cert.Pre_idx_names_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_names_rows [hPre_idx_names_rows : Cert.Pre_idx_names_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_names_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] [hPre_idx_names_rows : Cert.Pre_idx_names_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] [hPre_idx_names_rows : Cert.Pre_idx_names_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_idx_names_rows [hReferenceIdeal : Cert.ReferenceIdeal.Facts] [hPre_idx_names_rows : Cert.Pre_idx_names_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_names_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_names_rows : Cert.Pre_idx_names_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_idx_names_rows : Cert.Pre_idx_names_rows.Facts),
    quiescent_Kernel (hKernel := hKernel) (hPre_idx_names_rows := hPre_idx_names_rows)
    ∧ quiescent_KernelIdeal (hKernelIdeal := hKernelIdeal) (hPre_idx_names_rows := hPre_idx_names_rows)
    ∧ quiescent_ReferenceIdeal (hReferenceIdeal := hReferenceIdeal)
    ∧ quiescent_ReferenceIdeal_pre_idx_names_rows (hReferenceIdeal := hReferenceIdeal) (hPre_idx_names_rows := hPre_idx_names_rows)
    ∧ preserves_Kernel_KernelIdeal
    ∧ algebraic_KernelIdeal_ReferenceIdeal (hKernelIdeal := hKernelIdeal) (hReferenceIdeal := hReferenceIdeal) (hPre_idx_names_rows := hPre_idx_names_rows)
-- ==== Pre_idx_names_rows.lean ====
abbrev S100000x256 : Shape := ⟨2, ![100000, 256]⟩
abbrev S16384 : Shape := ⟨1, ![16384]⟩
abbrev S16384x1024 : Shape := ⟨2, ![16384, 1024]⟩
abbrev S1024x512 : Shape := ⟨2, ![1024, 512]⟩
abbrev S512 : Shape := ⟨1, ![512]⟩
abbrev S512x100 : Shape := ⟨2, ![512, 100]⟩
abbrev S100 : Shape := ⟨1, ![100]⟩
abbrev S100x768 : Shape := ⟨2, ![100, 768]⟩
abbrev S256x768 : Shape := ⟨2, ![256, 768]⟩
abbrev S768 : Shape := ⟨1, ![768]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S100000x256 .f32) (main_arg1 : IVec S16384 32) (main_arg2 : FVec F S16384x1024 .f32) (main_arg3 : FVec F S1024x512 .f32) (main_arg4 : FVec F S512 .f32) (main_arg5 : FVec F S512x100 .f32) (main_arg6 : FVec F S100 .f32) (main_arg7 : FVec F S100x768 .f32) (main_arg8 : FVec F S256x768 .f32) (main_arg9 : FVec F S768 .f32) (main_arg10 : FVec F S768 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 100000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S100000x256 : Shape := ⟨2, ![100000, 256]⟩
abbrev S16384 : Shape := ⟨1, ![16384]⟩
abbrev S16384x1024 : Shape := ⟨2, ![16384, 1024]⟩
abbrev S1024x512 : Shape := ⟨2, ![1024, 512]⟩
abbrev S512 : Shape := ⟨1, ![512]⟩
abbrev S512x100 : Shape := ⟨2, ![512, 100]⟩
abbrev S100 : Shape := ⟨1, ![100]⟩
abbrev S100x768 : Shape := ⟨2, ![100, 768]⟩
abbrev S256x768 : Shape := ⟨2, ![256, 768]⟩
abbrev S768 : Shape := ⟨1, ![768]⟩
abbrev S_ : Shape := ⟨0, ![]⟩
abbrev S512x128 : Shape := ⟨2, ![512, 128]⟩
abbrev S1 : Shape := ⟨1, ![1]⟩
abbrev S1x128 : Shape := ⟨2, ![1, 128]⟩
abbrev S1x100 : Shape := ⟨2, ![1, 100]⟩
abbrev S128x768 : Shape := ⟨2, ![128, 768]⟩
abbrev S100000x2x128 : Shape := ⟨3, ![100000, 2, 128]⟩
abbrev S16384x2x128 : Shape := ⟨3, ![16384, 2, 128]⟩
abbrev S128x2x128 : Shape := ⟨3, ![128, 2, 128]⟩
abbrev S128 : Shape := ⟨1, ![128]⟩
abbrev S16384x256 : Shape := ⟨2, ![16384, 256]⟩
abbrev S1x512 : Shape := ⟨2, ![1, 512]⟩
abbrev S1x768 : Shape := ⟨2, ![1, 768]⟩
abbrev S512x1024 : Shape := ⟨2, ![512, 1024]⟩
abbrev S512x256 : Shape := ⟨2, ![512, 256]⟩
abbrev S3200x256 : Shape := ⟨2, ![3200, 256]⟩
abbrev S512x512 : Shape := ⟨2, ![512, 512]⟩
abbrev S512x768 : Shape := ⟨2, ![512, 768]⟩
abbrev S16400 : Shape := ⟨1, ![16400]⟩
abbrev S3141 : Shape := ⟨1, ![3141]⟩
abbrev S16 : Shape := ⟨1, ![16]⟩
abbrev S1x256 : Shape := ⟨2, ![1, 256]⟩

abbrev nBuf : Table → Nat
  | .hbm => 36
  | .local .tc .vmem => 18
  | .local .scVector .vmem => 8
  | _ => 0

abbrev bufTy : (tb : Table) → Fin (nBuf tb) → BufTy
  | .hbm, ⟨0, _⟩ => ⟨S100000x256, .f32⟩
  | .hbm, ⟨1, _⟩ => ⟨S16384, .i32⟩
  | .hbm, ⟨2, _⟩ => ⟨S16384x1024, .f32⟩
  | .hbm, ⟨3, _⟩ => ⟨S1024x512, .f32⟩
  | .hbm, ⟨4, _⟩ => ⟨S512, .f32⟩
  | .hbm, ⟨5, _⟩ => ⟨S512x100, .f32⟩
  | .hbm, ⟨6, _⟩ => ⟨S100, .f32⟩
  | .hbm, ⟨7, _⟩ => ⟨S100x768, .f32⟩
  | .hbm, ⟨8, _⟩ => ⟨S256x768, .f32⟩
  | .hbm, ⟨9, _⟩ => ⟨S768, .f32⟩
  | .hbm, ⟨10, _⟩ => ⟨S768, .f32⟩
  | .hbm, ⟨11, _⟩ => ⟨S_, .f32⟩
  | .hbm, ⟨12, _⟩ => ⟨S512x128, .f32⟩
  | .hbm, ⟨13, _⟩ => ⟨S_, .i32⟩
  | .hbm, ⟨14, _⟩ => ⟨S1, .i32⟩
  | .hbm, ⟨15, _⟩ => ⟨S512x128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S1x100, .f32⟩
  | .hbm, ⟨21, _⟩ => ⟨S1x128, .f32⟩
  | .hbm, ⟨22, _⟩ => ⟨S_, .f32⟩
  | .hbm, ⟨23, _⟩ => ⟨S128x768, .f32⟩
  | .hbm, ⟨24, _⟩ => ⟨S_, .i32⟩
  | .hbm, ⟨25, _⟩ => ⟨S1, .i32⟩
  | .hbm, ⟨26, _⟩ => ⟨S128x768, .f32⟩
  | .hbm, ⟨27, _⟩ => ⟨S100000x2x128, .f32⟩
  | .hbm, ⟨28, _⟩ => ⟨S16384x2x128, .f32⟩
  | .hbm, ⟨29, _⟩ => ⟨S16384x256, .f32⟩
  | .hbm, ⟨30, _⟩ => ⟨S1x512, .f32⟩
  | .hbm, ⟨31, _⟩ => ⟨S1x768, .f32⟩
  | .hbm, ⟨32, _⟩ => ⟨S1x768, .f32⟩
  | .hbm, ⟨33, _⟩ => ⟨S100000x256, .f32⟩
  | .hbm, ⟨34, _⟩ => ⟨S16384x256, .f32⟩
  | .hbm, ⟨35, _⟩ => ⟨S100000x256, .f32⟩
  | .local .tc .vmem, ⟨0, _⟩ => ⟨S512x1024, .f32⟩
  | .local .tc .vmem, ⟨1, _⟩ => ⟨S512x1024, .f32⟩
  | .local .tc .vmem, ⟨2, _⟩ => ⟨S512x256, .f32⟩
  | .local .tc .vmem, ⟨3, _⟩ => ⟨S512x256, .f32⟩
  | .local .tc .vmem, ⟨4, _⟩ => ⟨S3200x256, .f32⟩
  | .local .tc .vmem, ⟨5, _⟩ => ⟨S3200x256, .f32⟩
  | .local .tc .vmem, ⟨6, _⟩ => ⟨S1024x512, .f32⟩
  | .local .tc .vmem, ⟨7, _⟩ => ⟨S1x512, .f32⟩
  | .local .tc .vmem, ⟨8, _⟩ => ⟨S512x128, .f32⟩
  | .local .tc .vmem, ⟨9, _⟩ => ⟨S1x128, .f32⟩
  | .local .tc .vmem, ⟨10, _⟩ => ⟨S128x768, .f32⟩
  | .local .tc .vmem, ⟨11, _⟩ => ⟨S256x768, .f32⟩
  | .local .tc .vmem, ⟨12, _⟩ => ⟨S1x768, .f32⟩
  | .local .tc .vmem, ⟨13, _⟩ => ⟨S1x768, .f32⟩
  | .local .tc .vmem, ⟨14, _⟩ => ⟨S3200x256, .f32⟩
  | .local .tc .vmem, ⟨15, _⟩ => ⟨S3200x256, .f32⟩
  | .local .tc .vmem, ⟨16, _⟩ => ⟨S512x256, .f32⟩
  | .local .tc .vmem, ⟨17, _⟩ => ⟨S512x256, .f32⟩
  | .local .scVector .vmem, ⟨0, _⟩ => ⟨S512, .i32⟩
  | .local .scVector .vmem, ⟨1, _⟩ => ⟨S128x2x128, .f32⟩
  | .local .scVector .vmem, ⟨2, _⟩ => ⟨S128x2x128, .f32⟩
  | .local .scVector .vmem, ⟨3, _⟩ => ⟨S16384, .i32⟩
  | .local .scVector .vmem, ⟨4, _⟩ => ⟨S16400, .i32⟩
  | .local .scVector .vmem, ⟨5, _⟩ => ⟨S16400, .i32⟩
  | .local .scVector .vmem, ⟨6, _⟩ => ⟨S3141, .i32⟩
  | .local .scVector .vmem, ⟨7, _⟩ => ⟨S16, .i32⟩
  | _, _ => ⟨S100000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 24 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => false
  | ⟨23, _⟩ => false
  | _ => false

abbrev sig : RefSig :=
  ofTables nBuf rfl bufTy 4 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_c_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_v7 : Ref sig .tc := ⟨.hbm, 23, rfl⟩
abbrev main_c_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16_0 : Ref sig .tc := ⟨.hbm, 33, rfl⟩
abbrev main_v16_1 : Ref sig .tc := ⟨.hbm, 34, rfl⟩
abbrev main_v17 : Ref sig .tc := ⟨.hbm, 35, rfl⟩
abbrev main_v10_scv : Ref sig .scVector := ⟨.hbm, 27, rfl⟩
abbrev main_arg1_scv : Ref sig .scVector := ⟨.hbm, 1, rfl⟩
abbrev main_v11_scv : Ref sig .scVector := ⟨.hbm, 28, rfl⟩
abbrev main_v17_scv : Ref sig .scVector := ⟨.hbm, 35, rfl⟩
abbrev main_v16_1_scv : Ref sig .scVector := ⟨.hbm, 34, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg11_1 : Ref sig .tc := ⟨.vmem, 15, rfl⟩
abbrev cc1_stg12_0 : Ref sig .tc := ⟨.vmem, 16, rfl⟩
abbrev cc1_stg12_1 : Ref sig .tc := ⟨.vmem, 17, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc2_scratch3 : Ref sig .scVector := ⟨.vmem, 6, rfl⟩
abbrev cc2_scratch4 : Ref sig .scVector := ⟨.vmem, 7, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem11_1 : DmaSem sig := 19
abbrev cc1_sem12_0 : DmaSem sig := 20
abbrev cc1_sem12_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_7 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v7 : BitVec 32 := Scalar.addi v2 c0_i32_7
  let c0_i32_8 : BitVec 32 := 0#32
  let c0_i32_9 : BitVec 32 := 0#32
  ![v7.toNat, 0, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3200x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x768 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x768 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x768 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S3200x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨2, ![2, 16], ![false, false]⟩

@[reducible] def k2_t1_loop : Scf.Loop 32 :=
  let c0_i32_1 : BitVec 32 := 0#32
  let c1024_i32 : BitVec 32 := 1024#32
  let v5 : BitVec 32 := Scalar.addi c0_i32_1 c1024_i32
  let c1_i32 : BitVec 32 := 1#32
  ⟨c0_i32_1, v5, c1_i32⟩
def k2_off1 (k2_t1 : Fin k2_t1_loop.trips) : Fin 1 → Nat :=
  let c0_i32_1 : BitVec 32 := 0#32
  let c1_i32 : BitVec 32 := 1#32
  let arg12 : BitVec 32 := Scf.iv c0_i32_1 c1_i32 k2_t1
  let c16_i32_29 : BitVec 32 := 16#32
  let v53 : BitVec 32 := Scalar.muli arg12 c16_i32_29
  let v54 : Index := Scalar.indexCast v53
  ![v54.toNat]

def k2_chk1 (v79 : IVec S16 32) : Prop :=
  (∀ a x, ((![v79] : Fin 1 → IVec S16 32) a x).toNat < S16400.size a)
theorem k2_idx1_inb : ∀ (v79 : IVec S16 32) (k2_hw1 : k2_chk1 v79), ∀ a x, ((![v79] : Fin 1 → IVec S16 32) a x).toNat < S16400.size a := fun v79 k2_hw1 => k2_hw1
@[reducible] def k2_t2_loop (v6 : BitVec 32) : Scf.Loop 32 :=
  let c0_i32_9 : BitVec 32 := 0#32
  let c15_i32 : BitVec 32 := 15#32
  let v7 : BitVec 32 := Scalar.addi v6 c15_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let v25 : BitVec 32 := Scalar.subi v24 c0_i32_9
  let c1_i32_11 : BitVec 32 := 1#32
  let v27 : BitVec 32 := Scalar.divsi v25 c1_i32_11
  let v28 : BitVec 32 := Scalar.muli v27 c1_i32_11
  let v29 : BitVec 32 := Scalar.addi c0_i32_9 v28
  let c1_i32_12 : BitVec 32 := 1#32
  ⟨c0_i32_9, v29, c1_i32_12⟩

def k2_off2 (v6 : BitVec 32) (k2_t2 : Fin (k2_t2_loop v6).trips) : Fin 1 → Nat :=
  let c0_i32_9 : BitVec 32 := 0#32
  let c1_i32_12 : BitVec 32 := 1#32
  let arg12 : BitVec 32 := Scf.iv c0_i32_9 c1_i32_12 k2_t2
  let c16_i32_29 : BitVec 32 := 16#32
  let v53 : BitVec 32 := Scalar.muli arg12 c16_i32_29
  let v54 : Index := Scalar.indexCast v53
  ![v54.toNat]
@[reducible] def k2_t3_loop : Scf.Loop 32 :=
  let c0_i32_31 : BitVec 32 := 0#32
  let c16_i32_32 : BitVec 32 := 16#32
  let v63 : BitVec 32 := Scalar.addi c0_i32_31 c16_i32_32
  let c1_i32_33 : BitVec 32 := 1#32
  ⟨c0_i32_31, v63, c1_i32_33⟩

def k2_chk3 (v85 : IVec S16 32) : Prop :=
  (∀ a x, ((![v85] : Fin 1 → IVec S16 32) a x).toNat < S16.size a)
theorem k2_idx2_inb : ∀ (v85 : IVec S16 32) (k2_hw3 : k2_chk3 v85), ∀ a x, ((![v85] : Fin 1 → IVec S16 32) a x).toNat < S16.size a := fun v85 k2_hw3 => k2_hw3

def k2_chk4 (v64 : IVec S16 32) : Prop :=
  (∀ a x, ((![v64] : Fin 1 → IVec S16 32) a x).toNat < S16.size a)
theorem k2_idx3_inb : ∀ (v64 : IVec S16 32) (k2_hw4 : k2_chk4 v64), ∀ a x, ((![v64] : Fin 1 → IVec S16 32) a x).toNat < S16.size a := fun v64 k2_hw4 => k2_hw4

def k2_chk5 (v72 : IVec S16 32) : Prop :=
  (∀ a x, ((![v72] : Fin 1 → IVec S16 32) a x).toNat < S16.size a)
theorem k2_idx4_inb : ∀ (v72 : IVec S16 32) (k2_hw5 : k2_chk5 v72), ∀ a x, ((![v72] : Fin 1 → IVec S16 32) a x).toNat < S16.size a := fun v72 k2_hw5 => k2_hw5

def k2_chk6 (v82 : IVec S16 32) : Prop :=
  (∀ a x, ((![v82] : Fin 1 → IVec S16 32) a x).toNat < S3141.size a)
theorem k2_idx5_inb : ∀ (v82 : IVec S16 32) (k2_hw6 : k2_chk6 v82), ∀ a x, ((![v82] : Fin 1 → IVec S16 32) a x).toNat < S3141.size a := fun v82 k2_hw6 => k2_hw6
@[reducible] def k2_t4_loop (v6 : BitVec 32) : Scf.Loop 32 :=
  let c0_i32_9 : BitVec 32 := 0#32
  let c15_i32 : BitVec 32 := 15#32
  let v7 : BitVec 32 := Scalar.addi v6 c15_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let v25 : BitVec 32 := Scalar.subi v24 c0_i32_9
  let c1_i32_11 : BitVec 32 := 1#32
  let v27 : BitVec 32 := Scalar.divsi v25 c1_i32_11
  let v28 : BitVec 32 := Scalar.muli v27 c1_i32_11
  let v29 : BitVec 32 := Scalar.addi c0_i32_9 v28
  let v26 : BitVec 32 := Scalar.addi c0_i32_9 v25
  let c1_i32_13 : BitVec 32 := 1#32
  ⟨v29, v26, c1_i32_13⟩
def k2_off3 (v6 : BitVec 32) (k2_t4 : Fin (k2_t4_loop v6).trips) : Fin 1 → Nat :=
  let c0_i32_9 : BitVec 32 := 0#32
  let c15_i32 : BitVec 32 := 15#32
  let v7 : BitVec 32 := Scalar.addi v6 c15_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let v25 : BitVec 32 := Scalar.subi v24 c0_i32_9
  let c1_i32_11 : BitVec 32 := 1#32
  let v27 : BitVec 32 := Scalar.divsi v25 c1_i32_11
  let v28 : BitVec 32 := Scalar.muli v27 c1_i32_11
  let v29 : BitVec 32 := Scalar.addi c0_i32_9 v28
  let c1_i32_13 : BitVec 32 := 1#32
  let arg12 : BitVec 32 := Scf.iv v29 c1_i32_13 k2_t4
  let c16_i32_29 : BitVec 32 := 16#32
  let v53 : BitVec 32 := Scalar.muli arg12 c16_i32_29
  let v54 : Index := Scalar.indexCast v53
  ![v54.toNat]
@[reducible] def k2_t5_loop : Scf.Loop 32 :=
  let c0_i32_31 : BitVec 32 := 0#32
  let c16_i32_32 : BitVec 32 := 16#32
  let v63 : BitVec 32 := Scalar.addi c0_i32_31 c16_i32_32
  let c1_i32_33 : BitVec 32 := 1#32
  ⟨c0_i32_31, v63, c1_i32_33⟩

def k2_chk7 (v85 : IVec S16 32) : Prop :=
  (∀ a x, ((![v85] : Fin 1 → IVec S16 32) a x).toNat < S16.size a)
theorem k2_idx6_inb : ∀ (v85 : IVec S16 32) (k2_hw7 : k2_chk7 v85), ∀ a x, ((![v85] : Fin 1 → IVec S16 32) a x).toNat < S16.size a := fun v85 k2_hw7 => k2_hw7

def k2_chk8 (v64 : IVec S16 32) : Prop :=
  (∀ a x, ((![v64] : Fin 1 → IVec S16 32) a x).toNat < S16.size a)
theorem k2_idx7_inb : ∀ (v64 : IVec S16 32) (k2_hw8 : k2_chk8 v64), ∀ a x, ((![v64] : Fin 1 → IVec S16 32) a x).toNat < S16.size a := fun v64 k2_hw8 => k2_hw8

def k2_chk9 (v72 : IVec S16 32) : Prop :=
  (∀ a x, ((![v72] : Fin 1 → IVec S16 32) a x).toNat < S16.size a)
theorem k2_idx8_inb : ∀ (v72 : IVec S16 32) (k2_hw9 : k2_chk9 v72), ∀ a x, ((![v72] : Fin 1 → IVec S16 32) a x).toNat < S16.size a := fun v72 k2_hw9 => k2_hw9

def k2_chk10 (v82 : IVec S16 32) : Prop :=
  (∀ a x, ((![v82] : Fin 1 → IVec S16 32) a x).toNat < S3141.size a)
theorem k2_idx9_inb : ∀ (v82 : IVec S16 32) (k2_hw10 : k2_chk10 v82), ∀ a x, ((![v82] : Fin 1 → IVec S16 32) a x).toNat < S3141.size a := fun v82 k2_hw10 => k2_hw10
@[reducible] def k2_t6_loop (v6 : BitVec 32) : Scf.Loop 32 :=
  let c0_i32_14 : BitVec 32 := 0#32
  let c15_i32 : BitVec 32 := 15#32
  let v7 : BitVec 32 := Scalar.addi v6 c15_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let v32 : BitVec 32 := Scalar.subi v24 c0_i32_14
  let c1_i32_16 : BitVec 32 := 1#32
  let v34 : BitVec 32 := Scalar.divsi v32 c1_i32_16
  let v35 : BitVec 32 := Scalar.muli v34 c1_i32_16
  let v36 : BitVec 32 := Scalar.addi c0_i32_14 v35
  let c1_i32_17 : BitVec 32 := 1#32
  ⟨c0_i32_14, v36, c1_i32_17⟩
def k2_off4 (v6 : BitVec 32) (k2_t6 : Fin (k2_t6_loop v6).trips) : Fin 1 → Nat :=
  let c0_i32_14 : BitVec 32 := 0#32
  let c1_i32_17 : BitVec 32 := 1#32
  let arg12 : BitVec 32 := Scf.iv c0_i32_14 c1_i32_17 k2_t6
  let c16_i32_29 : BitVec 32 := 16#32
  let v53 : BitVec 32 := Scalar.muli arg12 c16_i32_29
  let v54 : Index := Scalar.indexCast v53
  ![v54.toNat]

def k2_chk11 (v62 : IVec S16 32) : Prop :=
  (∀ a x, ((![v62] : Fin 1 → IVec S16 32) a x).toNat < S3141.size a)
theorem k2_idx10_inb : ∀ (v62 : IVec S16 32) (k2_hw11 : k2_chk11 v62), ∀ a x, ((![v62] : Fin 1 → IVec S16 32) a x).toNat < S3141.size a := fun v62 k2_hw11 => k2_hw11

def k2_chk12 (v78 : IVec S16 32) : Prop :=
  (∀ a x, ((![v78] : Fin 1 → IVec S16 32) a x).toNat < S16400.size a)
theorem k2_idx11_inb : ∀ (v78 : IVec S16 32) (k2_hw12 : k2_chk12 v78), ∀ a x, ((![v78] : Fin 1 → IVec S16 32) a x).toNat < S16400.size a := fun v78 k2_hw12 => k2_hw12
@[reducible] def k2_t7_loop (v6 : BitVec 32) : Scf.Loop 32 :=
  let c0_i32_14 : BitVec 32 := 0#32
  let c15_i32 : BitVec 32 := 15#32
  let v7 : BitVec 32 := Scalar.addi v6 c15_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let v32 : BitVec 32 := Scalar.subi v24 c0_i32_14
  let c1_i32_16 : BitVec 32 := 1#32
  let v34 : BitVec 32 := Scalar.divsi v32 c1_i32_16
  let v35 : BitVec 32 := Scalar.muli v34 c1_i32_16
  let v36 : BitVec 32 := Scalar.addi c0_i32_14 v35
  let v33 : BitVec 32 := Scalar.addi c0_i32_14 v32
  let c1_i32_18 : BitVec 32 := 1#32
  ⟨v36, v33, c1_i32_18⟩
def k2_off5 (v6 : BitVec 32) (k2_t7 : Fin (k2_t7_loop v6).trips) : Fin 1 → Nat :=
  let c0_i32_14 : BitVec 32 := 0#32
  let c15_i32 : BitVec 32 := 15#32
  let v7 : BitVec 32 := Scalar.addi v6 c15_i32
  let c0_i32_3 : BitVec 32 := 0#32
  let v9 : BitVec 1 := Scalar.cmpi .sgt v7 c0_i32_3
  let v10 : BitVec 32 := Scalar.extui v9
  let c0_i32_4 : BitVec 32 := 0#32
  let v11 : BitVec 1 := Scalar.cmpi .slt v7 c0_i32_4
  let v12 : BitVec 32 := Scalar.extui v11
  let v13 : BitVec 32 := Scalar.subi v10 v12
  let c16_i32 : BitVec 32 := 16#32
  let c0_i32_5 : BitVec 32 := 0#32
  let v14 : BitVec 1 := Scalar.cmpi .sgt c16_i32 c0_i32_5
  let v15 : BitVec 32 := Scalar.extui v14
  let c0_i32_6 : BitVec 32 := 0#32
  let v16 : BitVec 1 := Scalar.cmpi .slt c16_i32 c0_i32_6
  let v17 : BitVec 32 := Scalar.extui v16
  let v18 : BitVec 32 := Scalar.subi v15 v17
  let v19 : BitVec 1 := Scalar.cmpi .ne v13 v18
  let v20 : BitVec 32 := Scalar.remsi v7 c16_i32
  let c0_i32_7 : BitVec 32 := 0#32
  let v21 : BitVec 1 := Scalar.cmpi .ne v20 c0_i32_7
  let v22 : BitVec 1 := Scalar.andi v19 v21
  let v8 : BitVec 32 := Scalar.divsi v7 c16_i32
  let c1_i32_8 : BitVec 32 := 1#32
  let v23 : BitVec 32 := Scalar.subi v8 c1_i32_8
  let v24 : BitVec 32 := Scalar.select v22 v23 v8
  let v32 : BitVec 32 := Scalar.subi v24 c0_i32_14
  let c1_i32_16 : BitVec 32 := 1#32
  let v34 : BitVec 32 := Scalar.divsi v32 c1_i32_16
  let v35 : BitVec 32 := Scalar.muli v34 c1_i32_16
  let v36 : BitVec 32 := Scalar.addi c0_i32_14 v35
  let c1_i32_18 : BitVec 32 := 1#32
  let arg12 : BitVec 32 := Scf.iv v36 c1_i32_18 k2_t7
  let c16_i32_29 : BitVec 32 := 16#32
  let v53 : BitVec 32 := Scalar.muli arg12 c16_i32_29
  let v54 : Index := Scalar.indexCast v53
  ![v54.toNat]

def k2_chk2 (v6 : BitVec 32) : Prop :=
  ((k2_t2_loop v6).OK) ∧
  (∀ k2_t2 : Fin (k2_t2_loop v6).trips, ∀ a, (k2_off2 v6 k2_t2) a + S16.size a ≤ S16400.size a) ∧
  ((k2_t4_loop v6).OK) ∧
  (∀ k2_t4 : Fin (k2_t4_loop v6).trips, ∀ a, (k2_off3 v6 k2_t4) a + S16.size a ≤ S16400.size a) ∧
  ((k2_t6_loop v6).OK) ∧
  (∀ k2_t6 : Fin (k2_t6_loop v6).trips, ∀ a, (k2_off4 v6 k2_t6) a + S16.size a ≤ S16400.size a) ∧
  ((k2_t7_loop v6).OK) ∧
  (∀ k2_t7 : Fin (k2_t7_loop v6).trips, ∀ a, (k2_off5 v6 k2_t7) a + S16.size a ≤ S16400.size a)
theorem k2_t2_ok : ∀ (v6 : BitVec 32) (k2_hw2 : k2_chk2 v6), (k2_t2_loop v6).OK := fun v6 k2_hw2 => k2_hw2.1
theorem k2_off2_inb : ∀ (v6 : BitVec 32) (k2_hw2 : k2_chk2 v6) (k2_t2 : Fin (k2_t2_loop v6).trips), ∀ a, (k2_off2 v6 k2_t2) a + S16.size a ≤ S16400.size a := fun v6 k2_hw2 k2_t2 => k2_hw2.2.1 k2_t2
theorem k2_t4_ok : ∀ (v6 : BitVec 32) (k2_hw2 : k2_chk2 v6), (k2_t4_loop v6).OK := fun v6 k2_hw2 => k2_hw2.2.2.1
theorem k2_off3_inb : ∀ (v6 : BitVec 32) (k2_hw2 : k2_chk2 v6) (k2_t4 : Fin (k2_t4_loop v6).trips), ∀ a, (k2_off3 v6 k2_t4) a + S16.size a ≤ S16400.size a := fun v6 k2_hw2 k2_t4 => k2_hw2.2.2.2.1 k2_t4
theorem k2_t6_ok : ∀ (v6 : BitVec 32) (k2_hw2 : k2_chk2 v6), (k2_t6_loop v6).OK := fun v6 k2_hw2 => k2_hw2.2.2.2.2.1
theorem k2_off4_inb : ∀ (v6 : BitVec 32) (k2_hw2 : k2_chk2 v6) (k2_t6 : Fin (k2_t6_loop v6).trips), ∀ a, (k2_off4 v6 k2_t6) a + S16.size a ≤ S16400.size a := fun v6 k2_hw2 k2_t6 => k2_hw2.2.2.2.2.2.1 k2_t6
theorem k2_t7_ok : ∀ (v6 : BitVec 32) (k2_hw2 : k2_chk2 v6), (k2_t7_loop v6).OK := fun v6 k2_hw2 => k2_hw2.2.2.2.2.2.2.1
theorem k2_off5_inb : ∀ (v6 : BitVec 32) (k2_hw2 : k2_chk2 v6) (k2_t7 : Fin (k2_t7_loop v6).trips), ∀ a, (k2_off5 v6 k2_t7) a + S16.size a ≤ S16400.size a := fun v6 k2_hw2 k2_t7 => k2_hw2.2.2.2.2.2.2.2 k2_t7

def k2_chk13 (v62 : IVec S16 32) : Prop :=
  (∀ a x, ((![v62] : Fin 1 → IVec S16 32) a x).toNat < S3141.size a)
theorem k2_idx12_inb : ∀ (v62 : IVec S16 32) (k2_hw13 : k2_chk13 v62), ∀ a x, ((![v62] : Fin 1 → IVec S16 32) a x).toNat < S3141.size a := fun v62 k2_hw13 => k2_hw13

def k2_chk14 (v78 : IVec S16 32) : Prop :=
  (∀ a x, ((![v78] : Fin 1 → IVec S16 32) a x).toNat < S16400.size a)
theorem k2_idx13_inb : ∀ (v78 : IVec S16 32) (k2_hw14 : k2_chk14 v78), ∀ a x, ((![v78] : Fin 1 → IVec S16 32) a x).toNat < S16400.size a := fun v78 k2_hw14 => k2_hw14
@[reducible] def k2_t8_loop (v38 : BitVec 32) : Scf.Loop 32 :=
  let c0_i32_19 : BitVec 32 := 0#32
  let v39 : BitVec 32 := Scalar.subi v38 c0_i32_19
  let c1_i32_21 : BitVec 32 := 1#32
  let v41 : BitVec 32 := Scalar.divsi v39 c1_i32_21
  let v42 : BitVec 32 := Scalar.muli v41 c1_i32_21
  let v43 : BitVec 32 := Scalar.addi c0_i32_19 v42
  let c1_i32_22 : BitVec 32 := 1#32
  ⟨c0_i32_19, v43, c1_i32_22⟩

def k2_off6 (v38 : BitVec 32) (k2_t8 : Fin (k2_t8_loop v38).trips) : Fin 1 → Nat :=
  let c0_i32_19 : BitVec 32 := 0#32
  let c1_i32_22 : BitVec 32 := 1#32
  let arg12 : BitVec 32 := Scf.iv c0_i32_19 c1_i32_22 k2_t8
  let v53 : Index := Scalar.indexCast arg12
  ![v53.toNat]
def k2_off7 (i : grid2.Coords) (v56 : BitVec 32) : Fin 2 → Nat :=
  let c14_i32 : BitVec 32 := 14#32
  let v58 : BitVec 32 := Scalar.shrui v56 c14_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let v59 : BitVec 32 := Scalar.addi v58 v2
  let c0_i32_29 : BitVec 32 := 0#32
  ![v59.toNat, 0]

def k2_off8 (v56 : BitVec 32) : Fin 2 → Nat :=
  let c16383_i32 : BitVec 32 := 16383#32
  let v57 : BitVec 32 := Scalar.andi v56 c16383_i32
  let c0_i32_30 : BitVec 32 := 0#32
  ![v57.toNat, 0]

def k2_chk16 (i : grid2.Coords) (v56 : BitVec 32) : Prop :=
  (∀ a, (k2_off7 i v56) a + S1x256.size a ≤ S100000x256.size a) ∧
  (∀ a, (k2_off8 v56) a + S1x256.size a ≤ S16384x256.size a)
theorem k2_off7_inb : ∀ (i : grid2.Coords) (v56 : BitVec 32) (k2_hw16 : k2_chk16 i v56), ∀ a, (k2_off7 i v56) a + S1x256.size a ≤ S100000x256.size a := fun i v56 k2_hw16 => k2_hw16.1
theorem k2_off8_inb : ∀ (i : grid2.Coords) (v56 : BitVec 32) (k2_hw16 : k2_chk16 i v56), ∀ a, (k2_off8 v56) a + S1x256.size a ≤ S16384x256.size a := fun i v56 k2_hw16 => k2_hw16.2

@[reducible] def k2_t9_loop (v38 : BitVec 32) : Scf.Loop 32 :=
  let c0_i32_19 : BitVec 32 := 0#32
  let v39 : BitVec 32 := Scalar.subi v38 c0_i32_19
  let c1_i32_21 : BitVec 32 := 1#32
  let v41 : BitVec 32 := Scalar.divsi v39 c1_i32_21
  let v42 : BitVec 32 := Scalar.muli v41 c1_i32_21
  let v43 : BitVec 32 := Scalar.addi c0_i32_19 v42
  let v40 : BitVec 32 := Scalar.addi c0_i32_19 v39
  let c1_i32_23 : BitVec 32 := 1#32
  ⟨v43, v40, c1_i32_23⟩
def k2_off9 (v38 : BitVec 32) (k2_t9 : Fin (k2_t9_loop v38).trips) : Fin 1 → Nat :=
  let c0_i32_19 : BitVec 32 := 0#32
  let v39 : BitVec 32 := Scalar.subi v38 c0_i32_19
  let c1_i32_21 : BitVec 32 := 1#32
  let v41 : BitVec 32 := Scalar.divsi v39 c1_i32_21
  let v42 : BitVec 32 := Scalar.muli v41 c1_i32_21
  let v43 : BitVec 32 := Scalar.addi c0_i32_19 v42
  let c1_i32_23 : BitVec 32 := 1#32
  let arg12 : BitVec 32 := Scf.iv v43 c1_i32_23 k2_t9
  let v53 : Index := Scalar.indexCast arg12
  ![v53.toNat]
def k2_off10 (i : grid2.Coords) (v56 : BitVec 32) : Fin 2 → Nat :=
  let c14_i32 : BitVec 32 := 14#32
  let v58 : BitVec 32 := Scalar.shrui v56 c14_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3125_i32 : BitVec 32 := 3125#32
  let v2 : BitVec 32 := Scalar.muli v1 c3125_i32
  let v59 : BitVec 32 := Scalar.addi v58 v2
  let c0_i32_29 : BitVec 32 := 0#32
  ![v59.toNat, 0]

def k2_off11 (v56 : BitVec 32) : Fin 2 → Nat :=
  let c16383_i32 : BitVec 32 := 16383#32
  let v57 : BitVec 32 := Scalar.andi v56 c16383_i32
  let c0_i32_30 : BitVec 32 := 0#32
  ![v57.toNat, 0]

def k2_chk17 (i : grid2.Coords) (v56 : BitVec 32) : Prop :=
  (∀ a, (k2_off10 i v56) a + S1x256.size a ≤ S100000x256.size a) ∧
  (∀ a, (k2_off11 v56) a + S1x256.size a ≤ S16384x256.size a)
theorem k2_off10_inb : ∀ (i : grid2.Coords) (v56 : BitVec 32) (k2_hw17 : k2_chk17 i v56), ∀ a, (k2_off10 i v56) a + S1x256.size a ≤ S100000x256.size a := fun i v56 k2_hw17 => k2_hw17.1
theorem k2_off11_inb : ∀ (i : grid2.Coords) (v56 : BitVec 32) (k2_hw17 : k2_chk17 i v56), ∀ a, (k2_off11 v56) a + S1x256.size a ≤ S16384x256.size a := fun i v56 k2_hw17 => k2_hw17.2

@[reducible] def k2_t10_loop (v38 : BitVec 32) : Scf.Loop 32 :=
  let c0_i32_24 : BitVec 32 := 0#32
  let v46 : BitVec 32 := Scalar.subi v38 c0_i32_24
  let c1_i32_26 : BitVec 32 := 1#32
  let v48 : BitVec 32 := Scalar.divsi v46 c1_i32_26
  let v49 : BitVec 32 := Scalar.muli v48 c1_i32_26
  let v50 : BitVec 32 := Scalar.addi c0_i32_24 v49
  let c1_i32_27 : BitVec 32 := 1#32
  ⟨c0_i32_24, v50, c1_i32_27⟩
@[reducible] def k2_t11_loop (v38 : BitVec 32) : Scf.Loop 32 :=
  let c0_i32_24 : BitVec 32 := 0#32
  let v46 : BitVec 32 := Scalar.subi v38 c0_i32_24
  let c1_i32_26 : BitVec 32 := 1#32
  let v48 : BitVec 32 := Scalar.divsi v46 c1_i32_26
  let v49 : BitVec 32 := Scalar.muli v48 c1_i32_26
  let v50 : BitVec 32 := Scalar.addi c0_i32_24 v49
  let v47 : BitVec 32 := Scalar.addi c0_i32_24 v46
  let c1_i32_28 : BitVec 32 := 1#32
  ⟨v50, v47, c1_i32_28⟩

def k2_chk15 (v38 : BitVec 32) : Prop :=
  ((k2_t8_loop v38).OK) ∧
  (∀ k2_t8 : Fin (k2_t8_loop v38).trips, ∀ a, (k2_off6 v38 k2_t8) a + S16.size a ≤ S16400.size a) ∧
  ((k2_t9_loop v38).OK) ∧
  (∀ k2_t9 : Fin (k2_t9_loop v38).trips, ∀ a, (k2_off9 v38 k2_t9) a + S16.size a ≤ S16400.size a) ∧
  ((k2_t10_loop v38).OK) ∧
  ((k2_t11_loop v38).OK)
theorem k2_t8_ok : ∀ (v38 : BitVec 32) (k2_hw15 : k2_chk15 v38), (k2_t8_loop v38).OK := fun v38 k2_hw15 => k2_hw15.1
theorem k2_off6_inb : ∀ (v38 : BitVec 32) (k2_hw15 : k2_chk15 v38) (k2_t8 : Fin (k2_t8_loop v38).trips), ∀ a, (k2_off6 v38 k2_t8) a + S16.size a ≤ S16400.size a := fun v38 k2_hw15 k2_t8 => k2_hw15.2.1 k2_t8
theorem k2_t9_ok : ∀ (v38 : BitVec 32) (k2_hw15 : k2_chk15 v38), (k2_t9_loop v38).OK := fun v38 k2_hw15 => k2_hw15.2.2.1
theorem k2_off9_inb : ∀ (v38 : BitVec 32) (k2_hw15 : k2_chk15 v38) (k2_t9 : Fin (k2_t9_loop v38).trips), ∀ a, (k2_off9 v38 k2_t9) a + S16.size a ≤ S16400.size a := fun v38 k2_hw15 k2_t9 => k2_hw15.2.2.2.1 k2_t9
theorem k2_t10_ok : ∀ (v38 : BitVec 32) (k2_hw15 : k2_chk15 v38), (k2_t10_loop v38).OK := fun v38 k2_hw15 => k2_hw15.2.2.2.2.1
theorem k2_t11_ok : ∀ (v38 : BitVec 32) (k2_hw15 : k2_chk15 v38), (k2_t11_loop v38).OK := fun v38 k2_hw15 => k2_hw15.2.2.2.2.2

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S100000x256 : Shape := ⟨2, ![100000, 256]⟩
abbrev S16384 : Shape := ⟨1, ![16384]⟩
abbrev S16384x1024 : Shape := ⟨2, ![16384, 1024]⟩
abbrev S1024x512 : Shape := ⟨2, ![1024, 512]⟩
abbrev S512 : Shape := ⟨1, ![512]⟩
abbrev S512x100 : Shape := ⟨2, ![512, 100]⟩
abbrev S100 : Shape := ⟨1, ![100]⟩
abbrev S100x768 : Shape := ⟨2, ![100, 768]⟩
abbrev S256x768 : Shape := ⟨2, ![256, 768]⟩
abbrev S768 : Shape := ⟨1, ![768]⟩
abbrev S16384x512 : Shape := ⟨2, ![16384, 512]⟩
abbrev S1x512 : Shape := ⟨2, ![1, 512]⟩
abbrev S_ : Shape := ⟨0, ![]⟩
abbrev S16384x100 : Shape := ⟨2, ![16384, 100]⟩
abbrev S1x100 : Shape := ⟨2, ![1, 100]⟩
abbrev S16384x1 : Shape := ⟨2, ![16384, 1]⟩
abbrev S1 : Shape := ⟨1, ![1]⟩
abbrev S1x1 : Shape := ⟨2, ![1, 1]⟩
abbrev S16384x256 : Shape := ⟨2, ![16384, 256]⟩
abbrev S16384x768 : Shape := ⟨2, ![16384, 768]⟩
abbrev S1x768 : Shape := ⟨2, ![1, 768]⟩

abbrev nBuf : Space → Nat
  | .hbm => 95
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S16384, .i32⟩
  | .hbm, ⟨2, _⟩ => ⟨S16384x1024, .f32⟩
  | .hbm, ⟨3, _⟩ => ⟨S1024x512, .f32⟩
  | .hbm, ⟨4, _⟩ => ⟨S512, .f32⟩
  | .hbm, ⟨5, _⟩ => ⟨S512x100, .f32⟩
  | .hbm, ⟨6, _⟩ => ⟨S100, .f32⟩
  | .hbm, ⟨7, _⟩ => ⟨S100x768, .f32⟩
  | .hbm, ⟨8, _⟩ => ⟨S256x768, .f32⟩
  | .hbm, ⟨9, _⟩ => ⟨S768, .f32⟩
  | .hbm, ⟨10, _⟩ => ⟨S768, .f32⟩
  | .hbm, ⟨11, _⟩ => ⟨S16384x512, .f32⟩
  | .hbm, ⟨12, _⟩ => ⟨S1x512, .f32⟩
  | .hbm, ⟨13, _⟩ => ⟨S16384x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S16384x512, .f32⟩
  | .hbm, ⟨18, _⟩ => ⟨S16384x100, .f32⟩
  | .hbm, ⟨19, _⟩ => ⟨S1x100, .f32⟩
  | .hbm, ⟨20, _⟩ => ⟨S16384x100, .f32⟩
  | .hbm, ⟨21, _⟩ => ⟨S16384x100, .f32⟩
  | .hbm, ⟨22, _⟩ => ⟨S_, .i32⟩
  | .hbm, ⟨23, _⟩ => ⟨S16384, .i32⟩
  | .hbm, ⟨24, _⟩ => ⟨S16384, .i1⟩
  | .hbm, ⟨25, _⟩ => ⟨S_, .i32⟩
  | .hbm, ⟨26, _⟩ => ⟨S16384, .i32⟩
  | .hbm, ⟨27, _⟩ => ⟨S16384, .i32⟩
  | .hbm, ⟨28, _⟩ => ⟨S16384, .i32⟩
  | .hbm, ⟨29, _⟩ => ⟨S16384x1, .i32⟩
  | .hbm, ⟨30, _⟩ => ⟨S1, .i32⟩
  | .hbm, ⟨31, _⟩ => ⟨S_, .i32⟩
  | .hbm, ⟨32, _⟩ => ⟨S16384x1, .i32⟩
  | .hbm, ⟨33, _⟩ => ⟨S16384x1, .i1⟩
  | .hbm, ⟨34, _⟩ => ⟨S1x1, .i32⟩
  | .hbm, ⟨35, _⟩ => ⟨S16384x1, .i32⟩
  | .hbm, ⟨36, _⟩ => ⟨S16384x1, .i1⟩
  | .hbm, ⟨37, _⟩ => ⟨S16384x1, .i1⟩
  | .hbm, ⟨38, _⟩ => ⟨S_, .i1⟩
  | .hbm, ⟨39, _⟩ => ⟨S16384, .i1⟩
  | .hbm, ⟨40, _⟩ => ⟨S16384x256, .f32⟩
  | .hbm, ⟨41, _⟩ => ⟨S16384x256, .i1⟩
  | .hbm, ⟨42, _⟩ => ⟨S_, .f32⟩
  | .hbm, ⟨43, _⟩ => ⟨S16384x256, .f32⟩
  | .hbm, ⟨44, _⟩ => ⟨S16384x256, .f32⟩
  | .hbm, ⟨45, _⟩ => ⟨S16384x768, .f32⟩
  | .hbm, ⟨46, _⟩ => ⟨S1x768, .f32⟩
  | .hbm, ⟨47, _⟩ => ⟨S16384x768, .f32⟩
  | .hbm, ⟨48, _⟩ => ⟨S16384x768, .f32⟩
  | .hbm, ⟨49, _⟩ => ⟨S16384x768, .f32⟩
  | .hbm, ⟨50, _⟩ => ⟨S1x768, .f32⟩
  | .hbm, ⟨51, _⟩ => ⟨S16384x768, .f32⟩
  | .hbm, ⟨52, _⟩ => ⟨S16384x768, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S16384x256, .f32⟩
  | .hbm, ⟨62, _⟩ => ⟨S_, .f32⟩
  | .hbm, ⟨63, _⟩ => ⟨S16384x256, .f32⟩
  | .hbm, ⟨64, _⟩ => ⟨S16384x256, .f32⟩
  | .hbm, ⟨65, _⟩ => ⟨S_, .f32⟩
  | .hbm, ⟨66, _⟩ => ⟨S16384x256, .f32⟩
  | .hbm, ⟨67, _⟩ => ⟨S16384x256, .f32⟩
  | .hbm, ⟨68, _⟩ => ⟨S16384x256, .f32⟩
  | .hbm, ⟨69, _⟩ => ⟨S16384x256, .f32⟩
  | .hbm, ⟨70, _⟩ => ⟨S16384x256, .f32⟩
  | .hbm, ⟨71, _⟩ => ⟨S_, .f32⟩
  | .hbm, ⟨72, _⟩ => ⟨S16384x256, .f32⟩
  | .hbm, ⟨73, _⟩ => ⟨S16384x256, .f32⟩
  | .hbm, ⟨74, _⟩ => ⟨S_, .f32⟩
  | .hbm, ⟨75, _⟩ => ⟨S16384x256, .f32⟩
  | .hbm, ⟨76, _⟩ => ⟨S16384x256, .f32⟩
  | .hbm, ⟨77, _⟩ => ⟨S16384x256, .f32⟩
  | .hbm, ⟨78, _⟩ => ⟨S16384x256, .f32⟩
  | .hbm, ⟨79, _⟩ => ⟨S16384x256, .f32⟩
  | .hbm, ⟨80, _⟩ => ⟨S_, .f32⟩
  | .hbm, ⟨81, _⟩ => ⟨S16384x256, .f32⟩
  | .hbm, ⟨82, _⟩ => ⟨S16384x256, .f32⟩
  | .hbm, ⟨83, _⟩ => ⟨S16384x256, .f32⟩
  | .hbm, ⟨84, _⟩ => ⟨S16384x256, .f32⟩
  | .hbm, ⟨85, _⟩ => ⟨S16384x256, .f32⟩
  | .hbm, ⟨86, _⟩ => ⟨S_, .i32⟩
  | .hbm, ⟨87, _⟩ => ⟨S16384, .i32⟩
  | .hbm, ⟨88, _⟩ => ⟨S16384, .i1⟩
  | .hbm, ⟨89, _⟩ => ⟨S_, .i32⟩
  | .hbm, ⟨90, _⟩ => ⟨S16384, .i32⟩
  | .hbm, ⟨91, _⟩ => ⟨S16384, .i32⟩
  | .hbm, ⟨92, _⟩ => ⟨S16384, .i32⟩
  | .hbm, ⟨93, _⟩ => ⟨S16384x1, .i32⟩
  | .hbm, ⟨94, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_c : Ref sig .tc := ⟨.hbm, 22, rfl⟩
abbrev main_call1_v0 : Ref sig .tc := ⟨.hbm, 23, rfl⟩
abbrev main_call1_v1 : Ref sig .tc := ⟨.hbm, 24, rfl⟩
abbrev main_call1_c_0 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_c_1 : Ref sig .tc := ⟨.hbm, 30, rfl⟩
abbrev main_call1_c_2 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_c_3 : Ref sig .tc := ⟨.hbm, 38, rfl⟩
abbrev main_call1_v12 : Ref sig .tc := ⟨.hbm, 39, rfl⟩
abbrev main_call1_v13 : Ref sig .tc := ⟨.hbm, 40, rfl⟩
abbrev main_call1_v14 : Ref sig .tc := ⟨.hbm, 41, rfl⟩
abbrev main_call1_cst : Ref sig .tc := ⟨.hbm, 42, rfl⟩
abbrev main_call1_v15 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst : Ref sig .tc := ⟨.hbm, 62, rfl⟩
abbrev main_v27 : Ref sig .tc := ⟨.hbm, 63, rfl⟩
abbrev main_v28 : Ref sig .tc := ⟨.hbm, 64, rfl⟩
abbrev main_cst_0 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_cst_1 : Ref sig .tc := ⟨.hbm, 71, rfl⟩
abbrev main_v34 : Ref sig .tc := ⟨.hbm, 72, rfl⟩
abbrev main_v35 : Ref sig .tc := ⟨.hbm, 73, rfl⟩
abbrev main_cst_2 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_cst_3 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_c : Ref sig .tc := ⟨.hbm, 86, rfl⟩
abbrev main_v46 : Ref sig .tc := ⟨.hbm, 87, rfl⟩
abbrev main_v47 : Ref sig .tc := ⟨.hbm, 88, rfl⟩
abbrev main_c_4 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩

abbrev nD : Nat := 1
abbrev τ : Topo := Topo.v7x

variable {F : FTy → Type} [FloatOps F]
-- ==== Proof.Lanes.lean ====
/-
  Sixteen lanes at a time: what a masked scatter leaves in a tile's memory, the running count of a mask, the compaction
  these two make together, and the ranking of sixteen words by counting the ones before each.
-/
module

public import Idealize.ShloMosaic.PureOps
public import Mathlib.Data.Nat.Count
public import Mathlib.Data.Prod.Lex
public import Mathlib.Data.Fintype.Card
public import Mathlib.Tactic.IntervalCases
public import Mathlib.Tactic.Ring

@[expose] public section

noncomputable section

namespace Cert.Proof.Lanes

open Idealize.ShloMosaic

abbrev V16 : Shape := ⟨1, ![16]⟩

/-- Lane `k` of a sixteen-lane vector. -/
abbrev ln (k : Fin 16) : V16.Idx := Shape.ofLane (d := ![16]) k

/-- The lane's number. -/
abbrev nm (x : V16.Idx) : Fin 16 := x 0

theorem ln_nm (x : V16.Idx) : ln (nm x) = x := by
  funext a
  match a with
  | 0 => rfl

theorem nm_ln (k : Fin 16) : nm (ln k) = k := rfl

theorem ofLane_zero {d : Fin 1 → Nat} (x : (⟨1, d⟩ : Shape).Idx) : Shape.ofLane (d := d) (x 0) = x := by
  funext a
  match a with
  | 0 => rfl

section Store

variable {F : FTy → Type} [FloatOps F] {s : Shape} {e : EltTy} {d : Fin 1 → Nat}

/-- An element no set lane names keeps its value. -/
theorem storeIdx_miss (f : Vec F s e) (idxs : Fin s.rank → IVec ⟨1, d⟩ 32) (v : Vec F ⟨1, d⟩ e) (mask : IVec ⟨1, d⟩ 1)
    (h : ∀ a x, (idxs a x).toNat < s.size a) (j : s.Idx)
    (hm : ∀ x, mask x = 1 → ¬ ∀ a, (j a).val = (idxs a x).toNat) :
    storeIdx f idxs v mask false h j = f j := by
  unfold storeIdx
  generalize List.finRange (d 0) = l
  induction l generalizing f with
  | nil => rfl
  | cons k l ih =>
    rw [List.foldl_cons, ih]
    by_cases hk : mask (Shape.ofLane k) = 1
    · have := hm _ hk
      simp only [hk, if_true]
      rw [if_neg]
      exact this
    · simp only [hk, if_false]

/-- An element exactly one set lane names holds that lane's value. -/
theorem storeIdx_hit (f : Vec F s e) (idxs : Fin s.rank → IVec ⟨1, d⟩ 32) (v : Vec F ⟨1, d⟩ e) (mask : IVec ⟨1, d⟩ 1)
    (h : ∀ a x, (idxs a x).toNat < s.size a) (j : s.Idx) (x : (⟨1, d⟩ : Shape).Idx) (hx : mask x = 1)
    (hj : ∀ a, (j a).val = (idxs a x).toNat)
    (hu : ∀ y, mask y = 1 → (∀ a, (j a).val = (idxs a y).toNat) → y = x) :
    storeIdx f idxs v mask false h j = v x := by
  have key : ∀ (l : List (Fin (d 0))) (g : Vec F s e), ((x 0) ∈ l ∨ g j = v x) →
      (l.foldl (fun g k =>
        let x := Shape.ofLane k
        if mask x = 1 then
          let i := idxAt idxs h x
          let y := if false then Elt.idxAdd e (g i) (v x) else v x
          fun j => if (∀ a, (j a).val = (i a).val) then y else g j
        else g) g) j = v x := by
    intro l
    induction l with
    | nil =>
      intro g hg
      rcases hg with hg | hg
      · exact absurd hg List.not_mem_nil
      · exact hg
    | cons k l ih =>
      intro g hg
      rw [List.foldl_cons]
      apply ih
      by_cases hk : mask (Shape.ofLane k) = 1
      · simp only [hk, if_true]
        by_cases hh : ∀ a, (j a).val = (idxs a (Shape.ofLane k)).toNat
        · right
          rw [if_pos (show ∀ a, (j a).val = (idxAt idxs h (Shape.ofLane k) a).val from hh)]
          rw [hu _ hk hh]; simp
        · rcases hg with hg | hg
          · rcases List.mem_cons.mp hg with rfl | hg
            · exact absurd (by rw [ofLane_zero]; exact hj) hh
            · exact .inl hg
          · right
            rw [if_neg (show ¬ ∀ a, (j a).val = (idxAt idxs h (Shape.ofLane k) a).val from hh)]
            exact hg
      · simp only [hk, if_false]
        rcases hg with hg | hg
        · rcases List.mem_cons.mp hg with rfl | hg
          · exact absurd (by rw [ofLane_zero]; exact hx) hk
          · exact .inl hg
        · exact .inr hg
  exact key _ f (.inl (List.mem_finRange _))

end Store

/-! ## The running count of a mask -/

/-- The scan of a mask's ones and zeros is, at each lane, how many set lanes there are up to it. -/
theorem scan_count (m : IVec V16 1) (p : ℕ → Prop) [DecidablePred p] (hp : ∀ x : V16.Idx, m x = 1 ↔ p (x 0).val)
    (x : V16.Idx) :
    scan .sum (select m (broadcast V16 1#32) (broadcast V16 0#32)) x = BitVec.ofNat 32 (Nat.count p ((x 0).val + 1)) := by
  have hs : select m (broadcast V16 1#32) (broadcast V16 0#32) = fun y : V16.Idx => if p (y 0).val then 1#32 else 0#32 := by
    funext y
    have := hp y
    simp only [select, Scalar.select, broadcast]
    by_cases h : p (y 0).val
    · rw [if_pos h, if_pos (this.mpr h)]
    · rw [if_neg h, if_neg (fun hh => h (this.mp hh))]
  have hb : ∀ k : ℕ, (BitVec.ofNat 32 (if p k then 1 else 0)) = if p k then 1#32 else 0#32 := by
    intro k; split <;> rfl
  have hf : ∀ (n : ℕ) (_ : n < 16), ((List.finRange 16).filter fun k : Fin 16 => decide (0 < k.val ∧ k.val ≤ n)).foldl
      (fun r k => r + (if p k.val then 1#32 else 0#32)) (if p 0 then 1#32 else 0#32) = BitVec.ofNat 32 (Nat.count p (n + 1)) := by
    intro n hn
    induction n with
    | zero =>
      have : ((List.finRange 16).filter fun k : Fin 16 => decide (0 < k.val ∧ k.val ≤ 0)) = [] := by decide
      rw [this, Nat.count_succ, Nat.count_zero, Nat.zero_add, hb]; rfl
    | succ n ih =>
      have e : ((List.finRange 16).filter fun k : Fin 16 => decide (0 < k.val ∧ k.val ≤ n + 1))
          = ((List.finRange 16).filter fun k : Fin 16 => decide (0 < k.val ∧ k.val ≤ n)) ++ [⟨n + 1, hn⟩] := by
        have all : ∀ n : Fin 15, ((List.finRange 16).filter fun k : Fin 16 => decide (0 < k.val ∧ k.val ≤ n.val + 1))
            = ((List.finRange 16).filter fun k : Fin 16 => decide (0 < k.val ∧ k.val ≤ n.val)) ++ [n.succ] := by decide
        exact all ⟨n, by omega⟩
      rw [e, List.foldl_append, ih (by omega), Nat.count_succ p (n + 1), BitVec.ofNat_add, hb]
      rfl
  rw [hs]
  exact hf (x 0).val (x 0).isLt

/-- The `k`-th place below `N` where `p` holds. -/
theorem exists_enum (p : ℕ → Prop) [DecidablePred p] (N : ℕ) :
    ∃ f : ℕ → ℕ, ∀ k < Nat.count p N, p (f k) ∧ f k < N ∧ Nat.count p (f k) = k := by
  have : ∀ k, ∃ e, k < Nat.count p N → p e ∧ e < N ∧ Nat.count p e = k := by
    intro k
    induction N with
    | zero => exact ⟨0, fun h => absurd h (by simp)⟩
    | succ N ih =>
      obtain ⟨e, he⟩ := ih
      by_cases hk : k < Nat.count p N
      · obtain ⟨h1, h2, h3⟩ := he hk
        exact ⟨e, fun _ => ⟨h1, by omega, h3⟩⟩
      · refine ⟨N, fun h => ?_⟩
        rw [Nat.count_succ] at h
        by_cases hp : p N
        · rw [if_pos hp] at h
          exact ⟨hp, by omega, by omega⟩
        · rw [if_neg hp] at h; omega
  exact ⟨fun k => (this k).choose, fun k hk => (this k).choose_spec hk⟩

/-- One step of compacting the places where `p` holds: sixteen lanes from place `b` on, the set ones stored in order
    from word `Nat.count p b` of the list on. -/
theorem compact {F : FTy → Type} [FloatOps F] {n : ℕ} (p : ℕ → Prop) [DecidablePred p] (b : ℕ) (cw : BitVec 32)
    (hcw : cw = BitVec.ofNat 32 (Nat.count p b)) (hb : b + 16 ≤ 16384) (hn : 16384 ≤ n)
    (m : IVec V16 1) (hm : ∀ x : V16.Idx, m x = 1 ↔ p (b + (x 0).val)) (ix : IVec V16 32)
    (hix : ix = select m (subi (addi (broadcast V16 cw) (scan .sum (select m (broadcast V16 1#32) (broadcast V16 0#32)))) (broadcast V16 1#32)) (broadcast V16 0#32)) :
    (∀ x, m x = 1 → (ix x).toNat = Nat.count p (b + (x 0).val)) ∧ (∀ x, (ix x).toNat < n) ∧
    (∀ (f : Vec F ⟨1, ![n]⟩ .i32) (v : Vec F V16 .i32) (h : ∀ a x, ((![ix] : Fin 1 → IVec V16 32) a x).toNat < (⟨1, ![n]⟩ : Shape).size a),
      (∀ z : (⟨1, ![n]⟩ : Shape).Idx, (z 0).val < Nat.count p b → storeIdx f ![ix] v m false h z = f z) ∧
      (∀ (z : (⟨1, ![n]⟩ : Shape).Idx) (x : V16.Idx), p (b + (x 0).val) → (z 0).val = Nat.count p (b + (x 0).val) →
        storeIdx f ![ix] v m false h z = v x)) ∧
    cw + (scan .sum (select m (broadcast V16 1#32) (broadcast V16 0#32)) (ln 15)) = BitVec.ofNat 32 (Nat.count p (b + 16)) := by
  have hsc := scan_count m (fun k => p (b + k)) hm
  have hadd : ∀ l, Nat.count p (b + l) = Nat.count p b + Nat.count (fun k => p (b + k)) l := fun l => Nat.count_add p b l
  have hle : ∀ l, Nat.count p l ≤ l := fun l => Nat.count_le p
  have h1 : ∀ x, m x = 1 → (ix x).toNat = Nat.count p (b + (x 0).val) := by
    intro x hx
    have hx16 : (x 0).val < 16 := (x 0).isLt
    have hs : Nat.count p (b + ((x 0).val + 1)) = Nat.count p (b + (x 0).val) + 1 := by
      rw [← Nat.add_assoc, Nat.count_succ, if_pos ((hm x).mp hx)]
    have h2 := hadd ((x 0).val + 1)
    have h3 := hle (b + (x 0).val)
    subst hix
    simp only [select, Scalar.select, hx, if_true, subi, addi, IntOp.subi, IntOp.addi, broadcast]
    rw [hsc x, hcw, ← BitVec.ofNat_add, ← h2, hs]
    rw [BitVec.toNat_sub]
    simp only [BitVec.toNat_ofNat]
    omega
  have h2 : ∀ x, (ix x).toNat < n := by
    intro x
    by_cases hx : m x = 1
    · rw [h1 x hx]
      have := hle (b + (x 0).val)
      have hx16 : (x 0).val < 16 := (x 0).isLt
      omega
    · subst hix
      simp only [select, Scalar.select, hx, if_false, broadcast]
      show 0 < n
      omega
  refine ⟨h1, h2, fun f v h => ⟨fun z hz => ?_, fun z x hpx hz => ?_⟩, ?_⟩
  · refine storeIdx_miss f ![ix] v m h z fun x hx hh => ?_
    have e : (z 0).val = (ix x).toNat := hh 0
    rw [h1 x hx] at e
    have := Nat.count_monotone p (show b ≤ b + (x 0).val by omega)
    omega
  · refine storeIdx_hit f ![ix] v m h z x ((hm x).mpr hpx) (fun a => ?_) fun y hy hh => ?_
    · match a with
      | 0 => exact hz.trans (h1 x ((hm x).mpr hpx)).symm
    · have e : (z 0).val = (ix y).toNat := hh 0
      rw [h1 y hy, hz] at e
      have := Nat.count_injective hpx ((hm y).mp hy) e
      have e2 : y 0 = x 0 := Fin.ext (by omega)
      rw [← ln_nm y, ← ln_nm x, show nm y = nm x from e2]
  · rw [hsc (ln 15), hcw, ← BitVec.ofNat_add]
    rw [show ((ln 15) 0).val + 1 = 16 from rfl, ← hadd]

/-! ## Ranking by counting -/

section Rank

variable (key : Fin 16 → ℕ)

/-- Lane `k` comes before lane `l`: the smaller key, and of equal keys the lower lane. -/
def Before (k l : Fin 16) : Prop := key k < key l ∨ (key k = key l ∧ k.val < l.val)

instance (k l : Fin 16) : Decidable (Before key k l) := by unfold Before; infer_instance

/-- How many lanes come before `l`. -/
def rank (l : Fin 16) : ℕ := (Finset.univ.filter fun k => Before key k l).card

theorem before_trans {a b c : Fin 16} (h : Before key a b) (h' : Before key b c) : Before key a c := by
  unfold Before at *; omega
theorem before_irrefl (a : Fin 16) : ¬ Before key a a := by unfold Before; omega
theorem before_total {a b : Fin 16} (h : a ≠ b) : Before key a b ∨ Before key b a := by
  have : a.val ≠ b.val := fun e => h (Fin.ext e)
  unfold Before; omega

theorem rank_lt_of_before {a b : Fin 16} (h : Before key a b) : rank key a < rank key b := by
  refine Finset.card_lt_card ⟨fun k hk => ?_, fun hh => ?_⟩
  · simp only [Finset.mem_filter, Finset.mem_univ, true_and] at hk ⊢
    exact before_trans key hk h
  · have : a ∈ Finset.univ.filter fun k => Before key k a := hh (by simp [h])
    simp only [Finset.mem_filter, Finset.mem_univ, true_and] at this
    exact before_irrefl key a this

theorem rank_lt (l : Fin 16) : rank key l < 16 := by
  have : rank key l < (Finset.univ : Finset (Fin 16)).card := by
    refine Finset.card_lt_card ⟨Finset.filter_subset _ _, fun hh => ?_⟩
    have : l ∈ Finset.univ.filter fun k => Before key k l := hh (Finset.mem_univ l)
    simp only [Finset.mem_filter, Finset.mem_univ, true_and] at this
    exact before_irrefl key l this
  simpa using this

theorem rank_inj {a b : Fin 16} (h : rank key a = rank key b) : a = b := by
  by_contra hne
  rcases before_total key hne with hh | hh
  · have := rank_lt_of_before key hh; omega
  · have := rank_lt_of_before key hh; omega

theorem before_of_rank_lt {a b : Fin 16} (h : rank key a < rank key b) : Before key a b := by
  have hne : a ≠ b := by rintro rfl; omega
  rcases before_total key hne with hh | hh
  · exact hh
  · have := rank_lt_of_before key hh; omega

theorem rank_surj (i : ℕ) (hi : i < 16) : ∃ l, rank key l = i := by
  have hinj : Function.Injective fun l : Fin 16 => (⟨rank key l, rank_lt key l⟩ : Fin 16) := by
    intro a b h
    exact rank_inj key (congrArg Fin.val h)
  obtain ⟨l, hl⟩ := (Finite.injective_iff_surjective.mp hinj) ⟨i, hi⟩
  exact ⟨l, congrArg Fin.val hl⟩

/-- Counting the lanes one by one. -/
theorem count_before (l : Fin 16) :
    Nat.count (fun k => ∃ h : k < 16, Before key ⟨k, h⟩ l) 16 = rank key l := by
  rw [Nat.count_eq_card_filter_range, rank]
  refine (Finset.card_bij (fun (k : Fin 16) _ => k.val) ?_ ?_ ?_).symm
  · intro a ha
    simp only [Finset.mem_filter, Finset.mem_univ, true_and] at ha
    simp only [Finset.mem_filter, Finset.mem_range]
    exact ⟨a.isLt, a.isLt, ha⟩
  · intro a _ b _ h; exact Fin.ext h
  · intro b hb
    simp only [Finset.mem_filter, Finset.mem_range] at hb
    obtain ⟨h, h', h''⟩ := hb
    exact ⟨⟨b, h⟩, by simpa using h'', rfl⟩

end Rank

end Cert.Proof.Lanes

end
-- ==== Proof.Claim.lean ====
/-
  One step of the claim: sixteen packed entries are ordered by counting, the last entry of each row among them writes its
  number at the row's word. After it each row's word holds the number of the last entry so far that names the row.
-/
module

public import proofs.«01_k».proof.Proof.Lanes

@[expose] public section

noncomputable section

namespace Cert.Proof.Lanes

open Idealize.ShloMosaic

/-- The packed word of row `r` and entry `e`. -/
def pack (r e : ℕ) : BitVec 32 := BitVec.ofNat 32 (r * 16384 + e)

theorem pack_toNat {r e : ℕ} (hr : r < 3125) (he : e < 16384) : (pack r e).toNat = r * 16384 + e := by
  unfold pack; rw [BitVec.toNat_ofNat]; omega

theorem pack_row {r e : ℕ} (hr : r < 3125) (he : e < 16384) : (pack r e >>> 14).toNat = r := by
  rw [BitVec.toNat_ushiftRight, pack_toNat hr he, Nat.shiftRight_eq_div_pow]; omega

theorem and_low (v : BitVec 32) : (v &&& 16383#32).toNat = v.toNat % 16384 := by
  rw [BitVec.toNat_and]
  exact Nat.and_two_pow_sub_one_eq_mod v.toNat 14

theorem pack_entry {r e : ℕ} (hr : r < 3125) (he : e < 16384) : pack r e &&& 16383#32 = BitVec.ofNat 32 e := by
  apply BitVec.eq_of_toNat_eq
  rw [and_low, pack_toNat hr he, BitVec.toNat_ofNat]; omega

section

variable (rw' pe : ℕ → ℕ) (cnt : ℕ)

/-- Entry `k` is the last below `n` of its row. -/
def IsLast (n k : ℕ) : Prop := k < n ∧ ∀ k', k < k' → k' < n → rw' k' ≠ rw' k

/-- What a list of entries is: rows in range, numbers in range and rising. -/
structure Entries : Prop where
  row : ∀ k < cnt, rw' k < 3125
  num : ∀ k < cnt, pe k < 16384
  mono : ∀ k k', k < k' → k' < cnt → pe k < pe k'

/-- The claim so far: each row's word holds the number of the row's last entry below `n`. -/
def Claimed {F : FTy → Type} (n : ℕ) (f : Vec F ⟨1, ![3141]⟩ .i32) : Prop :=
  ∀ k, IsLast rw' (min n cnt) k → ∀ z : (⟨1, ![3141]⟩ : Shape).Idx, (z 0).val = rw' k → f z = BitVec.ofNat 32 (pe k)

variable {rw' pe cnt}

/-- The sixteen packed words of the entries from `b` on, the places past the list's end at the word past every other. -/
def Chunk (rw' pe : ℕ → ℕ) (cnt b : ℕ) (pk : IVec V16 32) : Prop :=
  ∀ x : V16.Idx, pk x = if b + (x 0).val < cnt then pack (rw' (b + (x 0).val)) (pe (b + (x 0).val)) else 2147483647#32

variable (hE : Entries rw' pe cnt) {b : ℕ} {pk : IVec V16 32} (hpk : Chunk rw' pe cnt b pk)

/-- A lane's word as a number. -/
abbrev keyOf (pk : IVec V16 32) : Fin 16 → ℕ := fun l => (pk (ln l)).toNat

include hE hpk in
theorem key_valid {l : Fin 16} (h : b + l.val < cnt) :
    keyOf pk l = rw' (b + l.val) * 16384 + pe (b + l.val) := by
  have := hpk (ln l)
  rw [show ((ln l) 0).val = l.val from rfl, if_pos h] at this
  unfold keyOf
  rw [this, pack_toNat (hE.row _ h) (hE.num _ h)]

include hpk in
theorem key_past {l : Fin 16} (h : ¬ b + l.val < cnt) : keyOf pk l = 2147483647 := by
  have := hpk (ln l)
  rw [show ((ln l) 0).val = l.val from rfl, if_neg h] at this
  unfold keyOf
  rw [this]; rfl

include hE hpk in
/-- Lane `l` wins — its word is not the one past every other, and the word ranked next is of another row or there is
    none — exactly when it is an entry's, the last of its row among the sixteen. -/
theorem wins_iff (l : Fin 16) :
    (keyOf pk l ≠ 2147483647 ∧ (rank (keyOf pk) l = 15 ∨ ∀ l'', rank (keyOf pk) l'' = rank (keyOf pk) l + 1 → keyOf pk l / 16384 ≠ keyOf pk l'' / 16384))
      ↔ (b + l.val < cnt ∧ ∀ l' : Fin 16, l.val < l'.val → b + l'.val < cnt → rw' (b + l'.val) ≠ rw' (b + l.val)) := by
  constructor
  · rintro ⟨hk, hn⟩
    have hv : b + l.val < cnt := by
      by_contra h; exact hk (key_past hpk h)
    refine ⟨hv, fun l' hl' hv' he => ?_⟩
    have k1 := key_valid hE hpk hv
    have k2 := key_valid hE hpk hv'
    have hm := hE.mono _ _ (show b + l.val < b + l'.val by omega) hv'
    have hb : Before (keyOf pk) l l' := .inl (by rw [k1, k2, he]; omega)
    have hr := rank_lt_of_before _ hb
    have hr' := rank_lt (keyOf pk) l'
    rcases hn with hn | hn
    · omega
    · obtain ⟨l'', hl''⟩ := rank_surj (keyOf pk) (rank (keyOf pk) l + 1) (by omega)
      have h1 : keyOf pk l ≤ keyOf pk l'' := by
        have := before_of_rank_lt (keyOf pk) (show rank (keyOf pk) l < rank (keyOf pk) l'' by omega)
        rcases this with h | h <;> omega
      have h2 : keyOf pk l'' ≤ keyOf pk l' := by
        rcases Nat.lt_or_ge (rank (keyOf pk) l'') (rank (keyOf pk) l') with h | h
        · rcases before_of_rank_lt (keyOf pk) h with h | h <;> omega
        · have : l'' = l' := rank_inj (keyOf pk) (by omega)
          rw [this]
      have := hE.num _ hv
      have := hE.num _ hv'
      apply hn l'' hl''
      rw [he] at k2
      omega
  · rintro ⟨hv, hl⟩
    have k1 := key_valid hE hpk hv
    have r1 := hE.row _ hv
    have e1 := hE.num _ hv
    refine ⟨by omega, ?_⟩
    by_cases h15 : rank (keyOf pk) l = 15
    · exact .inl h15
    · refine .inr fun l'' hl'' he => ?_
      have hb := before_of_rank_lt (keyOf pk) (show rank (keyOf pk) l < rank (keyOf pk) l'' by omega)
      have hv' : b + l''.val < cnt := by
        by_contra h
        have := key_past hpk h
        omega
      have k2 := key_valid hE hpk hv'
      have e2 := hE.num _ hv'
      have hrow : rw' (b + l''.val) = rw' (b + l.val) := by omega
      rw [hrow] at k2
      rcases Nat.lt_trichotomy l.val l''.val with h | h | h
      · exact hl l'' h hv' hrow
      · have : l = l'' := Fin.ext h
        subst this; omega
      · have := hE.mono _ _ (show b + l''.val < b + l.val by omega) hv
        rcases hb with hb | hb <;> omega

include hE hpk in
/-- The step, over the words the kernel computes. -/
theorem claim_step {F : FTy → Type} [FloatOps F] (rk : IVec V16 32)
    (hrk : ∀ x : V16.Idx, rk x = BitVec.ofNat 32 (rank (keyOf pk) (x 0)))
    (hin : ∀ a x, ((![rk] : Fin 1 → IVec V16 32) a x).toNat < V16.size a)
    (f16 : Vec F V16 .i32) (sk : Vec F V16 .i32) (hsk : sk = storeIdx f16 ![rk] pk (fun _ => 1#1) false hin)
    (grp nxt : IVec V16 32) (hg : ∀ x, grp x = sk x >>> 14)
    (hnx : ∀ x y : V16.Idx, (y 0).val = min ((x 0).val + 1) 15 → nxt x = grp y)
    (win : IVec V16 1) (hw : ∀ x : V16.Idx, win x = 1 ↔ (grp x ≠ nxt x ∨ (x 0).val = 15) ∧ sk x ≠ 2147483647#32)
    (wi : IVec V16 32) (hwi : wi = select win grp (broadcast V16 0#32))
    (ev : IVec V16 32) (hev : ∀ x, ev x = sk x &&& 16383#32) :
    (∀ x, (wi x).toNat < 3141) ∧
    ∀ (f : Vec F ⟨1, ![3141]⟩ .i32) (h : ∀ a x, ((![wi] : Fin 1 → IVec V16 32) a x).toNat < (⟨1, ![3141]⟩ : Shape).size a),
      Claimed rw' pe cnt b f → Claimed rw' pe cnt (b + 16) (storeIdx f ![wi] ev win false h) := by
  -- the word ranked `i`-th
  have hs : ∀ l : Fin 16, sk (ln ⟨rank (keyOf pk) l, rank_lt _ l⟩) = pk (ln l) := by
    intro l
    subst hsk
    have hR : ∀ l : Fin 16, (rk (ln l)).toNat = rank (keyOf pk) l := by
      intro l
      rw [hrk]
      have := rank_lt (keyOf pk) l
      rw [show ((ln l) 0) = l from rfl, BitVec.toNat_ofNat]; omega
    refine storeIdx_hit f16 ![rk] pk _ hin _ (ln l) rfl (fun a => ?_) fun y _ hy => ?_
    · match a with
      | 0 => exact (hR l).symm
    · have e : rank (keyOf pk) l = (rk y).toNat := hy 0
      rw [← ln_nm y, hR] at e
      rw [← ln_nm y, rank_inj _ e]
  have hgr : ∀ l : Fin 16, (grp (ln ⟨rank (keyOf pk) l, rank_lt _ l⟩)).toNat = keyOf pk l / 16384 := by
    intro l
    rw [hg, hs, BitVec.toNat_ushiftRight, Nat.shiftRight_eq_div_pow]
  have hwl : ∀ l : Fin 16, win (ln ⟨rank (keyOf pk) l, rank_lt _ l⟩) = 1
      ↔ (b + l.val < cnt ∧ ∀ l' : Fin 16, l.val < l'.val → b + l'.val < cnt → rw' (b + l'.val) ≠ rw' (b + l.val)) := by
    intro l
    rw [← wins_iff hE hpk l, hw]
    have hr := rank_lt (keyOf pk) l
    rw [show ((ln ⟨rank (keyOf pk) l, rank_lt _ l⟩) 0).val = rank (keyOf pk) l from rfl, hs]
    constructor
    · rintro ⟨h1, h2⟩
      refine ⟨fun h => h2 (BitVec.eq_of_toNat_eq h), ?_⟩
      rcases h1 with h1 | h1
      · by_cases h15 : rank (keyOf pk) l = 15
        · exact .inl h15
        · refine .inr fun l'' hl'' hh => h1 ?_
          rw [hnx (ln ⟨rank (keyOf pk) l, rank_lt _ l⟩) (ln ⟨rank (keyOf pk) l'', rank_lt _ l''⟩) (show rank (keyOf pk) l'' = min (rank (keyOf pk) l + 1) 15 by omega)]
          apply BitVec.eq_of_toNat_eq
          rw [hgr, hgr]; exact hh
      · exact .inl h1
    · rintro ⟨h2, h1⟩
      refine ⟨?_, fun h => h2 (show keyOf pk l = 2147483647 by unfold keyOf; rw [h]; rfl)⟩
      by_cases h15 : rank (keyOf pk) l = 15
      · exact .inr h15
      · left
        rcases h1 with h1 | h1
        · exact absurd h1 h15
        obtain ⟨l'', hl''⟩ := rank_surj (keyOf pk) (rank (keyOf pk) l + 1) (by omega)
        intro hh
        apply h1 l'' hl''
        rw [hnx (ln ⟨rank (keyOf pk) l, rank_lt _ l⟩) (ln ⟨rank (keyOf pk) l'', rank_lt _ l''⟩) (show rank (keyOf pk) l'' = min (rank (keyOf pk) l + 1) 15 by omega)] at hh
        have := congrArg BitVec.toNat hh
        rw [hgr, hgr] at this; exact this
  have hx : ∀ x : V16.Idx, ∃ l : Fin 16, x = ln ⟨rank (keyOf pk) l, rank_lt _ l⟩ := by
    intro x
    obtain ⟨l, hl⟩ := rank_surj (keyOf pk) (x 0).val (x 0).isLt
    refine ⟨l, ?_⟩
    rw [← ln_nm x]
    exact congrArg ln (Fin.ext hl.symm)
  have hwn : ∀ l : Fin 16, win (ln ⟨rank (keyOf pk) l, rank_lt _ l⟩) = 1 →
      (wi (ln ⟨rank (keyOf pk) l, rank_lt _ l⟩)).toNat = rw' (b + l.val) := by
    intro l hl
    have hv := ((hwl l).mp hl).1
    subst hwi
    simp only [select, Scalar.select, hl, if_true]
    rw [hgr, key_valid hE hpk hv]
    have := hE.num _ hv
    omega
  refine ⟨fun x => ?_, fun f h hf => ?_⟩
  · by_cases hm : win x = 1
    · obtain ⟨l, rfl⟩ := hx x
      rw [hwn l hm]
      have := hE.row _ ((hwl l).mp hm).1
      omega
    · subst hwi
      simp only [select, Scalar.select, hm, if_false, broadcast]
      decide
  · intro k hk z hz
    obtain ⟨hkn, hkl⟩ := hk
    by_cases hkb : k < b
    · rw [storeIdx_miss f ![wi] ev win h z fun x hm hh => ?_]
      · exact hf k ⟨by omega, fun k' h1 h2 => hkl k' h1 (by omega)⟩ z hz
      · obtain ⟨l, rfl⟩ := hx x
        have e : (z 0).val = _ := hh 0
        have hv := ((hwl l).mp hm).1
        have e2 := hwn l hm
        exact hkl (b + l.val) (by omega) (by omega) (by rw [← e2, ← hz, e]; rfl)
    · obtain ⟨l, hl⟩ : ∃ l : Fin 16, k = b + l.val := ⟨⟨k - b, by omega⟩, by simp; omega⟩
      subst hl
      have hwin := (hwl l).mpr ⟨by omega, fun l' h1 h2 => hkl _ (by omega) (by omega)⟩
      rw [storeIdx_hit f ![wi] ev win h z (ln ⟨rank (keyOf pk) l, rank_lt _ l⟩) hwin (fun a => ?_) fun y hy hh => ?_]
      · have hv : b + l.val < cnt := by omega
        rw [hev, hs, hpk, if_pos (show b + ((ln l) 0).val < cnt from hv)]
        exact pack_entry (hE.row _ hv) (hE.num _ hv)
      · match a with
        | 0 => exact hz.trans (hwn l hwin).symm
      · obtain ⟨l', rfl⟩ := hx y
        have e : (z 0).val = _ := hh 0
        have e2 := hwn l' hy
        have e3 : rw' (b + l'.val) = rw' (b + l.val) := by rw [← e2, ← hz, e]; rfl
        obtain ⟨v1, w1⟩ := (hwl l').mp hy
        have : l' = l := by
          rcases Nat.lt_trichotomy l.val l'.val with hlt | hlt | hlt
          · exact absurd e3 (hkl _ (by omega) (by omega))
          · exact Fin.ext hlt.symm
          · exact absurd e3.symm (w1 l hlt (by omega))
        rw [this]

end

end Cert.Proof.Lanes

end
-- ==== Proof.Trips.lean ====
/-
  The counted loops whose bounds come from a count the kernel made: their trips and the places they load from.
-/
module

public import Idealize.ShloMosaic.Lib.Affine
public import Idealize.ShloMosaic.Lib.WordArith
public import proofs.«01_k».proof.Proof.Gen.KernelIdeal.Skeleton

@[expose] public section

noncomputable section

namespace Cert.Proof.Trips

open Idealize.ShloMosaic Idealize.ShloMosaic.Affine
open Cert.KernelIdeal

/-- A number below 2 ^ 31 as a word reads itself. -/
theorem lit (n : ℕ) (h : n < 2 ^ 31 := by decide) : IsInt (BitVec.ofNat 32 n) (n : Int) := Affine.ofNat n ⟨rfl, h⟩

/-- The count rounded up to whole sixteens, as the kernel divides it. -/
abbrev chunkW (v6 : BitVec 32) : BitVec 32 :=
  let v7 : BitVec 32 := Scalar.addi v6 15#32
  let v13 : BitVec 32 := Scalar.subi (Scalar.extui (Scalar.cmpi .sgt v7 0#32)) (Scalar.extui (Scalar.cmpi .slt v7 0#32))
  let v18 : BitVec 32 := Scalar.subi (Scalar.extui (Scalar.cmpi .sgt 16#32 0#32)) (Scalar.extui (Scalar.cmpi .slt 16#32 0#32))
  let v22 : BitVec 1 := Scalar.andi (Scalar.cmpi .ne v13 v18) (Scalar.cmpi .ne (Scalar.remsi v7 16#32) 0#32)
  Scalar.subi (Scalar.select v22 (Scalar.subi (Scalar.divsi v7 16#32) 1#32) (Scalar.divsi v7 16#32)) 0#32

/-- A loop from zero to a word, in ones, as the kernel spells its bound; and the loop of what is left of it. -/
abbrev upTo (x : BitVec 32) : Scf.Loop 32 := ⟨0#32, Scalar.addi 0#32 (Scalar.muli (Scalar.divsi x 1#32) 1#32), 1#32⟩
abbrev leftOf (x : BitVec 32) : Scf.Loop 32 :=
  ⟨Scalar.addi 0#32 (Scalar.muli (Scalar.divsi x 1#32) 1#32), Scalar.addi 0#32 x, 1#32⟩

theorem t2_eq (v6 : BitVec 32) : k2_t2_loop v6 = upTo (chunkW v6) := rfl
theorem t4_eq (v6 : BitVec 32) : k2_t4_loop v6 = leftOf (chunkW v6) := rfl
theorem t6_eq (v6 : BitVec 32) : k2_t6_loop v6 = upTo (chunkW v6) := rfl
theorem t7_eq (v6 : BitVec 32) : k2_t7_loop v6 = leftOf (chunkW v6) := rfl
theorem t8_eq (v : BitVec 32) : k2_t8_loop v = upTo (Scalar.subi v 0#32) := rfl
theorem t9_eq (v : BitVec 32) : k2_t9_loop v = leftOf (Scalar.subi v 0#32) := rfl
theorem t10_eq (v : BitVec 32) : k2_t10_loop v = upTo (Scalar.subi v 0#32) := rfl
theorem t11_eq (v : BitVec 32) : k2_t11_loop v = leftOf (Scalar.subi v 0#32) := rfl

theorem leftOf_lb_eq (x : BitVec 32) : (leftOf x).lb = (leftOf x).ub := by
  show Scalar.addi 0#32 (Scalar.muli (Scalar.divsi x 1#32) 1#32) = Scalar.addi 0#32 x
  simp only [Scalar.muli, Scalar.divsi, IntOp.muli, WordArith.divsi_one, BitVec.mul_one]

theorem leftOf_trips (x : BitVec 32) : (leftOf x).trips = 0 := by
  show Scf.trips (leftOf x).lb (leftOf x).ub 1#32 = 0
  rw [leftOf_lb_eq]
  exact trips_eq (word _) (word _) (lit 1) 0 ⟨by decide, by omega⟩

theorem leftOf_ok (x : BitVec 32) : (leftOf x).OK := by
  show Scf.OK (leftOf x).lb (leftOf x).ub 1#32
  rw [leftOf_lb_eq]
  have := word_range (leftOf x).ub
  exact Affine.ok (word _) (word _) (lit 1) ⟨by decide, by omega⟩

theorem upTo_ub {x : BitVec 32} {n : ℕ} (hx : IsInt x (n : Int)) (hn : n < 2 ^ 31) : IsInt (upTo x).ub (n : Int) := by
  have hd := Affine.divsi_one hx (lit 1) (e := (n : Int)) ⟨rfl, rfl⟩
  have hm := Affine.muli hd (lit 1) (e := (n : Int)) ⟨by simp, by omega, by omega⟩
  exact Affine.addi (lit 0) hm ⟨by simp, by omega, by omega⟩

theorem upTo_trips {x : BitVec 32} {n : ℕ} (hx : IsInt x (n : Int)) (hn : n < 2 ^ 31) : (upTo x).trips = n :=
  trips_eq (lit 0) (upTo_ub hx hn) (lit 1) _ ⟨by decide, by simp⟩

theorem upTo_ok {x : BitVec 32} {n : ℕ} (hx : IsInt x (n : Int)) (hn : n < 2 ^ 30) : (upTo x).OK :=
  Affine.ok (lit 0) (upTo_ub hx (by omega)) (lit 1) ⟨by decide, by omega⟩

theorem chunkW_isInt {n : ℕ} (hn : n ≤ 16384) : IsInt (chunkW (BitVec.ofNat 32 n)) (((n + 15) / 16 : ℕ) : Int) := by
  have h7 : IsInt (Scalar.addi (BitVec.ofNat 32 n) 15#32) ((n : Int) + 15) :=
    Affine.addi (lit n (by omega)) (lit 15) ⟨by simp, by omega, by omega⟩
  have h13 := Affine.subi (extui_holds (sgt_holds h7 (lit 0) (by omega)) rfl) (extui_fails (slt_fails h7 (lit 0) (by omega)) rfl)
    (e := 1) (by decide)
  have h18 := Affine.subi (extui_holds (sgt_holds (lit 16) (lit 0) (by decide)) rfl) (extui_fails (slt_fails (lit 16) (lit 0) (by decide)) rfl)
    (e := 1) (by decide)
  have hf := andi_fails_left (ne_fails h13 h18 rfl)
    (cmpi_term .ne (word (Scalar.remsi (Scalar.addi (BitVec.ofNat 32 n) 15#32) 16#32)) (word 0#32))
  have hd := Affine.divsi h7 (lit 16) (e := (((n + 15) / 16 : ℕ) : Int)) ⟨by push_cast; rfl, by omega, by decide⟩
  have hd1 := Affine.subi hd (lit 1) (e := (((n + 15) / 16 : ℕ) : Int) - 1) ⟨rfl, by omega, by omega⟩
  have hs := select_fails hf hd1 hd (e := (((n + 15) / 16 : ℕ) : Int)) rfl
  exact Affine.subi hs (lit 0) ⟨by simp, by omega, by omega⟩

theorem countW_isInt {n : ℕ} (hn : n ≤ 16384) : IsInt (Scalar.subi (BitVec.ofNat 32 n) 0#32) (n : Int) :=
  Affine.subi (lit n (by omega)) (lit 0) ⟨by simp, by omega, by omega⟩

section
variable {n : ℕ} (hn : n ≤ 16384)
include hn

theorem t2_trips : (k2_t2_loop (BitVec.ofNat 32 n)).trips = (n + 15) / 16 := by
  rw [t2_eq]; exact upTo_trips (chunkW_isInt hn) (by omega)
theorem t6_trips : (k2_t6_loop (BitVec.ofNat 32 n)).trips = (n + 15) / 16 := by
  rw [t6_eq]; exact upTo_trips (chunkW_isInt hn) (by omega)
theorem t8_trips : (k2_t8_loop (BitVec.ofNat 32 n)).trips = n := by
  rw [t8_eq]; exact upTo_trips (countW_isInt hn) (by omega)
theorem t10_trips : (k2_t10_loop (BitVec.ofNat 32 n)).trips = n := by
  rw [t10_eq]; exact upTo_trips (countW_isInt hn) (by omega)
end

theorem t4_trips (v : BitVec 32) : (k2_t4_loop v).trips = 0 := leftOf_trips (chunkW v)
theorem t7_trips (v : BitVec 32) : (k2_t7_loop v).trips = 0 := leftOf_trips (chunkW v)
theorem t9_trips (v : BitVec 32) : (k2_t9_loop v).trips = 0 := leftOf_trips (Scalar.subi v 0#32)
theorem t11_trips (v : BitVec 32) : (k2_t11_loop v).trips = 0 := leftOf_trips (Scalar.subi v 0#32)
theorem t1_trips : k2_t1_loop.trips = 1024 := trips_eq (lit 0) (lit 1024) (lit 1) 1024 ⟨by decide, by decide⟩
theorem t3_trips : k2_t3_loop.trips = 16 := trips_eq (lit 0) (lit 16) (lit 1) 16 ⟨by decide, by decide⟩

/-- The induction variable of a loop from zero in ones. -/
theorem iv_nat (t : ℕ) : Scf.iv 0#32 1#32 t = BitVec.ofNat 32 t := by
  unfold Scf.iv; rw [BitVec.zero_add, BitVec.mul_one]

theorem sixteen_toNat {t : ℕ} (ht : t < 2 ^ 20) : (Scalar.indexCast (Scalar.muli (Scf.iv 0#32 1#32 t) 16#32)).toNat = 16 * t := by
  rw [iv_nat]
  show (BitVec.ofNat 32 t * 16#32).toNat = 16 * t
  rw [BitVec.toNat_mul, BitVec.toNat_ofNat, BitVec.toNat_ofNat]; omega

theorem one_toNat {t : ℕ} (ht : t < 2 ^ 20) : (Scalar.indexCast (Scf.iv 0#32 1#32 t)).toNat = t := by
  rw [iv_nat]
  show (BitVec.ofNat 32 t).toNat = t
  rw [BitVec.toNat_ofNat]; omega

theorem off2 {n : ℕ} (hn : n ≤ 16384) (t : Fin (k2_t2_loop (BitVec.ofNat 32 n)).trips) :
    k2_off2 (BitVec.ofNat 32 n) t = ![16 * t.val] := by
  have := lt_of_lt_of_eq t.isLt (t2_trips hn)
  exact congrArg (fun x => ![x]) (sixteen_toNat (by omega))

theorem off4 {n : ℕ} (hn : n ≤ 16384) (t : Fin (k2_t6_loop (BitVec.ofNat 32 n)).trips) :
    k2_off4 (BitVec.ofNat 32 n) t = ![16 * t.val] := by
  have := lt_of_lt_of_eq t.isLt (t6_trips hn)
  exact congrArg (fun x => ![x]) (sixteen_toNat (by omega))

theorem off6 {n : ℕ} (hn : n ≤ 16384) (t : Fin (k2_t8_loop (BitVec.ofNat 32 n)).trips) :
    k2_off6 (BitVec.ofNat 32 n) t = ![t.val] := by
  have := lt_of_lt_of_eq t.isLt (t8_trips hn)
  exact congrArg (fun x => ![x]) (one_toNat (by omega))

theorem chk2 {n : ℕ} (hn : n ≤ 16384) : k2_chk2 (BitVec.ofNat 32 n) := by
  refine ⟨?_, fun t a => ?_, leftOf_ok _, fun t => absurd (lt_of_lt_of_eq t.isLt (t4_trips _)) (Nat.not_lt_zero _), ?_, fun t a => ?_, leftOf_ok _,
    fun t => absurd (lt_of_lt_of_eq t.isLt (t7_trips _)) (Nat.not_lt_zero _)⟩
  · rw [t2_eq]; exact upTo_ok (chunkW_isInt hn) (by omega)
  · have := lt_of_lt_of_eq t.isLt (t2_trips hn)
    rw [off2 hn]
    match a with
    | 0 => show 16 * t.val + 16 ≤ 16400; omega
  · rw [t6_eq]; exact upTo_ok (chunkW_isInt hn) (by omega)
  · have := lt_of_lt_of_eq t.isLt (t6_trips hn)
    rw [off4 hn]
    match a with
    | 0 => show 16 * t.val + 16 ≤ 16400; omega

theorem chk15 {n : ℕ} (hn : n ≤ 16384) : k2_chk15 (BitVec.ofNat 32 n) := by
  refine ⟨?_, fun t a => ?_, leftOf_ok _, fun t => absurd (lt_of_lt_of_eq t.isLt (t9_trips _)) (Nat.not_lt_zero _), ?_, leftOf_ok _⟩
  · rw [t8_eq]; exact upTo_ok (countW_isInt hn) (by omega)
  · have := lt_of_lt_of_eq t.isLt (t8_trips hn)
    rw [off6 hn]
    match a with
    | 0 => show t.val + 16 ≤ 16400; omega
  · rw [t10_eq]; exact upTo_ok (countW_isInt hn) (by omega)

end Cert.Proof.Trips

end
-- ==== Proof.Words.lean ====
/-
  The words the scatter kernel computes, step by step: the scan of the index list for the tile's rows, the order of sixteen
  packed entries, the claim of each row by its last entry, and the list of the entries that kept their row.
-/
module

public import proofs.«01_k».proof.Proof.Claim
public import proofs.«01_k».proof.Proof.Trips

@[expose] public section

noncomputable section

namespace Cert.Proof.Words

open Idealize.ShloMosaic Idealize.ShloMosaic.Affine
open Cert.KernelIdeal Cert.KernelIdeal.Gen
open Cert.Proof.Lanes Cert.Proof.Trips

variable {F : FTy → Type} [FloatOps F]

/-! ## Bits and comparisons -/

theorem and_one (a b : BitVec 1) : IntOp.andi a b = 1 ↔ a = 1 ∧ b = 1 := by
  unfold IntOp.andi; revert a b; decide
theorem or_one (a b : BitVec 1) : IntOp.ori a b = 1 ↔ a = 1 ∨ b = 1 := by
  unfold IntOp.ori; revert a b; decide
theorem bool_one (b : Bool) : BitVec.ofBool b = 1 ↔ b = true := by cases b <;> decide
theorem slt_one (x y : BitVec 32) : IntOp.cmpi .slt x y = 1 ↔ x.toInt < y.toInt := by
  unfold IntOp.cmpi; rw [bool_one]; exact BitVec.slt_iff_toInt_lt
theorem sge_one (x y : BitVec 32) : IntOp.cmpi .sge x y = 1 ↔ y.toInt ≤ x.toInt := by
  unfold IntOp.cmpi; rw [bool_one]; exact BitVec.sle_iff_toInt_le
theorem sgt_one (x y : BitVec 32) : IntOp.cmpi .sgt x y = 1 ↔ y.toInt < x.toInt := by
  unfold IntOp.cmpi; rw [bool_one]; exact BitVec.slt_iff_toInt_lt
theorem eq_one (x y : BitVec 32) : IntOp.cmpi .eq x y = 1 ↔ x = y := by
  unfold IntOp.cmpi; rw [bool_one]; exact beq_iff_eq
theorem ne_one (x y : BitVec 32) : IntOp.cmpi .ne x y = 1 ↔ x ≠ y := by
  unfold IntOp.cmpi; rw [bool_one]; exact bne_iff_ne

theorem toInt_small {n : ℕ} (h : n < 2 ^ 31) : (BitVec.ofNat 32 n).toInt = n := by
  rw [BitVec.toInt_eq_toNat_cond, BitVec.toNat_ofNat]; split <;> omega
theorem toInt_nonneg {x : BitVec 32} (h : x.toNat < 2 ^ 31) : x.toInt = x.toNat := by
  rw [BitVec.toInt_eq_toNat_cond]; split <;> omega

theorem iota_eq (x : S16.Idx) : iota .scVector S16 32 [0] iota_S16_d0_w32_scVector x = BitVec.ofNat 32 (x 0).val := by
  show BitVec.ofNat 32 (0 * _ + (x 0).val) = _
  rw [Nat.zero_mul, Nat.zero_add]

/-! ## A list built by compacting -/

/-- The places below `n` where `p` holds are listed in order, each as its word. -/
def Packed (p : ℕ → Prop) [DecidablePred p] (g : ℕ → BitVec 32) (n : ℕ) (f : Vec F S16400 .i32) : Prop :=
  ∀ e < n, p e → ∀ z : S16400.Idx, (z 0).val = Nat.count p e → f z = g e

theorem packed_step (p : ℕ → Prop) [DecidablePred p] (g : ℕ → BitVec 32) (b : ℕ) (cw : BitVec 32)
    (hcw : cw = BitVec.ofNat 32 (Nat.count p b)) (hb : b + 16 ≤ 16384)
    (m : IVec S16 1) (hm : ∀ x : S16.Idx, m x = 1 ↔ p (b + (x 0).val)) (ix : IVec S16 32)
    (hix : ix = select m (subi (addi (broadcast S16 cw) (scan .sum (select m (broadcast S16 1#32) (broadcast S16 0#32)))) (broadcast S16 1#32)) (broadcast S16 0#32))
    (v : Vec F S16 .i32) (hv : ∀ x : S16.Idx, p (b + (x 0).val) → v x = g (b + (x 0).val)) :
    (∀ a x, ((![ix] : Fin 1 → IVec S16 32) a x).toNat < S16400.size a) ∧
    (∀ (f : Vec F S16400 .i32) (h : ∀ a x, ((![ix] : Fin 1 → IVec S16 32) a x).toNat < S16400.size a),
      Packed p g b f → Packed p g (b + 16) (storeIdx f ![ix] v m false h)) ∧
    cw + (scan .sum (select m (broadcast S16 1#32) (broadcast S16 0#32)) (ln 15)) = BitVec.ofNat 32 (Nat.count p (b + 16)) := by
  obtain ⟨-, h2, h3, h4⟩ := compact (F := F) (n := 16400) p b cw hcw hb (by decide) m hm ix hix
  refine ⟨fun a x => ?_, fun f h hf e he hp z hz => ?_, h4⟩
  · match a with
    | 0 => exact h2 x
  · by_cases hlt : e < b
    · have hc : Nat.count p e < Nat.count p b := by
        have h1 : Nat.count p (e + 1) ≤ Nat.count p b := Nat.count_monotone p (by omega)
        rw [Nat.count_succ, if_pos hp] at h1; omega
      rw [(h3 f v h).1 z (by omega)]
      exact hf e hlt hp z hz
    · obtain ⟨k, hk⟩ : ∃ k : Fin 16, e = b + k.val := ⟨⟨e - b, by omega⟩, by simp; omega⟩
      subst hk
      rw [(h3 f v h).2 z (ln k) hp hz]
      exact hv (ln k) hp

/-! ## The tile and its rows -/

/-- The tile's number, and its first row. -/
def tileNo (i : grid2.Coords) : ℕ := 2 * (i 1).val + (i 0).val
def lo (i : grid2.Coords) : ℕ := 3125 * tileNo i

theorem tileNo_lt (i : grid2.Coords) : tileNo i < 32 := by
  have h0 : (i 0).val < 2 := (i 0).isLt
  have h1 : (i 1).val < 16 := (i 1).isLt
  unfold tileNo; omega

theorem lo_word (i : grid2.Coords) :
    Scalar.muli (Scalar.addi (Scalar.muli (BitVec.ofNat 32 (i 1).val) 2#32) (BitVec.ofNat 32 (i 0).val)) 3125#32 = BitVec.ofNat 32 (lo i) := by
  show (BitVec.ofNat 32 (i 1).val * BitVec.ofNat 32 2 + BitVec.ofNat 32 (i 0).val) * BitVec.ofNat 32 3125 = _
  rw [← BitVec.ofNat_mul, ← BitVec.ofNat_add, ← BitVec.ofNat_mul]
  congr 1; unfold lo tileNo; ring

/-- The row entry `e` names, read signed; no row past the list. -/
def rowZ (ix : Vec F S16384 .i32) (e : ℕ) : ℤ := if h : e < 16384 then (ix (Shape.ofLane (d := ![16384]) ⟨e, h⟩) : BitVec 32).toInt else -1

/-- Entry `e` names one of the rows from `l` on. -/
def InR (ix : Vec F S16384 .i32) (l : ℕ) (e : ℕ) : Prop := (l : ℤ) ≤ rowZ ix e ∧ rowZ ix e < (l : ℤ) + 3125

instance (ix : Vec F S16384 .i32) (l : ℕ) : DecidablePred (InR ix l) := fun _ => inferInstanceAs (Decidable (_ ∧ _))

/-- Which of them. -/
def slotOf (ix : Vec F S16384 .i32) (l : ℕ) (e : ℕ) : ℕ := (rowZ ix e).toNat - l

theorem slotOf_lt {ix : Vec F S16384 .i32} {l e : ℕ} (h : InR ix l e) : slotOf ix l e < 3125 := by
  unfold InR at h; unfold slotOf; omega
theorem slotOf_row {ix : Vec F S16384 .i32} {l e : ℕ} (h : InR ix l e) : rowZ ix e = l + slotOf ix l e := by
  unfold InR at h; unfold slotOf; omega
theorem lt_of_inR {ix : Vec F S16384 .i32} {l e : ℕ} (h : InR ix l e) : e < 16384 := by
  by_contra hh
  unfold InR rowZ at h
  rw [dif_neg hh] at h; omega

/-! ## The scan -/

section
variable (i : grid2.Coords) (ix : Vec F S16384 .i32) (t : Fin k2_t1_loop.trips) (v : Vec F S16 .i32)
  (hv : ∀ (x : S16.Idx) (z : S16384.Idx), (z 0).val = 16 * t.val + (x 0).val → v x = ix z)

include hv in
theorem scan_row (x : S16.Idx) : rowZ ix (16 * t.val + (x 0).val) = (v x : BitVec 32).toInt := by
  have h1 := lt_of_lt_of_eq t.isLt t1_trips
  have h2 : (x 0).val < 16 := (x 0).isLt
  have h : 16 * t.val + (x 0).val < 16384 := by omega
  unfold rowZ
  rw [dif_pos h, hv x (Shape.ofLane (d := ![16384]) ⟨_, h⟩) rfl]

include hv in
theorem scan_hit (x : S16.Idx) : k2_pay15 i v x = 1 ↔ InR ix (lo i) (16 * t.val + (x 0).val) := by
  have hl := tileNo_lt i
  have hlo : lo i ≤ 96875 := by unfold lo; omega
  show IntOp.andi (IntOp.cmpi .sge (v x) (Scalar.muli _ _)) (IntOp.cmpi .slt (v x) (Scalar.addi (Scalar.muli _ _) 3125#32)) = 1 ↔ _
  rw [lo_word, and_one, sge_one, slt_one, ← scan_row ix t v hv x, toInt_small (by omega)]
  have : Scalar.addi (BitVec.ofNat 32 (lo i)) 3125#32 = BitVec.ofNat 32 (lo i + 3125) := by
    show BitVec.ofNat 32 _ + BitVec.ofNat 32 3125 = _
    rw [← BitVec.ofNat_add]
  rw [this, toInt_small (by omega)]
  unfold InR; push_cast; rfl

include hv in
theorem scan_word (x : S16.Idx) (h : InR ix (lo i) (16 * t.val + (x 0).val)) :
    k2_pay16 i t v x = pack (slotOf ix (lo i) (16 * t.val + (x 0).val)) (16 * t.val + (x 0).val) := by
  have hl := tileNo_lt i
  have hlo : lo i ≤ 96875 := by unfold lo; omega
  have h1 := lt_of_lt_of_eq t.isLt t1_trips
  have h2 : (x 0).val < 16 := (x 0).isLt
  have hs := slotOf_lt h
  have hr := slotOf_row h
  rw [scan_row ix t v hv x] at hr
  generalize slotOf ix (lo i) (16 * t.val + (x 0).val) = s at hs hr
  have hvx : (v x : BitVec 32) = BitVec.ofNat 32 (lo i + s) := by
    apply BitVec.eq_of_toInt_eq
    rw [hr, toInt_small (by omega)]; push_cast; rfl
  show IntOp.ori (IntOp.shli .vector (IntOp.subi (v x) (Scalar.muli _ _)) 14#32) (IntOp.addi (iota _ _ _ _ _ x) (Scalar.muli (Scf.iv 0#32 1#32 t.val) 16#32)) = _
  rw [lo_word, hvx, iota_eq, iv_nat]
  have e1 : IntOp.subi (BitVec.ofNat 32 (lo i + s)) (BitVec.ofNat 32 (lo i)) = BitVec.ofNat 32 s := by
    show _ - _ = _
    rw [Nat.add_comm, BitVec.ofNat_add, BitVec.add_sub_cancel]
  have e2 : IntOp.addi (BitVec.ofNat 32 (x 0).val) (Scalar.muli (BitVec.ofNat 32 t.val) 16#32) = BitVec.ofNat 32 (16 * t.val + (x 0).val) := by
    show BitVec.ofNat 32 _ + BitVec.ofNat 32 _ * BitVec.ofNat 32 16 = _
    rw [← BitVec.ofNat_mul, ← BitVec.ofNat_add]; congr 1; omega
  rw [e1, e2]
  generalize 16 * t.val + (x 0).val = e at *
  have he : e < 16384 := lt_of_inR h
  apply BitVec.eq_of_toNat_eq
  rw [pack_toNat hs he]
  show ((BitVec.ofNat 32 s <<< (14#32)) ||| BitVec.ofNat 32 e).toNat = _
  rw [BitVec.toNat_or]
  have e3 : (BitVec.ofNat 32 s <<< (14#32)).toNat = 2 ^ 14 * s := by
    show (BitVec.ofNat 32 s <<< 14).toNat = _
    rw [BitVec.toNat_shiftLeft, BitVec.toNat_ofNat, Nat.shiftLeft_eq]; omega
  rw [e3, BitVec.toNat_ofNat, Nat.mod_eq_of_lt (by omega), ← Nat.two_pow_add_eq_or_of_lt (by omega : e < 2 ^ 14)]
  omega

include hv in
/-- One trip of the scan. -/
theorem scan_step (cw : BitVec 32) (hcw : cw = BitVec.ofNat 32 (Nat.count (InR ix (lo i)) (16 * t.val))) :
    k2_chk1 (k2_pay18 i cw v) ∧
    (∀ (f : Vec F S16400 .i32) (h : ∀ a x, ((![k2_pay18 i cw v] : Fin 1 → IVec S16 32) a x).toNat < S16400.size a),
      Packed (InR ix (lo i)) (fun e => pack (slotOf ix (lo i) e) e) (16 * t.val) f →
      Packed (InR ix (lo i)) (fun e => pack (slotOf ix (lo i) e) e) (16 * (t.val + 1)) (storeIdx f ![k2_pay18 i cw v] (k2_pay16 i t v) (k2_pay15 i v) false h)) ∧
    Scalar.addi cw (extractAt ![0] (k2_pay19 i v) inpos_S1_p0) = BitVec.ofNat 32 (Nat.count (InR ix (lo i)) (16 * (t.val + 1))) := by
  have h1 := lt_of_lt_of_eq t.isLt t1_trips
  have := packed_step (F := F) (InR ix (lo i)) (fun e => pack (slotOf ix (lo i) e) e) (16 * t.val) cw hcw (by omega)
    (k2_pay15 i v) (scan_hit i ix t v hv) (k2_pay18 i cw v) rfl (k2_pay16 i t v) (scan_word i ix t v hv)
  rw [show 16 * (t.val + 1) = 16 * t.val + 16 by omega]
  refine ⟨this.1, this.2.1, ?_⟩
  rw [← this.2.2]
  show cw + extractAt ![0] (k2_pay19 i v) inpos_S1_p0 = _
  congr 1

end

/-! ## The entries listed -/

section
variable (ix : Vec F S16384 .i32) (l : ℕ)

/-- How many entries name the tile's rows, the entry listed at a place, and its slot. -/
def cntOf : ℕ := Nat.count (InR ix l) 16384
def entOf : ℕ → ℕ := (exists_enum (InR ix l) 16384).choose
def rwOf (k : ℕ) : ℕ := slotOf ix l (entOf ix l k)

theorem cntOf_le : cntOf ix l ≤ 16384 := Nat.count_le _

theorem entOf_spec {k : ℕ} (hk : k < cntOf ix l) :
    InR ix l (entOf ix l k) ∧ entOf ix l k < 16384 ∧ Nat.count (InR ix l) (entOf ix l k) = k :=
  (exists_enum (InR ix l) 16384).choose_spec k hk

theorem entries : Entries (rwOf ix l) (entOf ix l) (cntOf ix l) where
  row k hk := slotOf_lt (entOf_spec ix l hk).1
  num k hk := (entOf_spec ix l hk).2.1
  mono k k' hkk hk := by
    have h1 := (entOf_spec ix l (show k < cntOf ix l by omega)).2.2
    have h2 := (entOf_spec ix l hk).2.2
    by_contra hh
    have := Nat.count_monotone (InR ix l) (show entOf ix l k' ≤ entOf ix l k by omega)
    omega

/-- The packed list, by places. -/
def Listed (f : Vec F S16400 .i32) : Prop :=
  ∀ k < cntOf ix l, ∀ z : S16400.Idx, (z 0).val = k → f z = pack (rwOf ix l k) (entOf ix l k)

theorem listed_of_packed {f : Vec F S16400 .i32} (h : Packed (InR ix l) (fun e => pack (slotOf ix l e) e) 16384 f) : Listed ix l f := by
  intro k hk z hz
  obtain ⟨h1, h2, h3⟩ := entOf_spec ix l hk
  exact h _ h2 h1 z (by rw [h3, hz])

/-- Every entry naming a row of the tile is listed. -/
theorem exists_place {e : ℕ} (h : InR ix l e) : ∃ k < cntOf ix l, entOf ix l k = e := by
  have he := lt_of_inR h
  have hk : Nat.count (InR ix l) e < cntOf ix l := by
    have h1 : Nat.count (InR ix l) (e + 1) ≤ cntOf ix l := Nat.count_monotone _ (by omega)
    rw [Nat.count_succ, if_pos h] at h1; omega
  refine ⟨_, hk, ?_⟩
  obtain ⟨h1, h2, h3⟩ := entOf_spec ix l hk
  rcases Nat.lt_trichotomy (entOf ix l (Nat.count (InR ix l) e)) e with hlt | heq | hlt
  · have h4 : Nat.count (InR ix l) (entOf ix l (Nat.count (InR ix l) e) + 1) ≤ Nat.count (InR ix l) e := Nat.count_monotone _ hlt
    rw [Nat.count_succ, if_pos h1] at h4; omega
  · exact heq
  · have h4 : Nat.count (InR ix l) (e + 1) ≤ Nat.count (InR ix l) (entOf ix l (Nat.count (InR ix l) e)) := Nat.count_monotone _ hlt
    rw [Nat.count_succ, if_pos h] at h4; omega

end

end Cert.Proof.Words

end
-- ==== Proof.Steps.lean ====
/-
  The words of the claim's and of the winners' trips, over the list of entries.
-/
module

public import proofs.«01_k».proof.Proof.Words

@[expose] public section

noncomputable section

namespace Cert.Proof.Words

open Idealize.ShloMosaic Idealize.ShloMosaic.Affine
open Cert.KernelIdeal Cert.KernelIdeal.Gen
open Cert.Proof.Lanes Cert.Proof.Trips

variable {F : FTy → Type} [FloatOps F]

/-! ## Payloads at a lane -/

theorem pay20_apply (v6 : BitVec 32) (t : Fin (k2_t2_loop v6).trips) (v : Vec F S16 .i32) (x : S16.Idx) :
    k2_pay20 (F := F) v6 t v x = Scalar.select (IntOp.cmpi .slt (BitVec.ofNat 32 (x 0).val)
      (Scalar.subi v6 (Scalar.muli (Scf.iv 0#32 1#32 t.val) 16#32))) (v x) 2147483647#32 := by
  rw [← iota_eq]; rfl
theorem pay1_apply (v6 : BitVec 32) (t : Fin (k2_t6_loop v6).trips) (x : S16.Idx) :
    k2_pay1 (iota .scVector S16 32 [0] iota_S16_d0_w32_scVector) v6 0#32 t x = IntOp.cmpi .slt (BitVec.ofNat 32 (x 0).val)
      (Scalar.subi v6 (Scalar.muli (Scf.iv 0#32 1#32 t.val) 16#32)) := by
  rw [← iota_eq]; rfl
theorem pay2_apply (v4 : IVec S16 32) (v6 : BitVec 32) (t : Fin (k2_t6_loop v6).trips) (v : Vec F S16 .i32) (x : S16.Idx) :
    k2_pay2 v4 v6 0#32 t v x = Scalar.select (k2_pay1 v4 v6 0#32 t x) ((v x : BitVec 32) >>> 14) 0#32 := rfl
theorem pay3_apply (v4 : IVec S16 32) (v6 : BitVec 32) (t : Fin (k2_t6_loop v6).trips) (v w : Vec F S16 .i32) (x : S16.Idx) :
    k2_pay3 v4 v6 0#32 t v w x = IntOp.andi (k2_pay1 v4 v6 0#32 t x) (IntOp.cmpi .eq (w x) ((v x : BitVec 32) &&& 16383#32)) := rfl
theorem pay5_eq (v4 : IVec S16 32) (v6 : BitVec 32) (t : Fin (k2_t6_loop v6).trips) (cw : BitVec 32) (v w : Vec F S16 .i32) :
    k2_pay5 v4 v6 0#32 t cw v w = select (k2_pay3 v4 v6 0#32 t v w) (subi (addi (broadcast S16 cw) (scan .sum (select (k2_pay3 v4 v6 0#32 t v w)
      (broadcast S16 1#32) (broadcast S16 0#32)))) (broadcast S16 1#32)) (broadcast S16 0#32) := rfl
theorem pay6_last (v4 : IVec S16 32) (v6 : BitVec 32) (t : Fin (k2_t6_loop v6).trips) (v w : Vec F S16 .i32) :
    extractAt ![0] (k2_pay6 v4 v6 0#32 t v w) inpos_S1_p0
      = scan .sum (select (k2_pay3 v4 v6 0#32 t v w) (broadcast S16 1#32) (broadcast S16 0#32)) (ln 15) := rfl
theorem chk11_of {p : IVec S16 32} (h : ∀ x, (p x).toNat < 3141) : k2_chk11 p := fun a x => match a with | 0 => h x

/-- The lanes of a chunk that hold an entry: lane below the count left. -/
theorem lane_live {n t : ℕ} (hn : n ≤ 16384) (ht : 16 * t ≤ n + 16) (x : S16.Idx) :
    IntOp.cmpi .slt (BitVec.ofNat 32 (x 0).val) (Scalar.subi (BitVec.ofNat 32 n) (Scalar.muli (Scf.iv 0#32 1#32 t) 16#32)) = 1
      ↔ 16 * t + (x 0).val < n := by
  have h2 : (x 0).val < 16 := (x 0).isLt
  rw [slt_one, toInt_small (by omega), iv_nat]
  have : Scalar.muli (BitVec.ofNat 32 t) 16#32 = BitVec.ofNat 32 (16 * t) := by
    show BitVec.ofNat 32 _ * BitVec.ofNat 32 16 = _
    rw [← BitVec.ofNat_mul]; congr 1; omega
  rw [this]
  show _ < (BitVec.ofNat 32 n - BitVec.ofNat 32 (16 * t)).toInt ↔ _
  rw [BitVec.toInt_sub, toInt_small (by omega), toInt_small (by omega), Int.bmod_eq_of_le (by omega) (by omega)]
  omega

section
variable {ix : Vec F S16384 .i32} {l : ℕ}

/-- The chunk of a claim trip. -/
theorem chunk_of {f : Vec F S16400 .i32} (hf : Listed ix l f) (t : Fin (k2_t2_loop (BitVec.ofNat 32 (cntOf ix l))).trips)
    (v : Vec F S16 .i32) (hv : ∀ (x : S16.Idx) (z : S16400.Idx), (z 0).val = 16 * t.val + (x 0).val → v x = f z) :
    Chunk (rwOf ix l) (entOf ix l) (cntOf ix l) (16 * t.val) (k2_pay20 (F := F) (BitVec.ofNat 32 (cntOf ix l)) t v) := by
  have hn := cntOf_le ix l
  have ht := lt_of_lt_of_eq t.isLt (t2_trips hn)
  intro x
  have h2 : (x 0).val < 16 := (x 0).isLt
  rw [pay20_apply]
  have hl := lane_live hn (show 16 * t.val ≤ cntOf ix l + 16 by omega) x
  unfold Scalar.select
  by_cases h : 16 * t.val + (x 0).val < cntOf ix l
  · rw [if_pos h, if_pos (hl.mpr h), hv x (Shape.ofLane (d := ![16400]) ⟨16 * t.val + (x 0).val, by show _ < 16400; omega⟩) rfl]
    exact hf _ h _ rfl
  · rw [if_neg h, if_neg (fun hh => h (hl.mp hh))]

end

section
variable {rw' pe : ℕ → ℕ} {cnt b : ℕ} (hE : Entries rw' pe cnt)

include hE in
theorem key_lt {pk : IVec S16 32} (hpk : Chunk rw' pe cnt b pk) (j : Fin 16) : keyOf pk j < 2 ^ 31 := by
  by_cases h : b + j.val < cnt
  · have := key_valid hE hpk h
    have := hE.row _ h
    have := hE.num _ h
    omega
  · have := key_past hpk h; omega

theorem count_before_any (key : Fin 16 → ℕ) (l : Fin 16) (inst : DecidablePred fun j => ∃ h : j < 16, Before key ⟨j, h⟩ l) :
    @Nat.count (fun j => ∃ h : j < 16, Before key ⟨j, h⟩ l) inst 16 = rank key l := by
  rw [← count_before key l]
  congr

/-- How many of the first `k` lanes come before the lane. -/
def before (pk : IVec S16 32) (k : ℕ) (x : S16.Idx) : ℕ :=
  @Nat.count (fun j => ∃ h : j < 16, Before (keyOf pk) ⟨j, h⟩ (x 0)) (Classical.decPred _) k

theorem before_zero (pk : IVec S16 32) (x : S16.Idx) : before pk 0 x = 0 := by
  unfold before; exact @Nat.count_zero _ (Classical.decPred _)

theorem before_all (pk : IVec S16 32) (x : S16.Idx) : before pk 16 x = rank (keyOf pk) (x 0) := by
  unfold before
  exact count_before_any (keyOf pk) (x 0) _

include hE in
/-- One trip of the order's count. -/
theorem rank_step (v6 : BitVec 32) (t : Fin (k2_t2_loop v6).trips) (v : Vec F S16 .i32)
    (hpk : Chunk rw' pe cnt b (k2_pay20 (F := F) v6 t v)) (k : Fin k2_t3_loop.trips) (acc : IVec S16 32)
    (hacc : ∀ x, acc x = BitVec.ofNat 32 (before (k2_pay20 (F := F) v6 t v) k.val x))
    (w : Vec F S16 .i32) (hw : ∀ x z : S16.Idx, (z 0).val = k.val → w x = k2_pay20 (F := F) v6 t v z) (x : S16.Idx) :
    k2_pay22 v6 t v k acc w x = BitVec.ofNat 32 (before (k2_pay20 (F := F) v6 t v) (k.val + 1) x) := by
  have hk := lt_of_lt_of_eq k.isLt t3_trips
  have h2 : (x 0).val < 16 := (x 0).isLt
  show IntOp.addi (acc x) (Scalar.select (IntOp.ori (IntOp.cmpi .slt (w x) (k2_pay20 v6 t v x))
    (IntOp.andi (IntOp.cmpi .eq (w x) (k2_pay20 v6 t v x)) (IntOp.cmpi .sgt (iota _ _ _ _ _ x) (Scf.iv 0#32 1#32 k.val)))) 1#32 0#32) = _
  generalize k2_pay20 (F := F) v6 t v = pk at *
  have hx : pk x = pk (ln (x 0)) := by rw [show ln (x 0) = x from ln_nm x]
  have hiff : IntOp.ori (IntOp.cmpi .slt (w x) (pk x))
      (IntOp.andi (IntOp.cmpi .eq (w x) (pk x)) (IntOp.cmpi .sgt (iota .scVector S16 32 [0] iota_S16_d0_w32_scVector x) (Scf.iv 0#32 1#32 k.val))) = 1
      ↔ (∃ h : k.val < 16, Before (keyOf pk) ⟨k.val, h⟩ (x 0)) := by
    rw [or_one, and_one, slt_one, eq_one, sgt_one, iota_eq, iv_nat, toInt_small (by omega), toInt_small (by omega),
      hw x (ln ⟨k.val, hk⟩) rfl, hx, toInt_nonneg (key_lt hE hpk ⟨k.val, hk⟩), toInt_nonneg (x := pk (ln (x 0))) (key_lt hE hpk (x 0))]
    constructor
    · rintro (h | ⟨h, h'⟩)
      · exact ⟨hk, .inl (by show keyOf pk _ < keyOf pk _; unfold keyOf; omega)⟩
      · exact ⟨hk, .inr ⟨congrArg BitVec.toNat h, by show k.val < (x 0).val; omega⟩⟩
    · rintro ⟨_, h | ⟨h, h'⟩⟩
      · exact .inl (by unfold keyOf at h; omega)
      · exact .inr ⟨BitVec.eq_of_toNat_eq h, by have : k.val < (x 0).val := h'; omega⟩
  rw [hacc x]
  unfold before Scalar.select
  rw [Nat.count_succ, BitVec.ofNat_add]
  show _ + _ = _
  congr 1
  by_cases h : ∃ h : k.val < 16, Before (keyOf pk) ⟨k.val, h⟩ (x 0)
  · rw [if_pos h, if_pos (hiff.mpr h)]
  · rw [if_neg h, if_neg fun hh => h (hiff.mp hh)]

theorem chk3 (k : Fin k2_t3_loop.trips) : k2_chk3 (broadcast S16 (Scf.iv 0#32 1#32 k.val)) := by
  have hk := lt_of_lt_of_eq k.isLt t3_trips
  intro a x
  match a with
  | 0 =>
    show (Scf.iv 0#32 1#32 k.val).toNat < 16
    rw [iv_nat, BitVec.toNat_ofNat]; omega

theorem chk4 {pk : IVec S16 32} {rk : IVec S16 32} (h : ∀ x : S16.Idx, rk x = BitVec.ofNat 32 (rank (keyOf pk) (x 0))) : k2_chk4 rk := by
  intro a x
  match a with
  | 0 =>
    show (rk x).toNat < 16
    have := rank_lt (keyOf pk) (x 0)
    rw [h, BitVec.toNat_ofNat]; omega

theorem next_word (x : S16.Idx) : k2_pay24 x = BitVec.ofNat 32 (min ((x 0).val + 1) 15) := by
  have h2 : (x 0).val < 16 := (x 0).isLt
  show IntOp.minsi (IntOp.addi (iota _ _ _ _ _ x) 1#32) 15#32 = _
  rw [iota_eq]
  have : IntOp.addi (BitVec.ofNat 32 (x 0).val) 1#32 = BitVec.ofNat 32 ((x 0).val + 1) := by
    show BitVec.ofNat 32 _ + BitVec.ofNat 32 1 = _
    rw [← BitVec.ofNat_add]
  rw [this]
  unfold IntOp.minsi
  by_cases h : (x 0).val + 1 < 15
  · rw [if_pos (by rw [BitVec.slt_iff_toInt_lt, toInt_small (by omega), show (15#32).toInt = 15 from rfl]; omega), Nat.min_eq_left (by omega)]
  · rw [if_neg (by rw [BitVec.slt_iff_toInt_lt, toInt_small (by omega), show (15#32).toInt = 15 from rfl]; omega), Nat.min_eq_right (by omega)]

theorem chk5 : k2_chk5 k2_pay24 := by
  intro a x
  match a with
  | 0 =>
    show (k2_pay24 x).toNat < 16
    rw [next_word, BitVec.toNat_ofNat]; omega

theorem shr14 (x : BitVec 32) : IntOp.shrui .vector x 14#32 = x >>> 14 := rfl

include hE in
/-- One trip of the claim, from the ordered words. -/
theorem claim_words {pk : IVec S16 32} (hpk : Chunk rw' pe cnt b pk) (rk : IVec S16 32)
    (hrk : ∀ x : S16.Idx, rk x = BitVec.ofNat 32 (rank (keyOf pk) (x 0)))
    (hin : ∀ a x, ((![rk] : Fin 1 → IVec S16 32) a x).toNat < S16.size a) (f16 : Vec F S16 .i32) (v65 : Vec F S16 .i32)
    (hsk : v65 = storeIdx f16 ![rk] pk (fun _ => 1#1) false hin) (v73 : Vec F S16 .i32)
    (hnx : ∀ x y : S16.Idx, (y 0).val = min ((x 0).val + 1) 15 → v73 x = k2_pay23 v65 y) :
    k2_chk6 (k2_pay26 v65 v73) ∧
    ∀ (f : Vec F S3141 .i32) (h : ∀ a x, ((![k2_pay26 v65 v73] : Fin 1 → IVec S16 32) a x).toNat < S3141.size a),
      Claimed rw' pe cnt b f → Claimed rw' pe cnt (b + 16) (storeIdx f ![k2_pay26 v65 v73] (k2_pay27 v65) (k2_pay25 v65 v73) false h) := by
  have := claim_step hE hpk (F := F) rk hrk hin f16 v65 hsk (k2_pay23 v65) v73 (fun x => rfl) hnx (k2_pay25 v65 v73) (fun x => ?_)
    (k2_pay26 v65 v73) rfl (k2_pay27 v65) (fun x => rfl)
  · refine ⟨fun a x => ?_, this.2⟩
    match a with
    | 0 => exact this.1 x
  · have h2 : (x 0).val < 16 := (x 0).isLt
    show IntOp.andi (IntOp.ori (IntOp.cmpi .ne (k2_pay23 v65 x) (v73 x)) (IntOp.cmpi .eq (iota _ _ _ _ _ x) 15#32)) (IntOp.cmpi .ne (v65 x) 2147483647#32) = 1 ↔ _
    rw [and_one, or_one, ne_one, ne_one, eq_one, iota_eq]
    refine and_congr (or_congr_right ⟨fun h => ?_, fun h => by rw [h]⟩) Iff.rfl
    have := congrArg BitVec.toNat h
    rw [BitVec.toNat_ofNat, show (15#32).toNat = 15 from rfl] at this; omega

theorem exists_last (rw' : ℕ → ℕ) (n : ℕ) : ∀ k < n, ∃ k', k ≤ k' ∧ rw' k' = rw' k ∧ IsLast rw' n k' := by
  intro k hk
  obtain ⟨d, hd⟩ : ∃ d, n = k + d := ⟨n - k, by omega⟩
  induction d using Nat.strongRecOn generalizing k with
  | _ d ih =>
    by_cases h : ∀ k', k < k' → k' < n → rw' k' ≠ rw' k
    · exact ⟨k, Nat.le_refl _, rfl, hk, h⟩
    · have h' : ∃ k', k < k' ∧ k' < n ∧ rw' k' = rw' k := by
        by_contra hh
        exact h fun k' h1 h2 h3 => hh ⟨k', h1, h2, h3⟩
      obtain ⟨k', h1, h2, h3⟩ := h'
      obtain ⟨k2, h4, h5, h6⟩ := ih (n - k') (by omega) k' h2 (by omega)
      exact ⟨k2, by omega, by rw [h5, h3], h6⟩

instance (rw' : ℕ → ℕ) (n : ℕ) : DecidablePred (IsLast rw' n) := Classical.decPred _

end

section
variable {ix : Vec F S16384 .i32} {l : ℕ}

/-- The entries that kept their row, as a predicate of their place in the list. -/
abbrev Kept (ix : Vec F S16384 .i32) (l : ℕ) : ℕ → Prop := IsLast (rwOf ix l) (cntOf ix l)

/-- One trip of the winners' list. -/
theorem keep_step {f7 : Vec F S16400 .i32} (hf : Listed ix l f7) (t : Fin (k2_t6_loop (BitVec.ofNat 32 (cntOf ix l))).trips)
    (v : Vec F S16 .i32) (hv : ∀ (x : S16.Idx) (z : S16400.Idx), (z 0).val = 16 * t.val + (x 0).val → v x = f7 z)
    (cw : BitVec 32) (hcw : cw = BitVec.ofNat 32 (Nat.count (Kept ix l) (16 * t.val)))
    (v4 : IVec S16 32) (hv4 : v4 = iota .scVector S16 32 [0] iota_S16_d0_w32_scVector) :
    k2_chk11 (k2_pay2 v4 (BitVec.ofNat 32 (cntOf ix l)) 0#32 t v) ∧
    ∀ (f9 : Vec F S3141 .i32), Claimed (rwOf ix l) (entOf ix l) (cntOf ix l) (cntOf ix l) f9 →
    ∀ w : Vec F S16 .i32, (∀ (x : S16.Idx) (z : S3141.Idx), (z 0).val = (k2_pay2 v4 (BitVec.ofNat 32 (cntOf ix l)) 0#32 t v x).toNat → w x = f9 z) →
    k2_chk12 (k2_pay5 v4 (BitVec.ofNat 32 (cntOf ix l)) 0#32 t cw v w) ∧
    (∀ (f : Vec F S16400 .i32) (h : ∀ a x, ((![k2_pay5 v4 (BitVec.ofNat 32 (cntOf ix l)) 0#32 t cw v w] : Fin 1 → IVec S16 32) a x).toNat < S16400.size a),
      Packed (Kept ix l) (fun k => pack (rwOf ix l k) (entOf ix l k)) (16 * t.val) f →
      Packed (Kept ix l) (fun k => pack (rwOf ix l k) (entOf ix l k)) (16 * (t.val + 1))
        (storeIdx f ![k2_pay5 v4 (BitVec.ofNat 32 (cntOf ix l)) 0#32 t cw v w] v (k2_pay3 v4 (BitVec.ofNat 32 (cntOf ix l)) 0#32 t v w) false h)) ∧
    Scalar.addi cw (extractAt ![0] (k2_pay6 v4 (BitVec.ofNat 32 (cntOf ix l)) 0#32 t v w) inpos_S1_p0)
      = BitVec.ofNat 32 (Nat.count (Kept ix l) (16 * (t.val + 1))) := by
  subst hv4
  have hn := cntOf_le ix l
  have ht := lt_of_lt_of_eq t.isLt (t6_trips hn)
  have hE := entries ix l
  have hlive : ∀ x : S16.Idx, k2_pay1 (iota .scVector S16 32 [0] iota_S16_d0_w32_scVector) (BitVec.ofNat 32 (cntOf ix l)) 0#32 t x = 1
      ↔ 16 * t.val + (x 0).val < cntOf ix l := by
    intro x
    rw [pay1_apply]
    exact lane_live hn (by omega) x
  have hvx : ∀ x : S16.Idx, 16 * t.val + (x 0).val < cntOf ix l →
      v x = pack (rwOf ix l (16 * t.val + (x 0).val)) (entOf ix l (16 * t.val + (x 0).val)) := by
    intro x h
    rw [hv x (Shape.ofLane (d := ![16400]) ⟨16 * t.val + (x 0).val, by show _ < 16400; omega⟩) rfl]
    exact hf _ h _ rfl
  have hix : ∀ x : S16.Idx, k2_pay2 (iota .scVector S16 32 [0] iota_S16_d0_w32_scVector) (BitVec.ofNat 32 (cntOf ix l)) 0#32 t v x
      = if 16 * t.val + (x 0).val < cntOf ix l then (v x : BitVec 32) >>> 14 else 0#32 := by
    intro x
    rw [pay2_apply]
    unfold Scalar.select
    by_cases h : 16 * t.val + (x 0).val < cntOf ix l
    · rw [if_pos h, if_pos ((hlive x).mpr h)]
    · rw [if_neg h, if_neg fun hh => h ((hlive x).mp hh)]
  refine ⟨chk11_of fun x => ?_, fun f9 h9 w hw => ?_⟩
  · rw [hix x]
    by_cases h : 16 * t.val + (x 0).val < cntOf ix l
    · rw [if_pos h, hvx x h, pack_row (hE.row _ h) (hE.num _ h)]
      have := hE.row _ h; omega
    · rw [if_neg h]; decide
  · have hm : ∀ x : S16.Idx, k2_pay3 (iota .scVector S16 32 [0] iota_S16_d0_w32_scVector) (BitVec.ofNat 32 (cntOf ix l)) 0#32 t v w x = 1
        ↔ Kept ix l (16 * t.val + (x 0).val) := by
      intro x
      rw [pay3_apply, and_one, hlive, eq_one]
      by_cases h : 16 * t.val + (x 0).val < cntOf ix l
      · have hr := hE.row _ h
        have he := hE.num _ h
        obtain ⟨k', h1, h2, h3⟩ := exists_last (rwOf ix l) (cntOf ix l) _ h
        have hwx : w x = BitVec.ofNat 32 (entOf ix l k') := by
          rw [hw x (Shape.ofLane (d := ![3141]) ⟨rwOf ix l k', by show _ < 3141; omega⟩) (by
            rw [hix x, if_pos h, hvx x h, pack_row hr he, ← h2]; rfl)]
          exact h9 k' (by rw [Nat.min_self]; exact h3) _ rfl
        have he' := hE.num _ h3.1
        rw [hwx, hvx x h, pack_entry hr he]
        constructor
        · rintro ⟨-, hh⟩
          have hee : entOf ix l k' = entOf ix l (16 * t.val + (x 0).val) := by
            have := congrArg BitVec.toNat hh
            rw [BitVec.toNat_ofNat, BitVec.toNat_ofNat] at this; omega
          have : k' = 16 * t.val + (x 0).val := by
            rcases Nat.lt_or_ge (16 * t.val + (x 0).val) k' with hlt | hge
            · have := hE.mono _ _ hlt h3.1; omega
            · omega
          rw [← this]; exact h3
        · intro hk
          refine ⟨h, ?_⟩
          have : k' = 16 * t.val + (x 0).val := by
            rcases Nat.lt_or_ge (16 * t.val + (x 0).val) k' with hlt | hge
            · exact absurd h2 (hk.2 _ hlt h3.1)
            · omega
          rw [this]
      · exact ⟨fun hh => absurd hh.1 h, fun hh => absurd hh.1 h⟩
    have := packed_step (F := F) (Kept ix l) (fun k => pack (rwOf ix l k) (entOf ix l k)) (16 * t.val) cw hcw (by omega)
      _ hm (k2_pay5 (iota .scVector S16 32 [0] iota_S16_d0_w32_scVector) (BitVec.ofNat 32 (cntOf ix l)) 0#32 t cw v w) (pay5_eq _ _ _ _ _ _) v (fun x hx => hvx x hx.1)
    rw [show 16 * (t.val + 1) = 16 * t.val + 16 by omega]
    refine ⟨this.1, this.2.1, ?_⟩
    rw [← this.2.2, pay6_last]
    rfl

end

end Cert.Proof.Words

end
-- ==== Proof.Fire.lean ====
/-
  The winners one by one: which row of the array each writes and which row of the new rows it carries, and what the array
  holds at the end: at a row some entry names, the new row of the last entry that names it.
-/
module

public import proofs.«01_k».proof.Proof.Steps

@[expose] public section

noncomputable section

namespace Cert.Proof.Words

open Idealize.ShloMosaic Idealize.ShloMosaic.Affine
open Cert.KernelIdeal Cert.KernelIdeal.Gen
open Cert.Proof.Lanes Cert.Proof.Trips

variable {F : FTy → Type} [FloatOps F]

/-! ## The winners -/

section
variable (ix : Vec F S16384 .i32) (l : ℕ)

def wcOf : ℕ := Nat.count (Kept ix l) (cntOf ix l)
def winOf : ℕ → ℕ := (exists_enum (Kept ix l) (cntOf ix l)).choose
def wRow (j : ℕ) : ℕ := rwOf ix l (winOf ix l j)
def wEnt (j : ℕ) : ℕ := entOf ix l (winOf ix l j)

theorem winOf_spec {j : ℕ} (hj : j < wcOf ix l) :
    Kept ix l (winOf ix l j) ∧ winOf ix l j < cntOf ix l ∧ Nat.count (Kept ix l) (winOf ix l j) = j :=
  (exists_enum (Kept ix l) (cntOf ix l)).choose_spec j hj

theorem wcOf_le : wcOf ix l ≤ 16384 := (Nat.count_le _).trans (cntOf_le ix l)

theorem count_kept {n : ℕ} (h : cntOf ix l ≤ n) : Nat.count (Kept ix l) n = wcOf ix l := by
  unfold wcOf
  induction n, h using Nat.le_induction with
  | base => rfl
  | succ n hn ih => rw [Nat.count_succ, if_neg (fun hk => absurd hk.1 (by omega)), ih, Nat.add_zero]

theorem wRow_lt {j : ℕ} (hj : j < wcOf ix l) : wRow ix l j < 3125 := (entries ix l).row _ (winOf_spec ix l hj).2.1
theorem wEnt_lt {j : ℕ} (hj : j < wcOf ix l) : wEnt ix l j < 16384 := (entries ix l).num _ (winOf_spec ix l hj).2.1

theorem wRow_inj {j j' : ℕ} (hj : j < wcOf ix l) (hj' : j' < wcOf ix l) (h : wRow ix l j = wRow ix l j') : j = j' := by
  obtain ⟨h1, h2, h3⟩ := winOf_spec ix l hj
  obtain ⟨h1', h2', h3'⟩ := winOf_spec ix l hj'
  have : winOf ix l j = winOf ix l j' := by
    rcases Nat.lt_trichotomy (winOf ix l j) (winOf ix l j') with hlt | heq | hgt
    · exact absurd h.symm (h1.2 _ hlt h2')
    · exact heq
    · exact absurd h (h1'.2 _ hgt h2)
  rw [← h3, ← h3', this]

def Written (f : Vec F S16400 .i32) : Prop :=
  ∀ j < wcOf ix l, ∀ z : S16400.Idx, (z 0).val = j → f z = pack (wRow ix l j) (wEnt ix l j)

theorem written_of_packed {n : ℕ} (hn : cntOf ix l ≤ n) {f : Vec F S16400 .i32}
    (h : Packed (Kept ix l) (fun k => pack (rwOf ix l k) (entOf ix l k)) n f) : Written ix l f := by
  intro j hj z hz
  obtain ⟨h1, h2, h3⟩ := winOf_spec ix l hj
  exact h _ (by omega) h1 z (by rw [h3, hz])

/-- Entry `e` is the last that names row `r`. -/
def LastNaming (r : ℤ) (e : ℕ) : Prop :=
  e < 16384 ∧ rowZ ix e = r ∧ ∀ e', e < e' → e' < 16384 → rowZ ix e' ≠ r

theorem LastNaming.unique {r : ℤ} {e e' : ℕ} (h : LastNaming ix r e) (h' : LastNaming ix r e') : e = e' := by
  rcases Nat.lt_trichotomy e e' with hlt | heq | hgt
  · exact absurd h'.2.1 (h.2.2 _ hlt h'.1)
  · exact heq
  · exact absurd h.2.1 (h'.2.2 _ hgt h.1)

theorem lastNaming_win {j : ℕ} (hj : j < wcOf ix l) : LastNaming ix ((l + wRow ix l j : ℕ) : ℤ) (wEnt ix l j) := by
  obtain ⟨h1, h2, h3⟩ := winOf_spec ix l hj
  obtain ⟨g1, g2, g3⟩ := entOf_spec ix l h2
  have hrow := slotOf_row g1
  refine ⟨g2, ?_, fun e' hlt he' heq => ?_⟩
  · rw [wEnt, hrow, wRow, rwOf]; omega
  · have hr : wRow ix l j < 3125 := wRow_lt ix l hj
    have hin : InR ix l e' := by unfold InR; rw [heq]; omega
    obtain ⟨k, hk, rfl⟩ := exists_place ix l hin
    have hlt' : winOf ix l j < k := by
      by_contra hge
      rcases Nat.eq_or_lt_of_le (Nat.le_of_not_lt hge) with he | hl
      · rw [he] at hlt; exact absurd hlt (by unfold wEnt; omega)
      · have := (entries ix l).mono _ _ hl h2
        unfold wEnt at hlt; omega
    refine h1.2 _ hlt' hk ?_
    have := slotOf_row hin
    rw [heq] at this
    have hw : wRow ix l j = rwOf ix l (winOf ix l j) := rfl
    rw [← hw]; unfold rwOf; omega

theorem exists_win {r e : ℕ} (h : LastNaming ix (r : ℤ) e) (h1 : l ≤ r) (h2 : r < l + 3125) :
    ∃ j < wcOf ix l, l + wRow ix l j = r ∧ wEnt ix l j = e := by
  have hin : InR ix l e := by unfold InR; rw [h.2.1]; omega
  obtain ⟨k, hk, rfl⟩ := exists_place ix l hin
  have hrw : l + rwOf ix l k = r := by
    have := slotOf_row hin
    rw [h.2.1] at this; unfold rwOf; omega
  have hkept : Kept ix l k := by
    refine ⟨hk, fun k' hlt hk' heq => ?_⟩
    have hs := entOf_spec ix l hk'
    refine h.2.2 (entOf ix l k') ((entries ix l).mono _ _ hlt hk') hs.2.1 ?_
    rw [slotOf_row hs.1]
    have : slotOf ix l (entOf ix l k') = rwOf ix l k := heq
    rw [this]; omega
  have hj : Nat.count (Kept ix l) k < wcOf ix l := by
    have := Nat.count_monotone (Kept ix l) (show k + 1 ≤ cntOf ix l by omega)
    rw [Nat.count_succ, if_pos hkept] at this
    unfold wcOf; omega
  have hw : winOf ix l (Nat.count (Kept ix l) k) = k := by
    obtain ⟨a1, a2, a3⟩ := winOf_spec ix l hj
    exact Nat.count_injective a1 hkept a3
  exact ⟨_, hj, by unfold wRow; rw [hw, hrw], by unfold wEnt; rw [hw]⟩

end

/-! ## What the array holds at the end -/

/-- Row `e` column `c` of the new rows. -/
def at2 (e : Fin 16384) (c : Fin 256) : S16384x256.Idx := fun
  | 0 => e
  | 1 => c

open Classical in
/-- The array after the scatter: a named row holds the new row of the last entry naming it, any other what it held. -/
def scat (ix : Vec F S16384 .i32) (fh : Vec F S16384x256 .f32) (fo : Vec F S100000x256 .f32) : Vec F S100000x256 .f32 := fun z =>
  if h : ∃ e, LastNaming ix ((z 0).val : ℤ) e then fh (at2 ⟨h.choose, h.choose_spec.1⟩ (z 1)) else fo z

theorem idx2_ext {y y' : S16384x256.Idx} (h0 : (y 0).val = (y' 0).val) (h1 : (y 1).val = (y' 1).val) : y = y' := by
  funext a
  match a with
  | 0 => exact Fin.ext h0
  | 1 => exact Fin.ext h1

theorem scat_hit {ix : Vec F S16384 .i32} {fh : Vec F S16384x256 .f32} {fo : Vec F S100000x256 .f32} {z : S100000x256.Idx} {e : ℕ}
    (h : LastNaming ix ((z 0).val : ℤ) e) (y : S16384x256.Idx) (h0 : (y 0).val = e) (h1 : (y 1).val = (z 1).val) :
    scat ix fh fo z = fh y := by
  have hex : ∃ e, LastNaming ix ((z 0).val : ℤ) e := ⟨e, h⟩
  unfold scat
  rw [dif_pos hex]
  have : hex.choose = e := hex.choose_spec.unique ix h
  refine congrArg fh (idx2_ext ?_ ?_)
  · show hex.choose = _; rw [this, h0]
  · show (z 1).val = _; rw [h1]

theorem scat_miss {ix : Vec F S16384 .i32} {fh : Vec F S16384x256 .f32} {fo : Vec F S100000x256 .f32} {z : S100000x256.Idx}
    (h : ∀ e, ¬ LastNaming ix ((z 0).val : ℤ) e) : scat ix fh fo z = fo z := by
  unfold scat
  rw [dif_neg (fun ⟨e, he⟩ => h e he)]

/-! ## A winner's word and where it sends its row -/

theorem word_read (v : Vec F S16 .i32) : extractAt ![0] (k2_pay13 v) inpos_S1_p0 = v (ln 0) := by
  show v _ = v _
  congr 1
  funext a
  exact Fin.ext (by match a with | 0 => rfl)

theorem fire_word (i : grid2.Coords) {w : BitVec 32} {r e : ℕ} (hr : r < 3125) (he : e < 16384) (hw : w = pack r e) :
    k2_chk16 i w ∧ k2_off7 i w = ![lo i + r, 0] ∧ k2_off8 w = ![e, 0] := by
  have hl := tileNo_lt i
  have hlo : lo i ≤ 96875 := by unfold lo; omega
  have h7 : k2_off7 i w = ![lo i + r, 0] := by
    have : k2_off7 i w = ![(Scalar.addi (Scalar.shrui w 14#32) (BitVec.ofNat 32 (lo i))).toNat, 0] := by
      rw [← lo_word]; rfl
    rw [this]
    have h1 : (Scalar.shrui w 14#32 : BitVec 32) = w >>> 14 := rfl
    have h2 : (Scalar.addi (Scalar.shrui w 14#32) (BitVec.ofNat 32 (lo i))).toNat = lo i + r := by
      rw [h1, hw]
      show ((pack r e >>> 14) + BitVec.ofNat 32 (lo i)).toNat = _
      rw [BitVec.toNat_add, pack_row hr he, BitVec.toNat_ofNat]; omega
    rw [h2]
  have h8 : k2_off8 w = ![e, 0] := by
    have : k2_off8 w = ![(w &&& 16383#32).toNat, 0] := rfl
    rw [this, hw, pack_entry hr he, BitVec.toNat_ofNat, Nat.mod_eq_of_lt (by omega)]
  refine ⟨⟨?_, ?_⟩, h7, h8⟩
  · rw [h7]; intro a
    match a with
    | 0 => show lo i + r + 1 ≤ 100000; omega
    | 1 => show 0 + 256 ≤ 256; omega
  · rw [h8]; intro a
    match a with
    | 0 => show e + 1 ≤ 16384; omega
    | 1 => show 0 + 256 ≤ 256; omega

end Cert.Proof.Words

end
-- ==== Proof.Loops.lean ====
/-
  The scatter kernel's counted loops on one vector subcore, each at its invariant: the scan of the index list, the ordering
  of sixteen entries, the claim of the rows, and the choice of the winners.
-/
module

public import proofs.«01_k».proof.Proof.Fire
public import Idealize.ShloMosaic.Lib.SparseCore.Quiescent
public import Idealize.ShloMosaic.Lib.SparseCore.Ops
public import Idealize.ShloMosaic.Lib.Batch
public import Idealize.ShloMosaic.Lib.StableHlo.Run
public import Idealize.ShloMosaic.Lib.Pipeline.Kit
public import Idealize.ShloMosaic.Lib.Tactic

@[expose] public section

noncomputable section

namespace Cert.Proof.Scatter

open Cert.KernelIdeal Cert.KernelIdeal.Gen
open Cert.Proof.Lanes Cert.Proof.Trips Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its ghost state -/

abbrev ΛP : Labels := Pipeline.Sig Λ₀ (Fin 1) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL

/-! ## The buffers as the subcore names them -/

abbrev oV : Memref sig .scVector .hbm S100000x256 .f32 := Memref.whole main_v17_scv
abbrev hV : Memref sig .scVector .hbm S16384x256 .f32 := Memref.whole main_v16_1_scv
abbrev iV : Memref sig .scVector .hbm S16384 .i32 := Memref.whole main_arg1_scv
abbrev bI : Memref sig .scVector .vmem S16384 .i32 := Memref.whole cc2_scratch0
abbrev bP : Memref sig .scVector .vmem S16400 .i32 := Memref.whole cc2_scratch1
abbrev bW : Memref sig .scVector .vmem S16400 .i32 := Memref.whole cc2_scratch2
abbrev bC : Memref sig .scVector .vmem S3141 .i32 := Memref.whole cc2_scratch3
abbrev bS : Memref sig .scVector .vmem S16 .i32 := Memref.whole cc2_scratch4

/-- What a unit rectangle's load reads at a lane. -/
theorem unit_idx {s : Shape} (o : Fin s.rank → ℕ) (sz : Fin s.rank → ℕ) (h : ∀ a, o a + sz a ≤ s.size a)
    (x : (Rect.unit (s := s) o sz h).toLoadRect.shape.Idx) (a : Fin s.rank) :
    ((Rect.unit (s := s) o sz h).toLoadRect.idx x a).val = o a + (x a).val := by
  rw [LoadRect.idx_apply]
  show o a + 1 * (x a).val = _
  rw [Nat.one_mul]

/-- A lane of an indexed load, at the element its word names. -/
theorem at_lane (f : Vec F S3141 .i32) (i : IVec S16 32) (h : ∀ a x, ((![i] : Fin 1 → IVec S16 32) a x).toNat < S3141.size a)
    (x : S16.Idx) (z : S3141.Idx) (hz : (z 0).val = (i x).toNat) : loadIdx f ![i] h x = f z := by
  refine congrArg f (funext fun a => ?_)
  match a with
  | 0 => exact Fin.ext hz.symm

section Tile

variable [FloatOps F] (d : Dev nD) (L : grid2.Coords)

abbrev cV (L : grid2.Coords) : Fin τ.nSC := (L 0).castLE hcore2
abbrev jV (L : grid2.Coords) : Fin τ.nSub := (L 1).castLE hsub2
abbrev tV : Thread nD τ := V d (cV L) (jV L)

omit [FloatOps F] in
theorem pts_P (f : Buf (Elt F) ((tV d L).loc cc2_scratch1)) :
    ((bP.access (.whole S16400)).loc (tV d L) ↦[(bP.access (.whole S16400)).set]{fullShare} f : sProp 𝕄) = (tV d L).loc cc2_scratch1 ↦{fullShare} f := by
  rw [show (bP.access (.whole S16400)).set = Finset.univ from Memref.set_access_whole (cc2_scratch1 : Ref sig .scVector)]
omit [FloatOps F] in
theorem pts_W (f : Buf (Elt F) ((tV d L).loc cc2_scratch2)) :
    ((bW.access (.whole S16400)).loc (tV d L) ↦[(bW.access (.whole S16400)).set]{fullShare} f : sProp 𝕄) = (tV d L).loc cc2_scratch2 ↦{fullShare} f := by
  rw [show (bW.access (.whole S16400)).set = Finset.univ from Memref.set_access_whole (cc2_scratch2 : Ref sig .scVector)]
omit [FloatOps F] in
theorem pts_C (f : Buf (Elt F) ((tV d L).loc cc2_scratch3)) :
    ((bC.access (.whole S3141)).loc (tV d L) ↦[(bC.access (.whole S3141)).set]{fullShare} f : sProp 𝕄) = (tV d L).loc cc2_scratch3 ↦{fullShare} f := by
  rw [show (bC.access (.whole S3141)).set = Finset.univ from Memref.set_access_whole (cc2_scratch3 : Ref sig .scVector)]
omit [FloatOps F] in
theorem pts_S (f : Buf (Elt F) ((tV d L).loc cc2_scratch4)) :
    ((bS.access (.whole S16)).loc (tV d L) ↦[(bS.access (.whole S16)).set]{fullShare} f : sProp 𝕄) = (tV d L).loc cc2_scratch4 ↦{fullShare} f := by
  rw [show (bS.access (.whole S16)).set = Finset.univ from Memref.set_access_whole (cc2_scratch4 : Ref sig .scVector)]

omit [FloatOps F] in
theorem read_I (f : Vec F S16384 .i32) (o : Fin 1 → ℕ) (h : ∀ a, o a + S16.size a ≤ S16384.size a) (x : S16.Idx) (z : S16384.Idx)
    (hz : (z 0).val = o 0 + (x 0).val) :
    bI.view.readAt (Elt F) (Rect.unit (s := S16384) o S16.size h).toLoadRect f x = f z := by
  show f _ = f z
  congr 1
  funext a
  match a with
  | 0 => exact Fin.ext ((unit_idx (s := S16384) o S16.size h x 0).trans hz.symm)
omit [FloatOps F] in
theorem read_P (f : Vec F S16400 .i32) (o : Fin 1 → ℕ) (h : ∀ a, o a + S16.size a ≤ S16400.size a) (x : S16.Idx) (z : S16400.Idx)
    (hz : (z 0).val = o 0 + (x 0).val) :
    bP.view.readAt (Elt F) (Rect.unit (s := S16400) o S16.size h).toLoadRect f x = f z := by
  show f _ = f z
  congr 1
  funext a
  match a with
  | 0 => exact Fin.ext ((unit_idx (s := S16400) o S16.size h x 0).trans hz.symm)
omit [FloatOps F] in
theorem read_W (f : Vec F S16400 .i32) (o : Fin 1 → ℕ) (h : ∀ a, o a + S16.size a ≤ S16400.size a) (x : S16.Idx) (z : S16400.Idx)
    (hz : (z 0).val = o 0 + (x 0).val) :
    bW.view.readAt (Elt F) (Rect.unit (s := S16400) o S16.size h).toLoadRect f x = f z := by
  show f _ = f z
  congr 1
  funext a
  match a with
  | 0 => exact Fin.ext ((unit_idx (s := S16400) o S16.size h x 0).trans hz.symm)
omit [FloatOps F] in
theorem read_S (f : Vec F S16 .i32) (h : ∀ a, (![0] : Fin 1 → ℕ) a + S16.size a ≤ S16.size a) :
    bS.view.readAt (Elt F) (Rect.unit (s := S16) ![0] S16.size h).toLoadRect f = f := by
  funext x
  show f _ = f x
  congr 1
  funext a
  match a with
  | 0 => exact Fin.ext ((unit_idx (s := S16) ![0] S16.size h x 0).trans (Nat.zero_add _))

omit [FloatOps F] in
theorem write_P (f w : Vec F S16400 .i32) : (bP.access (.whole S16400)).write (Elt F) f w Finset.univ = w :=
  Memref.write_access_whole_univ (Elt F) (cc2_scratch1 : Ref sig .scVector) f w
omit [FloatOps F] in
theorem write_W (f w : Vec F S16400 .i32) : (bW.access (.whole S16400)).write (Elt F) f w Finset.univ = w :=
  Memref.write_access_whole_univ (Elt F) (cc2_scratch2 : Ref sig .scVector) f w
omit [FloatOps F] in
theorem write_C (f w : Vec F S3141 .i32) : (bC.access (.whole S3141)).write (Elt F) f w Finset.univ = w :=
  Memref.write_access_whole_univ (Elt F) (cc2_scratch3 : Ref sig .scVector) f w
omit [FloatOps F] in
theorem write_S (f w : Vec F S16 .i32) : (bS.access (.whole S16)).write (Elt F) f w Finset.univ = w :=
  Memref.write_access_whole_univ (Elt F) (cc2_scratch4 : Ref sig .scVector) f w
omit [FloatOps F] in
theorem store_S (f w : Vec F S16 .i32) (h : ∀ a, (![0] : Fin 1 → ℕ) a + S16.size a ≤ S16.size a) :
    (bS.access (Rect.unit (s := S16) ![0] S16.size h)).write (Elt F) f w Finset.univ = w := by
  have e : (![0] : Fin 1 → ℕ) = fun _ => 0 := funext fun a => by match a with | 0 => rfl
  revert h
  rw [e]
  intro h
  exact write_S f w

omit [FloatOps F] in
theorem whole_P (f : Vec F S16400 .i32) : (bP.access (.whole S16400)).read (Elt F) f = f :=
  Memref.read_access_whole (Elt F) (cc2_scratch1 : Ref sig .scVector) f
omit [FloatOps F] in
theorem whole_W (f : Vec F S16400 .i32) : (bW.access (.whole S16400)).read (Elt F) f = f :=
  Memref.read_access_whole (Elt F) (cc2_scratch2 : Ref sig .scVector) f
omit [FloatOps F] in
theorem whole_C (f : Vec F S3141 .i32) : (bC.access (.whole S3141)).read (Elt F) f = f :=
  Memref.read_access_whole (Elt F) (cc2_scratch3 : Ref sig .scVector) f
omit [FloatOps F] in
theorem whole_S (f : Vec F S16 .i32) : (bS.access (.whole S16)).read (Elt F) f = f :=
  Memref.read_access_whole (Elt F) (cc2_scratch4 : Ref sig .scVector) f

/-! ## The scan -/

variable (ix : Vec F S16384 .i32)

/-- Before trip `k` of the scan: the entries below `16 k` naming the tile's rows are packed at the list's start. -/
def scanInv (k : ℕ) (acc : BitVec 32) : sProp 𝕄 :=
  iprop(⌜acc = BitVec.ofNat 32 (Nat.count (InR ix (lo L)) (16 * k))⌝ ∗ ((tV d L).loc cc2_scratch0 ↦{fullShare} ix)
    ∗ ∃ f : Vec F S16400 .i32, ⌜Packed (InR ix (lo L)) (fun e => pack (slotOf ix (lo L) e) e) (16 * k) f⌝
      ∗ (tV d L).loc cc2_scratch1 ↦{fullShare} f)

theorem scan_trip (t : Fin k2_t1_loop.trips) (acc : BitVec 32) :
    scanInv d L ix t acc ⊢ wp frame (wpE (defs₀ (F := F)) 𝒱₀ (tV d L) none) Set.univ
      (k2_t1_body (F := F) L oV (Memref.isWhole_whole _) hV (Memref.isWhole_whole _) iV (Memref.isWhole_whole _) oV (Memref.isWhole_whole _)
        bI (Memref.isWhole_whole _) bP (Memref.isWhole_whole _) bW (Memref.isWhole_whole _) bC (Memref.isWhole_whole _) bS (Memref.isWhole_whole _)
        cc2_scratch5 cc2_scoped0 t acc) (scanInv d L ix (t.val + 1)) := by
  unfold scanInv k2_t1_body
  simp only [Prog.lift, Prog.bind_op, Prog.bind_ret, Prog.pure_eq_ret]
  iintro ⟨%hacc, HI, %f, %hf, HP⟩
  iapply (wp_load 𝒱₀ (tV d L) none Set.univ (m := bI) (S := Finset.univ) (Finset.subset_univ _)) $$ HI; iintro HI
  have hv : ∀ (x : S16.Idx) (z : S16384.Idx), (z 0).val = 16 * t.val + (x 0).val →
      bI.view.readAt (Elt F) (Rect.unit (s := S16384) (k2_off1 t) S16.size (k2_off1_inb t)).toLoadRect ix x = ix z :=
    fun x z hz => read_I ix _ _ x z (by rw [k2_off1_eq]; exact hz)
  obtain ⟨h1, h2, h3⟩ := scan_step L ix t _ hv acc hacc
  rw [wp_assume_of _ _ _ _ h1]
  ihave HP := (Entails.of_eq (pts_P (F := F) d L _).symm) $$ HP
  iapply (SparseCore.wp_vectorStoreIdx 𝒱₀ (tV d L) none Set.univ (base := bP)) $$ HP; iintro HP
  ihave HP := (Entails.of_eq (pts_P (F := F) d L _)) $$ HP
  rw [wp_ret]; imodintro
  isplitr; · ipureintro; exact h3
  isplitl [HI]; · iexact HI
  iexists _
  isplitr; swap; · iexact HP
  ipureintro
  rw [write_P, whole_P]
  exact h2 f _ hf

/-! ## The order of sixteen entries -/

/-- The count of the words before each one, over the words below `k`. -/
def rankInv (pk : IVec S16 32) (k : ℕ) (acc : IVec S16 32) : sProp 𝕄 :=
  iprop(⌜∀ x, acc x = BitVec.ofNat 32 (before pk k x)⌝ ∗ ((tV d L).loc cc2_scratch4 ↦{fullShare} (pk : Vec F S16 .i32)))

theorem rank_trip {rw' pe : ℕ → ℕ} {cnt b : ℕ} (hE : Entries rw' pe cnt) (v6 : BitVec 32) (t : Fin (k2_t2_loop v6).trips) (v : Vec F S16 .i32)
    (hpk : Chunk rw' pe cnt b (k2_pay20 (F := F) v6 t v)) (k : Fin k2_t3_loop.trips) (acc : IVec S16 32) :
    rankInv d L (k2_pay20 (F := F) v6 t v) k acc ⊢ wp frame (wpE (defs₀ (F := F)) 𝒱₀ (tV d L) none) Set.univ
      (k2_t3_body (F := F) L oV (Memref.isWhole_whole _) hV (Memref.isWhole_whole _) iV (Memref.isWhole_whole _) oV (Memref.isWhole_whole _)
        bI (Memref.isWhole_whole _) bP (Memref.isWhole_whole _) bW (Memref.isWhole_whole _) bC (Memref.isWhole_whole _) bS (Memref.isWhole_whole _)
        cc2_scratch5 cc2_scoped0 v6 t v k acc) (rankInv d L (k2_pay20 (F := F) v6 t v) (k.val + 1)) := by
  unfold rankInv k2_t3_body
  simp only [Prog.lift, Prog.bind_op, Prog.bind_ret, Prog.pure_eq_ret]
  iintro ⟨%hacc, HS⟩
  rw [wp_assume_of _ _ _ _ (chk3 k)]
  iapply (SparseCore.wp_vectorLoadIdx 𝒱₀ (tV d L) none Set.univ (base := bS) (S := Finset.univ) (q := fullShare) (Finset.subset_univ _)) $$ HS; iintro HS
  rw [whole_S]
  rw [wp_ret]; imodintro
  isplitr; swap; · iexact HS
  ipureintro
  have hk := lt_of_lt_of_eq k.isLt t3_trips
  refine rank_step hE v6 t v hpk k acc hacc _ (fun x z hz => ?_)
  refine congrArg (k2_pay20 (F := F) v6 t v) (funext fun a => ?_)
  match a with
  | 0 =>
    refine Fin.ext (Eq.trans ?_ hz.symm)
    show (Scf.iv 0#32 1#32 k.val).toNat = k.val
    rw [iv_nat, BitVec.toNat_ofNat]; omega

/-! ## The claim of the rows -/

/-- Before trip `k` of the claim: each row named by the first `16 k` entries is claimed by the last of them naming it. -/
def claimInv (k : ℕ) : sProp 𝕄 :=
  iprop((∃ f : Vec F S16400 .i32, ⌜Listed ix (lo L) f⌝ ∗ (tV d L).loc cc2_scratch1 ↦{fullShare} f)
    ∗ (∃ f : Vec F S16 .i32, (tV d L).loc cc2_scratch4 ↦{fullShare} f)
    ∗ ∃ f : Vec F S3141 .i32, ⌜Claimed (rwOf ix (lo L)) (entOf ix (lo L)) (cntOf ix (lo L)) (16 * k) f⌝ ∗ (tV d L).loc cc2_scratch3 ↦{fullShare} f)

theorem claim_trip (v6 : BitVec 32) (h6 : v6 = BitVec.ofNat 32 (cntOf ix (lo L))) (hw2 : k2_chk2 v6) (t : Fin (k2_t2_loop v6).trips) (acc : BitVec 32) :
    claimInv d L ix t ⊢ wp frame (wpE (defs₀ (F := F)) 𝒱₀ (tV d L) none) Set.univ
      (k2_t2_body (F := F) L oV (Memref.isWhole_whole _) hV (Memref.isWhole_whole _) iV (Memref.isWhole_whole _) oV (Memref.isWhole_whole _)
        bI (Memref.isWhole_whole _) bP (Memref.isWhole_whole _) bW (Memref.isWhole_whole _) bC (Memref.isWhole_whole _) bS (Memref.isWhole_whole _)
        cc2_scratch5 cc2_scoped0 v6 hw2 t acc) (fun _ => claimInv d L ix (t.val + 1)) := by
  subst h6
  unfold claimInv k2_t2_body
  simp only [Prog.lift, Prog.bind_op, Prog.bind_ret, Prog.pure_eq_ret]
  iintro ⟨⟨%f, %hf, HP⟩, ⟨%fs, HS⟩, %f9, %h9, HC⟩
  have hE := entries ix (lo L)
  iapply (wp_load 𝒱₀ (tV d L) none Set.univ (m := bP) (S := Finset.univ) (Finset.subset_univ _)) $$ HP; iintro HP
  have hv : ∀ (x : S16.Idx) (z : S16400.Idx), (z 0).val = 16 * t.val + (x 0).val →
      bP.view.readAt (Elt F) (Rect.unit (s := S16400) (k2_off2 (BitVec.ofNat 32 (cntOf ix (lo L))) t) S16.size (k2_off2_inb _ hw2 t)).toLoadRect f x = f z :=
    fun x z hz => read_P f _ _ x z (by rw [off2 (cntOf_le ix (lo L))]; exact hz)
  have hpk := chunk_of hf t _ hv
  iapply (wp_load 𝒱₀ (tV d L) none Set.univ (m := bS) (S := Finset.univ) (Finset.subset_univ _)) $$ HS; iintro HS
  iapply (wp_store 𝒱₀ (tV d L) none Set.univ (m := bS) (r := Rect.unit (s := S16) ![0] S16.size inb_S16_S16_0) (Mk := Finset.univ) (S := Finset.univ) (Finset.subset_univ _)) $$ HS
  iintro HS
  rw [store_S]
  generalize hV55 : bP.view.readAt (Elt F) (Rect.unit (s := S16400) (k2_off2 (BitVec.ofNat 32 (cntOf ix (lo L))) t) S16.size (k2_off2_inb _ hw2 t)).toLoadRect f = v at *
  sl_for (rankInv d L (k2_pay20 (F := F) (BitVec.ofNat 32 (cntOf ix (lo L))) t v)) $$ [HS]
  · intro k a
    exact rank_trip d L hE _ t v hpk k a
  · unfold rankInv
    isplitr; swap; · iexact HS
    ipureintro
    intro x
    rw [before_zero]
    rfl
  iintro %rk HI
  unfold rankInv
  icases HI with ⟨%hrk0, HS⟩
  have hrk : ∀ x : S16.Idx, rk x = BitVec.ofNat 32 (rank (keyOf (k2_pay20 (F := F) (BitVec.ofNat 32 (cntOf ix (lo L))) t v)) (x 0)) := by
    intro x
    rw [hrk0 x, show Scf.trips k2_t3_loop.lb k2_t3_loop.ub k2_t3_loop.st = 16 from t3_trips, before_all]
  have h4 := chk4 hrk
  unfold claim_trip.sl.prog.cont_1
  rw [wp_assume_of _ _ _ _ h4]
  ihave HS := (Entails.of_eq (pts_S (F := F) d L _).symm) $$ HS
  iapply (SparseCore.wp_vectorStoreIdx 𝒱₀ (tV d L) none Set.univ (base := bS)) $$ HS; iintro HS
  ihave HS := (Entails.of_eq (pts_S (F := F) d L _)) $$ HS
  rw [write_S, whole_S]
  iapply (wp_load 𝒱₀ (tV d L) none Set.univ (m := bS) (S := Finset.univ) (Finset.subset_univ _)) $$ HS; iintro HS
  iapply (wp_load 𝒱₀ (tV d L) none Set.univ (m := bS) (S := Finset.univ) (Finset.subset_univ _)) $$ HS; iintro HS
  rw [read_S]
  iapply (wp_store 𝒱₀ (tV d L) none Set.univ (m := bS) (r := Rect.unit (s := S16) ![0] S16.size inb_S16_S16_0) (Mk := Finset.univ) (S := Finset.univ) (Finset.subset_univ _)) $$ HS
  iintro HS
  rw [store_S]
  rw [wp_assume_of _ _ _ _ chk5]
  iapply (SparseCore.wp_vectorLoadIdx 𝒱₀ (tV d L) none Set.univ (base := bS) (S := Finset.univ) (q := fullShare) (Finset.subset_univ _)) $$ HS; iintro HS
  rw [whole_S]
  obtain ⟨h6, hcl⟩ := claim_words hE hpk rk hrk (k2_idx3_inb rk h4) _ _ rfl
    (loadIdx (k2_pay23 (F := F) (storeIdx (k2_pay20 (F := F) (BitVec.ofNat 32 (cntOf ix (lo L))) t v : Vec F S16 .i32) ![rk] (k2_pay20 (F := F) (BitVec.ofNat 32 (cntOf ix (lo L))) t v) (fun _ => 1#1) false (k2_idx3_inb rk h4))) ![k2_pay24] (k2_idx4_inb _ chk5))
    (fun x y hy => congrArg (k2_pay23 (F := F) _) (funext fun a => by
      match a with
      | 0 =>
        refine Fin.ext (Eq.trans ?_ hy.symm)
        show (k2_pay24 x).toNat = _
        rw [next_word, BitVec.toNat_ofNat]; omega))
  rw [wp_assume_of _ _ _ _ h6]
  ihave HC := (Entails.of_eq (pts_C (F := F) d L _).symm) $$ HC
  iapply (SparseCore.wp_vectorStoreIdx 𝒱₀ (tV d L) none Set.univ (base := bC)) $$ HC; iintro HC
  ihave HC := (Entails.of_eq (pts_C (F := F) d L _)) $$ HC
  rw [write_C, whole_C]
  rw [wp_ret]; imodintro
  isplitl [HP]
  · iexists f
    isplitr; · ipureintro; exact hf
    iexact HP
  isplitl [HS]
  · iexists _; iexact HS
  iexists _
  isplitr; swap; · iexact HC
  ipureintro
  exact hcl _ _ h9

/-! ## The choice of the winners -/

/-- Before trip `k` of the choice: the winners among the first `16 k` entries are packed at the list's start. -/
def keepInv (k : ℕ) (acc : BitVec 32) : sProp 𝕄 :=
  iprop(⌜acc = BitVec.ofNat 32 (Nat.count (Kept ix (lo L)) (16 * k))⌝
    ∗ (∃ f : Vec F S16400 .i32, ⌜Listed ix (lo L) f⌝ ∗ (tV d L).loc cc2_scratch1 ↦{fullShare} f)
    ∗ (∃ f : Vec F S3141 .i32, ⌜Claimed (rwOf ix (lo L)) (entOf ix (lo L)) (cntOf ix (lo L)) (cntOf ix (lo L)) f⌝ ∗ (tV d L).loc cc2_scratch3 ↦{fullShare} f)
    ∗ ∃ f : Vec F S16400 .i32, ⌜Packed (Kept ix (lo L)) (fun k => pack (rwOf ix (lo L) k) (entOf ix (lo L) k)) (16 * k) f⌝
      ∗ (tV d L).loc cc2_scratch2 ↦{fullShare} f)

theorem keep_trip (v6 : BitVec 32) (h6 : v6 = BitVec.ofNat 32 (cntOf ix (lo L))) (hw2 : k2_chk2 v6) (t : Fin (k2_t6_loop v6).trips) (acc : BitVec 32) :
    keepInv d L ix t acc ⊢ wp frame (wpE (defs₀ (F := F)) 𝒱₀ (tV d L) none) Set.univ
      (k2_t6_body (F := F) L oV (Memref.isWhole_whole _) hV (Memref.isWhole_whole _) iV (Memref.isWhole_whole _) oV (Memref.isWhole_whole _)
        bI (Memref.isWhole_whole _) bP (Memref.isWhole_whole _) bW (Memref.isWhole_whole _) bC (Memref.isWhole_whole _) bS (Memref.isWhole_whole _)
        cc2_scratch5 cc2_scoped0 (iota .scVector S16 32 [0] iota_S16_d0_w32_scVector) v6 hw2 0#32 t acc) (keepInv d L ix (t.val + 1)) := by
  subst h6
  unfold keepInv k2_t6_body
  simp only [Prog.lift, Prog.bind_op, Prog.bind_ret, Prog.pure_eq_ret]
  iintro ⟨%hacc, ⟨%f, %hf, HP⟩, ⟨%f9, %h9, HC⟩, %fw, %hw, HW⟩
  iapply (wp_load 𝒱₀ (tV d L) none Set.univ (m := bP) (S := Finset.univ) (Finset.subset_univ _)) $$ HP; iintro HP
  have hv : ∀ (x : S16.Idx) (z : S16400.Idx), (z 0).val = 16 * t.val + (x 0).val →
      bP.view.readAt (Elt F) (Rect.unit (s := S16400) (k2_off4 (BitVec.ofNat 32 (cntOf ix (lo L))) t) S16.size (k2_off4_inb _ hw2 t)).toLoadRect f x = f z :=
    fun x z hz => read_P f _ _ x z (by rw [off4 (cntOf_le ix (lo L))]; exact hz)
  generalize bP.view.readAt (Elt F) (Rect.unit (s := S16400) (k2_off4 (BitVec.ofNat 32 (cntOf ix (lo L))) t) S16.size (k2_off4_inb _ hw2 t)).toLoadRect f = v at *
  obtain ⟨h11, hrest⟩ := keep_step hf t v hv acc hacc _ rfl
  rw [wp_assume_of _ _ _ _ h11]
  iapply (SparseCore.wp_vectorLoadIdx 𝒱₀ (tV d L) none Set.univ (base := bC) (S := Finset.univ) (q := fullShare) (Finset.subset_univ _)) $$ HC; iintro HC
  rw [whole_C]
  obtain ⟨h12, hpkd, hcnt⟩ := hrest f9 h9 (loadIdx f9 ![k2_pay2 (iota .scVector S16 32 [0] iota_S16_d0_w32_scVector) (BitVec.ofNat 32 (cntOf ix (lo L))) 0#32 t v] (k2_idx10_inb _ h11)) (fun x z hz => at_lane f9 _ _ x z hz)
  rw [wp_assume_of _ _ _ _ h12]
  ihave HW := (Entails.of_eq (pts_W (F := F) d L _).symm) $$ HW
  iapply (SparseCore.wp_vectorStoreIdx 𝒱₀ (tV d L) none Set.univ (base := bW)) $$ HW; iintro HW
  ihave HW := (Entails.of_eq (pts_W (F := F) d L _)) $$ HW
  rw [write_W, whole_W]
  rw [wp_ret]; imodintro
  isplitr; · ipureintro; exact hcnt
  isplitl [HP]
  · iexists f
    isplitr; · ipureintro; exact hf
    iexact HP
  isplitl [HC]
  · iexists f9
    isplitr; · ipureintro; exact h9
    iexact HC
  iexists _
  isplitr; swap; · iexact HW
  ipureintro
  exact hpkd _ _ hw

end Tile

end Cert.Proof.Scatter

end
-- ==== Proof.Rows.lean ====
/-
  The scatter kernel's row copies on one vector subcore: each winner's copy issued into a batch on the one semaphore, and
  the waits that drain it.
-/
module

public import proofs.«01_k».proof.Proof.Loops

@[expose] public section

noncomputable section

namespace Cert.Proof.Scatter

open Cert.KernelIdeal Cert.KernelIdeal.Gen
open Cert.Proof.Lanes Cert.Proof.Trips Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN Batch pending)

variable {F : FTy → Type}

local notation "𝕄" => MT nD τ sig (HIx 2) (Elt F) ℕ UU ℕ

/-! ## One row of the array -/

/-- The elements of row `R` of the array. -/
def rowSet (R : ℕ) : Finset S100000x256.Idx := Finset.univ.filter fun z => (z 0).val = R

theorem mem_rowSet {R : ℕ} {z : S100000x256.Idx} : z ∈ rowSet R ↔ (z 0).val = R := by simp [rowSet]

theorem rowSet_disjoint {R R' : ℕ} (h : R ≠ R') : Disjoint (rowSet R) (rowSet R') :=
  Finset.disjoint_left.mpr fun _ h1 h2 => h ((mem_rowSet.mp h1).symm.trans (mem_rowSet.mp h2))

/-- Row `o 0` of the array, and of the rows to be written, as a copy names them. -/
abbrev oRow (o : Fin 2 → ℕ) (h : ∀ a, o a + S1x256.size a ≤ S100000x256.size a) : Memref sig .scVector .hbm S1x256 .f32 :=
  oV.slice (Rect.unit (s := S100000x256) o S1x256.size h) (fun _ => rfl)
abbrev hRow (o : Fin 2 → ℕ) (h : ∀ a, o a + S1x256.size a ≤ S16384x256.size a) : Memref sig .scVector .hbm S1x256 .f32 :=
  hV.slice (Rect.unit (s := S16384x256) o S1x256.size h) (fun _ => rfl)

theorem oRow_emb (o : Fin 2 → ℕ) (h : ∀ a, o a + S1x256.size a ≤ S100000x256.size a) (x : S1x256.Idx) (a : Fin 2) :
    ((oRow o h).view.emb x a).val = o a + (x a).val := by
  show o a + 1 * (x a).val = _
  rw [Nat.one_mul]
theorem hRow_emb (o : Fin 2 → ℕ) (h : ∀ a, o a + S1x256.size a ≤ S16384x256.size a) (x : S1x256.Idx) (a : Fin 2) :
    ((hRow o h).view.emb x a).val = o a + (x a).val := by
  show o a + 1 * (x a).val = _
  rw [Nat.one_mul]

theorem oRow_sub {R : ℕ} (o : Fin 2 → ℕ) (h : ∀ a, o a + S1x256.size a ≤ S100000x256.size a) (ho : o = ![R, 0]) :
    (oRow o h).view.set ⊆ rowSet R := by
  intro z hz
  obtain ⟨x, -, rfl⟩ := Finset.mem_map.mp hz
  rw [mem_rowSet]
  have h0 : (x 0).val < 1 := (x 0).isLt
  have := oRow_emb o h x 0
  subst ho
  have e : (![R, 0] : Fin 2 → ℕ) 0 = R := rfl
  rw [e] at this
  omega

/-- What a winner's copy leaves in its row. -/
theorem row_landed [FloatOps F] {ix : Vec F S16384 .i32} {fh : Vec F S16384x256 .f32} {fo : Vec F S100000x256 .f32} {R e : ℕ}
    (hl : LastNaming ix (R : ℤ) e) (o : Fin 2 → ℕ) (h : ∀ a, o a + S1x256.size a ≤ S100000x256.size a) (ho : o = ![R, 0])
    (o' : Fin 2 → ℕ) (h' : ∀ a, o' a + S1x256.size a ≤ S16384x256.size a) (ho' : o' = ![e, 0]) (z : S100000x256.Idx) (hz : z ∈ rowSet R) :
    (oRow o h).view.write (Elt F) fo ((hRow o' h').view.read (Elt F) fh) Finset.univ z = scat ix fh fo z := by
  rw [mem_rowSet] at hz
  let x : S1x256.Idx := fun a => match a with | 0 => (0 : Fin 1) | 1 => z 1
  have hx : (oRow o h).view.emb x = z := by
    funext a
    refine Fin.ext ((oRow_emb o h x a).trans ?_)
    subst ho
    match a with
    | 0 => exact (Nat.add_zero _).trans hz.symm
    | 1 => exact Nat.zero_add _
  rw [← hx, View.write_emb_of_mem _ _ (Finset.mem_univ x), hx]
  refine (cast_eq _ _).trans ?_
  refine ((View.read_apply _ _).trans (cast_eq _ _)).trans ?_
  subst ho'
  refine (scat_hit (by rw [hz]; exact hl) _ ?_ ?_).symm
  · exact (hRow_emb _ h' x 0).trans (Nat.add_zero _)
  · exact (hRow_emb _ h' x 1).trans (Nat.zero_add _)

/-- The word the issue of copy `k` reads: winner `k`'s. -/
theorem word_fired [FloatOps F] (ix : Vec F S16384 .i32) (l : ℕ) {f : Vec F S16400 .i32} (hf : Written ix l f) {k : ℕ} (hk : k < wcOf ix l)
    (o : Fin 1 → ℕ) (h : ∀ a, o a + S16.size a ≤ S16400.size a) (ho : o = ![k]) :
    extractAt ![0] (k2_pay13 (F := F) (bW.view.readAt (Elt F) (Rect.unit (s := S16400) o S16.size h).toLoadRect f)) inpos_S1_p0
      = pack (wRow ix l k) (wEnt ix l k) := by
  have hn := wcOf_le ix l
  rw [word_read, read_W f _ _ (ln 0) (Shape.ofLane (d := ![16400]) ⟨k, by show _ < 16400; omega⟩) (by rw [ho]; rfl)]
  exact hf _ hk _ rfl

section Tile

variable [FloatOps F] (d : Dev nD) (L : grid2.Coords)
variable (ix : Vec F S16384 .i32) (fh : Vec F S16384x256 .f32) (fo : Vec F S100000x256 .f32) (qh : PosShare TreeShare)

/-- The units one row's copy credits its semaphore. -/
abbrev NR : ℕ := (oRow ![0, 0] inb_S100000x256_S1x256_0_0).view.dmaCredit

theorem row_amount (o : Fin 2 → ℕ) (h : ∀ a, o a + S1x256.size a ≤ S100000x256.size a) :
    (oRow o h).view.amount (.dma cc2_scratch5.sem) = NR := rfl

theorem NR_pos : 0 < NR := View.dmaCredit_pos _ (by decide)

/-- The number of winners of the tile. -/
abbrev wc (ix : Vec F S16384 .i32) (L : grid2.Coords) : ℕ := wcOf ix (lo L)

/-- Winner `j`'s row of the array, at contents `f`. -/
abbrev rowPts (f : Vec F S100000x256 .f32) (j : ℕ) : sProp 𝕄 :=
  (tV d L).loc main_v17_scv ↦[rowSet (lo L + wRow ix (lo L) j)]{fullShare} f

/-- What winner `j`'s copy delivers: its row, written. -/
def Dlv (j : Fin (wc ix L)) : sProp 𝕄 := rowPts d L ix (scat ix fh fo) j.val

instance Dlv_storable (j : Fin (wc ix L)) : Storable (upEmb : UEmb _ 𝕄) (Dlv d L ix fh fo j) := by unfold Dlv; infer_instance

theorem row_done {j : ℕ} (hj : j < wc ix L) (o : Fin 2 → ℕ) (h : ∀ a, o a + S1x256.size a ≤ S100000x256.size a) (ho : o = ![lo L + wRow ix (lo L) j, 0])
    (o' : Fin 2 → ℕ) (h' : ∀ a, o' a + S1x256.size a ≤ S16384x256.size a) (ho' : o' = ![wEnt ix (lo L) j, 0]) (X : sProp 𝕄) :
    iprop(((oRow o h).view.loc (tV d L) ↦[rowSet (lo L + wRow ix (lo L) j)]{fullShare}
        (oRow o h).view.write (Elt F) fo (ReadAs.same.apply ((hRow o' h').view.read (Elt F) fh)) Finset.univ) ∗ X) ⊢ Dlv d L ix fh fo ⟨j, hj⟩ := by
  iintro ⟨Hd, -⟩
  unfold Dlv
  ihave Hd := (Entails.of_eq (pointsTo_congr (ℓ := (tV d L).loc main_v17_scv) (q := fullShare) (I := rowSet (lo L + wRow ix (lo L) j))
    (f := (oRow o h).view.write (Elt F) fo ((hRow o' h').view.read (Elt F) fh) Finset.univ) (g := scat ix fh fo)
    (fun z hz => row_landed (lastNaming_win ix (lo L) hj) o h ho o' h' ho' z hz))) $$ Hd
  iexact Hd

/-- Before the issue of copy `k`: the winners' list, the rows and the shares of the copies to come, and the batch. -/
def fireInv (k : ℕ) : sProp 𝕄 :=
  iprop((∃ f : Vec F S16400 .i32, ⌜Written ix (lo L) f⌝ ∗ (tV d L).loc cc2_scratch2 ↦{fullShare} f)
    ∗ bigSep (pending k) (fun j : Fin (wc ix L) => iprop(rowPts d L ix fo j.val ∗ (tV d L).loc main_v16_1_scv ↦{shareTokN qh j.val} fh))
    ∗ Batch countersEmb (tV d L) (.dma cc2_scratch5.sem) (default : HIx 2) NR (Dlv d L ix fh fo) k 0)

theorem fire_trip (v38 : BitVec 32) (h38 : v38 = BitVec.ofNat 32 (wc ix L)) (hw15 : k2_chk15 v38) (t : Fin (k2_t8_loop v38).trips) (acc : BitVec 32) :
    fireInv d L ix fh fo qh t ⊢ wp frame (wpE (defs₀ (F := F)) 𝒱₀ (tV d L) none) Set.univ
      (k2_t8_body (F := F) L oV (Memref.isWhole_whole _) hV (Memref.isWhole_whole _) iV (Memref.isWhole_whole _) oV (Memref.isWhole_whole _)
        bI (Memref.isWhole_whole _) bP (Memref.isWhole_whole _) bW (Memref.isWhole_whole _) bC (Memref.isWhole_whole _) bS (Memref.isWhole_whole _)
        cc2_scratch5 cc2_scoped0 v38 hw15 t acc) (fun _ => fireInv d L ix fh fo qh (t.val + 1)) := by
  subst h38
  have hn : wc ix L ≤ 16384 := wcOf_le ix (lo L)
  have ht : t.val < wc ix L := lt_of_lt_of_eq t.isLt (t8_trips hn)
  unfold fireInv k2_t8_body
  simp only [Prog.lift, Prog.bind_op, Prog.bind_ret, Prog.pure_eq_ret]
  iintro ⟨⟨%f, %hf, HW⟩, HR, HB⟩
  iapply (wp_load 𝒱₀ (tV d L) none Set.univ (m := bW) (S := Finset.univ) (Finset.subset_univ _)) $$ HW; iintro HW
  have hv := word_fired (F := F) ix (lo L) hf ht _ (k2_off6_inb _ hw15 t) (off6 hn t)
  obtain ⟨h16, h7, h8⟩ := fire_word L (wRow_lt ix (lo L) ht) (wEnt_lt ix (lo L) ht) hv
  rw [wp_assume_of _ _ _ _ h16]
  ihave HR' := (Entails.of_eq (show bigSep (pending t.val) (fun j : Fin (wc ix L) => iprop(rowPts d L ix fo j.val ∗ (tV d L).loc main_v16_1_scv ↦{shareTokN qh j.val} fh))
      = iprop((rowPts d L ix fo t.val ∗ (tV d L).loc main_v16_1_scv ↦{shareTokN qh t.val} fh)
        ∗ bigSep (pending (t.val + 1)) (fun j : Fin (wc ix L) => iprop(rowPts d L ix fo j.val ∗ (tV d L).loc main_v16_1_scv ↦{shareTokN qh j.val} fh))) by
      rw [Transfers.pending_succ ht, bigSep_insert (Transfers.not_mem_pending_succ ht)]; rfl)) $$ HR
  icases HR' with ⟨⟨Hrow, Hsrc⟩, HR⟩
  ihave Hs2 := (pointsTo_split_subset (q := shareTokN qh t.val) (f := fh) (S := Finset.univ) (Finset.subset_univ (hRow (k2_off8 _) (k2_off8_inb L _ h16)).view.set)).1 $$ Hsrc
  icases Hs2 with ⟨Hsrc, -⟩
  iapply (Transfers.wp_dmaBatch countersEmb 𝒱₀ (tV d L) none (src := hRow (k2_off8 _) (k2_off8_inb L _ h16)) (dst := oRow (k2_off7 L _) (k2_off7_inb L _ h16))
    (Sd := rowSet (lo L + wRow ix (lo L) t.val)) (fd := fo) (fs := fh) (q := shareTokN qh t.val) (D := Dlv d L ix fh fo) (j := t.val) (u := 0)
    (default : HIx 2) NR (row_amount _ _) (oRow_sub _ _ h7) ht (Nat.zero_le _)
    (row_done d L ix fh fo ht _ _ h7 _ _ h8 _)) $$ [Hsrc Hrow HB]
  · isplitl [Hsrc]; · iexact Hsrc
    isplitl [Hrow]; · iexact Hrow
    iexact HB
  iintro HB
  rw [wp_ret]; imodintro
  isplitl [HW]
  · iexists f
    isplitr; · ipureintro; exact hf
    iexact HW
  isplitl [HR]; · iexact HR
  iexact HB

/-- Before wait `k`: the batch with `k` rows' units consumed, and what the core owes. -/
def drainInv (O : CellTallies nD τ sig (HIx 2)) (W : Waits sig (HIx 2)) (k : ℕ) : sProp 𝕄 :=
  iprop(levAts (K (F := F)).L (K (F := F)).lev ∗ Batch countersEmb (tV d L) (.dma cc2_scratch5.sem) (default : HIx 2) NR (Dlv d L ix fh fo) (wc ix L) (NR * k)
    ∗ ∃ W', ⌜∀ p ∈ W', p ∈ W ∨ p.2 = none⌝ ∗ owes (tV d L) O W')

theorem drain_trip (O : CellTallies nD τ sig (HIx 2)) (W : Waits sig (HIx 2)) (hO : ∀ g, O g none = 0)
    (v38 : BitVec 32) (h38 : v38 = BitVec.ofNat 32 (wc ix L)) (hw15 : k2_chk15 v38) (t : Fin (k2_t10_loop v38).trips) (acc : BitVec 32) :
    drainInv d L ix fh fo O W t ⊢ wp frame (wpE (defs₀ (F := F)) 𝒱₀ (tV d L) none) Set.univ
      (k2_t10_body (F := F) L oV (Memref.isWhole_whole _) hV (Memref.isWhole_whole _) iV (Memref.isWhole_whole _) oV (Memref.isWhole_whole _)
        bI (Memref.isWhole_whole _) bP (Memref.isWhole_whole _) bW (Memref.isWhole_whole _) bC (Memref.isWhole_whole _) bS (Memref.isWhole_whole _)
        cc2_scratch5 cc2_scoped0 v38 hw15 t acc) (fun _ => drainInv d L ix fh fo O W (t.val + 1)) := by
  subst h38
  have ht : t.val < wc ix L := lt_of_lt_of_eq t.isLt (t10_trips (wcOf_le ix (lo L)))
  unfold drainInv k2_t10_body
  simp only [Prog.lift, Prog.bind_op, Prog.bind_ret, Prog.pure_eq_ret]
  iintro ⟨#Hlv, HB, %W', %hW', HO⟩
  iapply (Transfers.wp_waitBatchMulO countersEmb 𝒱₀ (tV d L) none (default : HIx 2) (N := NR) 1 (Nat.one_mul NR).symm (D := Dlv d L ix fh fo) (j := wc ix L) (u := NR * t.val)
    (by rw [Nat.one_mul, ← Nat.mul_succ]; exact Nat.mul_le_mul_left _ ht) (O := O) (W := W')) $$ [HB HO]
  · isplitl [HB]; · iexact HB
    isplitl [HO]; · iexact HO
    iapply ((K (F := F)).mayWait_none (SemLoc.dma cc2_scratch5.sem) hO) $$ Hlv
  iintro ⟨HB, HO⟩
  rw [wp_ret]; imodintro
  isplitr; · iexact Hlv
  isplitl [HB]
  · iapply (Entails.of_eq (by rw [Nat.one_mul, ← Nat.mul_succ])) $$ HB
  iexists _
  isplitr; swap; · iexact HO
  ipureintro
  intro p hp
  rcases Finset.mem_insert.mp hp with hp | hp
  · exact .inr (hp ▸ rfl)
  · exact hW' p hp

end Tile

end Cert.Proof.Scatter

end
-- ==== Proof.Tile.lean ====
/-
  The scatter kernel on one vector subcore: from a share of the index list and of the rows, and the subcore's rows of the
  array, to those rows with the last named entries written.
-/
module

public import proofs.«01_k».proof.Proof.Rows

@[expose] public section

noncomputable section

namespace Cert.Proof.Scatter

open Cert.KernelIdeal Cert.KernelIdeal.Gen
open Cert.Proof.Lanes Cert.Proof.Trips Cert.Proof.Words

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN Batch pending)

variable {F : FTy → Type}

local notation "𝕄" => MT nD τ sig (HIx 2) (Elt F) ℕ UU ℕ

/-! ## A region as parts and what they leave over -/

section Parts

variable {ℓ : Loc nD τ sig} {n : ℕ}

/-- What the parts `R` leave of the region `T`. -/
def leftOver (T : Finset (Idx ℓ)) (R : Fin n → Finset (Idx ℓ)) : Finset (Idx ℓ) := T \ Finset.univ.biUnion R

theorem parts_split (T : Finset (Idx ℓ)) (R : Fin n → Finset (Idx ℓ)) (hs : ∀ j, R j ⊆ T) (hd : ∀ j j', j ≠ j' → Disjoint (R j) (R j'))
    (f : Buf (Elt F) ℓ) : (ℓ ↦[T]{fullShare} f : sProp 𝕄)
      ⊢ iprop(bigSep Finset.univ (fun j => ℓ ↦[R j]{fullShare} f) ∗ ℓ ↦[leftOver T R]{fullShare} f) := by
  have hsub : Finset.univ.biUnion R ⊆ T := Finset.biUnion_subset.mpr fun j _ => hs j
  iintro H
  ihave H := (pointsTo_split_subset (q := fullShare) (f := f) hsub).1 $$ H
  icases H with ⟨H1, H2⟩
  isplitl [H1]; swap; · iexact H2
  ihave H1 := (Entails.of_eq (pointsTo_biUnion (q := fullShare) (f := f) Finset.univ R (fun j _ j' _ h => hd j j' h))) $$ H1
  iexact H1

theorem parts_join (T : Finset (Idx ℓ)) (R : Fin n → Finset (Idx ℓ)) (hs : ∀ j, R j ⊆ T) (hd : ∀ j j', j ≠ j' → Disjoint (R j) (R j'))
    (f g : Buf (Elt F) ℓ) (hm : ∀ z ∈ T, (∀ j, z ∉ R j) → f z = g z) :
    iprop(bigSep Finset.univ (fun j => ℓ ↦[R j]{fullShare} g) ∗ ℓ ↦[leftOver T R]{fullShare} f) ⊢ (ℓ ↦[T]{fullShare} g : sProp 𝕄) := by
  have hsub : Finset.univ.biUnion R ⊆ T := Finset.biUnion_subset.mpr fun j _ => hs j
  have hm' : ∀ z ∈ leftOver T R, f z = g z := by
    intro z hz
    unfold leftOver at hz
    rw [Finset.mem_sdiff] at hz
    exact hm z hz.1 fun j hj => hz.2 (Finset.mem_biUnion.mpr ⟨j, Finset.mem_univ _, hj⟩)
  rw [pointsTo_congr (ℓ := ℓ) (q := fullShare) hm', ← pointsTo_biUnion (q := fullShare) (f := g) Finset.univ R (fun j _ j' _ h => hd j j' h)]
  exact (pointsTo_split_subset (q := fullShare) (f := g) hsub).2

end Parts

section Tile

variable [FloatOps F] (d : Dev nD) (L : grid2.Coords)
variable (ix : Vec F S16384 .i32) (fh : Vec F S16384x256 .f32) (fo : Vec F S100000x256 .f32) (qi qh : PosShare TreeShare)

/-- The array's rows from `l` on that one subcore looks after. -/
def tileRows (l : ℕ) : Finset S100000x256.Idx := Finset.univ.filter fun z => l ≤ (z 0).val ∧ (z 0).val < l + 3125

theorem mem_tileRows {l : ℕ} {z : S100000x256.Idx} : z ∈ tileRows l ↔ l ≤ (z 0).val ∧ (z 0).val < l + 3125 := by simp [tileRows]

/-- The rows of the winners, as the copies write them. -/
abbrev winRow (j : Fin (wc ix L)) : Finset (Idx ((tV d L).loc main_v17_scv)) := rowSet (lo L + wRow ix (lo L) j.val)

theorem winRow_sub (j : Fin (wc ix L)) : winRow d L ix j ⊆ tileRows (lo L) := by
  intro z hz
  have h1 := mem_rowSet.mp hz
  have h2 := wRow_lt ix (lo L) j.isLt
  exact mem_tileRows.mpr (by omega)

theorem winRow_disjoint (j j' : Fin (wc ix L)) (hne : j ≠ j') : Disjoint (winRow d L ix j) (winRow d L ix j') :=
  rowSet_disjoint fun h => hne (Fin.ext (wRow_inj ix (lo L) j.isLt j'.isLt (by omega)))

theorem rows_split : ((tV d L).loc main_v17_scv ↦[tileRows (lo L)]{fullShare} fo : sProp 𝕄)
    ⊢ iprop(bigSep Finset.univ (fun j : Fin (wc ix L) => rowPts d L ix fo j.val)
      ∗ (tV d L).loc main_v17_scv ↦[leftOver (ℓ := (tV d L).loc main_v17_scv) (tileRows (lo L)) (winRow d L ix)]{fullShare} fo) :=
  parts_split (ℓ := (tV d L).loc main_v17_scv) (tileRows (lo L)) (winRow d L ix) (winRow_sub d L ix) (winRow_disjoint d L ix) fo

theorem rows_join : iprop(bigSep Finset.univ (fun j : Fin (wc ix L) => Dlv d L ix fh fo j)
      ∗ (tV d L).loc main_v17_scv ↦[leftOver (ℓ := (tV d L).loc main_v17_scv) (tileRows (lo L)) (winRow d L ix)]{fullShare} fo)
    ⊢ ((tV d L).loc main_v17_scv ↦[tileRows (lo L)]{fullShare} scat ix fh fo : sProp 𝕄) := by
  unfold Dlv
  refine parts_join (ℓ := (tV d L).loc main_v17_scv) (tileRows (lo L)) (winRow d L ix) (winRow_sub d L ix) (winRow_disjoint d L ix) fo (scat ix fh fo) ?_
  intro z h1 h2
  refine (scat_miss fun e he => ?_).symm
  obtain ⟨g1, g2⟩ := mem_tileRows.mp h1
  obtain ⟨j, hj, hr, -⟩ := exists_win ix (lo L) he g1 g2
  exact h2 ⟨j, hj⟩ (mem_rowSet.mpr hr.symm)

omit [FloatOps F] in
theorem bigSep_fin_range (n : ℕ) (Φ : ℕ → sProp 𝕄) : bigSep (Finset.range n) Φ = bigSep Finset.univ (fun j : Fin n => Φ j.val) := by
  have h : Finset.range n = (Finset.univ : Finset (Fin n)).map Fin.valEmbedding := by
    ext k
    simp only [Finset.mem_range, Finset.mem_map, Finset.mem_univ, true_and, Fin.valEmbedding_apply]
    exact ⟨fun h => ⟨⟨k, h⟩, rfl⟩, fun ⟨a, ha⟩ => ha ▸ a.isLt⟩
  rw [h, bigSep_map]
  rfl

omit [FloatOps F] in
/-- What the copies are started from: every row written, and a part of the rows' share for each. -/
theorem fire_start {n : ℕ} (R : Fin n → sProp 𝕄) {ℓ : Loc nD τ sig} (q : PosShare TreeShare) (f : Buf (Elt F) ℓ) :
    iprop((bigSep Finset.univ R) ∗ (ℓ ↦{q} f))
      ⊢ (bigSep (Transfers.pending 0) (fun j : Fin n => iprop(R j ∗ ℓ ↦{shareTokN q j.val} f)) : sProp 𝕄) := by
  rw [Transfers.pending_zero, bigSep_sep']
  iintro ⟨Hr, H⟩
  isplitl [Hr]; · iexact Hr
  ihave H := (Transfers.pointsTo_toks_range q n).1 $$ H
  icases H with ⟨-, H⟩
  iapply (Entails.of_eq (bigSep_fin_range n (fun j => ℓ ↦{shareTokN q j} f)))
  iexact H

abbrev aCell (d : Dev nD) (L : grid2.Coords) : GSem nD τ sig := (tV d L, .dma cc2_scoped0.sem)
abbrev bCell (d : Dev nD) (L : grid2.Coords) : GSem nD τ sig := (tV d L, .dma cc2_scratch5.sem)

omit [FloatOps F] in
theorem ownSems0_V :
    (ownSems0 (tV d L) : sProp 𝕄)
      = iprop(semVal (aCell d L) 0 ∗ semVal (bCell d L) 0
          ∗ bigSep (((ownCells (tV d L)).erase (aCell d L)).erase (bCell d L)) fun g => semVal g 0) := by
  unfold SparseCore.Cfg.ownSems0
  rw [SparseCore.bigSep_erase' ((mem_ownCells (g := aCell d L)).mpr ⟨rfl, by
      show (SemLoc.dma cc2_scoped0.sem : SemLoc sig).isScoped .scVector = true; decide⟩),
    SparseCore.bigSep_erase' (Finset.mem_erase.mpr ⟨by simp [aCell, bCell]; decide, (mem_ownCells (g := bCell d L)).mpr ⟨rfl, by
      show (SemLoc.dma cc2_scratch5.sem : SemLoc sig).isScoped .scVector = true; decide⟩⟩)]

/-- A scratch buffer of the subcore among its own. -/
abbrev sRef (L : grid2.Coords) (b : Ref sig .scVector) : DevRef τ sig := (Proc.scVector (cV L) (jV L)).devRef b

omit [FloatOps F] in
theorem ownBufs_V :
    (ownBufs (tV d L) : sProp 𝕄)
      = iprop((∃ f, (tV d L).loc cc2_scratch0 ↦{fullShare} f) ∗ (∃ f, (tV d L).loc cc2_scratch1 ↦{fullShare} f)
          ∗ (∃ f, (tV d L).loc cc2_scratch2 ↦{fullShare} f) ∗ (∃ f, (tV d L).loc cc2_scratch3 ↦{fullShare} f)
          ∗ (∃ f, (tV d L).loc cc2_scratch4 ↦{fullShare} f)
          ∗ bigSep ((((((ownRefs (τ := τ) (.scVector (cV L) (jV L))).erase (sRef L cc2_scratch0)).erase (sRef L cc2_scratch1)).erase
              (sRef L cc2_scratch2)).erase (sRef L cc2_scratch3)).erase (sRef L cc2_scratch4))
              fun b => iprop(∃ f, ((d, b) : Loc nD τ sig) ↦{fullShare} f)) := by
  unfold SparseCore.Cfg.ownBufs
  have hne : ∀ b b' : Ref sig .scVector, b ≠ b' → sRef L b ≠ sRef L b' := fun b b' h e => h (Proc.devRef_injective _ e)
  have hm : ∀ b : Ref sig .scVector, (sRef L b).owner = .proc (Proc.scVector (cV L) (jV L)) → sRef L b ∈ ownRefs (τ := τ) (.scVector (cV L) (jV L)) :=
    fun b h => SparseCore.Cfg.mem_ownRefs_of_owner h
  have h0 := hm cc2_scratch0 rfl
  have h1 : sRef L cc2_scratch1 ∈ _ := Finset.mem_erase.mpr ⟨hne _ cc2_scratch0 (by decide), hm cc2_scratch1 rfl⟩
  have h2 : sRef L cc2_scratch2 ∈ _ := Finset.mem_erase.mpr ⟨hne _ cc2_scratch1 (by decide), Finset.mem_erase.mpr ⟨hne _ cc2_scratch0 (by decide), hm cc2_scratch2 rfl⟩⟩
  have h3 : sRef L cc2_scratch3 ∈ _ := Finset.mem_erase.mpr ⟨hne _ cc2_scratch2 (by decide), Finset.mem_erase.mpr ⟨hne _ cc2_scratch1 (by decide),
    Finset.mem_erase.mpr ⟨hne _ cc2_scratch0 (by decide), hm cc2_scratch3 rfl⟩⟩⟩
  have h4 : sRef L cc2_scratch4 ∈ _ := Finset.mem_erase.mpr ⟨hne _ cc2_scratch3 (by decide), Finset.mem_erase.mpr ⟨hne _ cc2_scratch2 (by decide),
    Finset.mem_erase.mpr ⟨hne _ cc2_scratch1 (by decide), Finset.mem_erase.mpr ⟨hne _ cc2_scratch0 (by decide), hm cc2_scratch4 rfl⟩⟩⟩⟩
  refine (SparseCore.bigSep_erase' h0).trans ?_
  rw [SparseCore.bigSep_erase' h1, SparseCore.bigSep_erase' h2, SparseCore.bigSep_erase' h3, SparseCore.bigSep_erase' h4]

omit [FloatOps F] in
theorem claimed_zero (rw' pe : ℕ → ℕ) (cnt : ℕ) (f : Vec F S3141 .i32) : Claimed rw' pe cnt (16 * 0) f := by
  intro k hk
  exact absurd hk.1 (by omega)

omit [FloatOps F] in
theorem claimed_full {rw' pe : ℕ → ℕ} {cnt n : ℕ} (h : cnt ≤ n) {f : Vec F S3141 .i32} (hf : Claimed rw' pe cnt n f) : Claimed rw' pe cnt cnt f := by
  unfold Claimed at *
  rw [Nat.min_eq_right h] at hf
  rw [Nat.min_self]
  exact hf

/-- What the subcore is handed: a share of the index list, a share of the rows, and its own rows of the array. -/
abbrev goPts : sProp 𝕄 :=
  iprop(((tV d L).loc main_arg1_scv ↦{qi} ix) ∗ ((tV d L).loc main_v16_1_scv ↦{qh} fh) ∗ ((tV d L).loc main_v17_scv ↦[tileRows (lo L)]{fullShare} fo))
/-- What it hands back: its own rows. -/
abbrev tdPts (f : Vec F S100000x256 .f32) : sProp 𝕄 := (tV d L).loc main_v17_scv ↦[tileRows (lo L)]{fullShare} f

attribute [local irreducible] wcOf

set_option maxHeartbeats 4000000 in
theorem tile_body (hF : (K (F := F)).Facts) (O : CellTallies nD τ sig (HIx 2)) (W : Waits sig (HIx 2)) (hO : ∀ g, O g none = 0) :
    iprop(levAts (K (F := F)).L (K (F := F)).lev ∗ emp
        ∗ goPts d L ix fh fo qi qh
        ∗ scopedBufs (tV d L) ∗ scopedSems0 (tV d L) ∗ owes (tV d L) O W)
      ⊢ wp frame (wpE (defs₀ (F := F)) 𝒱₀ (tV d L) none) Set.univ
          (cc2__sc_scatter L oV (Memref.isWhole_whole _) hV (Memref.isWhole_whole _) iV (Memref.isWhole_whole _) oV (Memref.isWhole_whole _)
            bI (Memref.isWhole_whole _) bP (Memref.isWhole_whole _) bW (Memref.isWhole_whole _) bC (Memref.isWhole_whole _) bS (Memref.isWhole_whole _)
            cc2_scratch5 cc2_scoped0)
          fun _ => iprop(tdPts d L (scat ix fh fo)
            ∗ scopedBufs (tV d L) ∗ scopedSems0 (tV d L)
            ∗ ∃ W', ⌜∀ p ∈ W', p ∈ W ∨ p.2 = none⌝ ∗ owes (tV d L) O W') := by
  simp only [cc2__sc_scatter_eq_skeleton]; unfold cc2__sc_scatter_skel
  simp only [k2_part1_eq_skeleton]; unfold k2_part1_skel
  rw [(K (F := F)).scopedBufs_V hF d (cV L) (jV L), SparseCore.Cfg.scopedSems0_V (Val := Elt F) d (cV L) (jV L), ownSems0_V, ownBufs_V]
  iintro ⟨#Hlv, -, ⟨Hi, Hh, Ho⟩, ⟨⟨%f0, HI⟩, ⟨%f1, HP⟩, ⟨%f2, HW⟩, ⟨%f3, HC⟩, ⟨%f4, HS⟩, Hbufs⟩, ⟨HsA, HsB, Hsems⟩, HO⟩
  ihave Hmw := (show levAts (K (F := F)).L (K (F := F)).lev ⊢ Transfers.MayWaits (tV d L) (default : HIx 2) O from
    (K (F := F)).mayWaits_none (thr := tV d L) hO) $$ Hlv
  ihave Hi := (show ((tV d L).loc main_arg1_scv ↦{qi} ix : sProp 𝕄) ⊢ ((iV).view.loc (tV d L) ↦{qi} ix : sProp 𝕄) from .rfl) $$ Hi
  ihave HI := (show ((tV d L).loc cc2_scratch0 ↦{fullShare} f0 : sProp 𝕄) ⊢ ((bI).view.loc (tV d L) ↦{fullShare} f0 : sProp 𝕄) from .rfl) $$ HI
  sl_exec
  ihave HI := (Entails.of_eq (show ((bI).view.loc (tV d L) ↦{fullShare} View.write (Elt F) bI.view f0 (tile_body.sl.dma0 ix) Finset.univ : sProp 𝕄)
      = (tV d L).loc cc2_scratch0 ↦{fullShare} ix by
    rw [show View.write (Elt F) bI.view f0 (tile_body.sl.dma0 ix) Finset.univ = ix from View.write_whole_univ _ _ _])) $$ HI
  simp only [Prog.lift, Prog.bind_op, Prog.bind_ret, Prog.pure_eq_ret, bind_assoc]
  sl_for (scanInv d L ix) $$ [HI HP]
  · intro k a
    exact scan_trip d L ix k a
  · unfold scanInv
    isplitr
    · ipureintro
      rw [Nat.mul_zero, Nat.count_zero]
    isplitl [HI]; · iexact HI
    iexists f1
    isplitr; swap; · iexact HP
    ipureintro
    exact fun e he => absurd he (Nat.not_lt_zero e)
  iintro %v6 HI
  unfold scanInv
  icases HI with ⟨%h6, HI, %fl, %hfl, HP⟩
  have e1 : 16 * Scf.trips k2_t1_loop.lb k2_t1_loop.ub k2_t1_loop.st = 16384 := by
    rw [show Scf.trips k2_t1_loop.lb k2_t1_loop.ub k2_t1_loop.st = 1024 from t1_trips]
  rw [e1] at h6 hfl
  have hn := cntOf_le ix (lo L)
  have h6' : v6 = BitVec.ofNat 32 (cntOf ix (lo L)) := h6
  have hlist := listed_of_packed ix (lo L) hfl
  have hc2 : k2_chk2 v6 := h6' ▸ chk2 hn
  unfold tile_body.sl.prog.cont_1
  rw [wp_assume_of _ _ _ _ hc2]
  sl_for (fun k _ => claimInv d L ix k) $$ [HP HS HC]
  · intro k a
    exact claim_trip d L ix v6 h6' hc2 k a
  · unfold claimInv
    isplitl [HP]
    · iexists fl
      isplitr; · ipureintro; exact hlist
      iexact HP
    isplitl [HS]; · iexists f4; iexact HS
    iexists f3
    isplitr; swap; · iexact HC
    ipureintro
    exact claimed_zero _ _ _ _
  iintro %v30 HI2
  unfold claimInv
  icases HI2 with ⟨HP, HS, %f9, %h9, HC⟩
  have e2 : cntOf ix (lo L) ≤ 16 * (k2_t2_loop v6).trips := by rw [h6', t2_trips hn]; omega
  have h9' := claimed_full e2 h9
  unfold tile_body.sl.prog.cont_2
  sl_for0 (t4_trips v6)
  sl_for (keepInv d L ix) $$ [HP HC HW]
  · intro k a
    exact keep_trip d L ix v6 h6' hc2 k a
  · unfold keepInv
    isplitr
    · ipureintro
      rw [Nat.mul_zero, Nat.count_zero]
    isplitl [HP]; · iexact HP
    isplitl [HC]
    · iexists f9
      isplitr; · ipureintro; exact h9'
      iexact HC
    iexists f2
    isplitr; swap; · iexact HW
    ipureintro
    exact fun e he => absurd he (Nat.not_lt_zero e)
  iintro %v37 HI2
  unfold keepInv
  icases HI2 with ⟨%h37, HP, ⟨%fc, -, HC⟩, %fw, %hfw, HW⟩
  have e3 : cntOf ix (lo L) ≤ 16 * Scf.trips (k2_t6_loop v6).lb (k2_t6_loop v6).ub (k2_t6_loop v6).st := by
    rw [show Scf.trips (k2_t6_loop v6).lb (k2_t6_loop v6).ub (k2_t6_loop v6).st = (cntOf ix (lo L) + 15) / 16 by rw [h6']; exact t6_trips hn]; omega
  have hwr := written_of_packed ix (lo L) e3 hfw
  rw [count_kept ix (lo L) e3] at h37
  have hm : wc ix L ≤ 16384 := wcOf_le ix (lo L)
  have hc15 : k2_chk15 v37 := (congrArg k2_chk15 h37).mpr (chk15 hm)
  unfold tile_body.sl.prog.cont_4
  sl_for0 (t7_trips v6)
  unfold tile_body.sl.prog.cont_5
  rw [wp_assume_of _ _ _ _ hc15]
  imod (Transfers.batch_alloc' countersEmb (c := tV d L) (sm := .dma cc2_scratch5.sem) (default : HIx 2) NR (Dlv d L ix fh fo) (E := Set.univ)) $$ HsB with HB
  ihave Ho := (rows_split d L ix fo) $$ Ho
  icases Ho with ⟨Hrows, Hrest⟩
  sl_for (fun k _ => fireInv d L ix fh fo qh k) $$ [HW HB Hrows Hh]
  · intro k a
    exact fire_trip d L ix fh fo qh v37 h37 hc15 k a
  · unfold fireInv
    isplitl [HW]
    · iexists fw
      isplitr; · ipureintro; exact hwr
      iexact HW
    isplitl [Hrows Hh]; swap; · iexact HB
    iapply (fire_start (fun j : Fin (wc ix L) => rowPts d L ix fo j.val) (ℓ := (tV d L).loc main_v16_1_scv) qh _)
    isplitl [Hrows]; · iexact Hrows
    iexact Hh
  iintro %v44 HI2
  unfold fireInv
  icases HI2 with ⟨⟨%fx, -, HW⟩, -, HB⟩
  have e8 : Scf.trips (k2_t8_loop v37).lb (k2_t8_loop v37).ub (k2_t8_loop v37).st = wc ix L :=
    (congrArg (fun v => Scf.trips (k2_t8_loop v).lb (k2_t8_loop v).ub (k2_t8_loop v).st) h37).trans (t8_trips hm)
  have e10 : Scf.trips (k2_t10_loop v37).lb (k2_t10_loop v37).ub (k2_t10_loop v37).st = wc ix L :=
    (congrArg (fun v => Scf.trips (k2_t10_loop v).lb (k2_t10_loop v).ub (k2_t10_loop v).st) h37).trans (t10_trips hm)
  rw [e8]
  unfold tile_body.sl.prog.cont_6
  sl_for0 (t9_trips v37)
  sl_for (fun k _ => drainInv d L ix fh fo O W k) $$ [HB HO]
  · intro k a
    exact drain_trip d L ix fh fo O W hO v37 h37 hc15 k a
  · unfold drainInv
    isplitr; · iexact Hlv
    isplitl [HB]; · iexact HB
    iexists insert (SemLoc.dma cc2_scoped0.sem, (default : HIx 2)) W
    isplitr; swap; · iexact HO
    ipureintro
    intro p hp
    exact (Finset.mem_insert.mp hp).elim (fun e => Or.inr (e ▸ rfl)) Or.inl
  iintro %v51 HI2
  unfold drainInv
  rw [e10]
  icases HI2 with ⟨-, HB, %W', %hW', HO⟩
  unfold tile_body.sl.prog.cont_8
  sl_for0 (t11_trips v37)
  imod (Transfers.batch_collect' countersEmb (tV d L) NR_pos) $$ HB with ⟨HD, HsB⟩
  unfold tile_body.sl.prog.cont_9
  rw [wp_ret]
  imodintro
  isplitl [HD Hrest]
  · iapply (rows_join d L ix fh fo)
    isplitl [HD]; · iexact HD
    iexact Hrest
  isplitl [HI HP HW HC HS Hbufs]
  · isplitl [HI]; · iexists ix; iexact HI
    isplitl [HP]; · icases HP with ⟨%f, -, HP⟩; iexists f; iexact HP
    isplitl [HW]; · iexists fx; iexact HW
    isplitl [HC]; · iexists fc; iexact HC
    isplitl [HS]; · iexact HS
    iexact Hbufs
  isplitl [HsA HsB Hsems]
  · isplitl [HsA]; · iexact HsA
    isplitl [HsB]; · iexact HsB
    iexact Hsems
  iexists W'
  isplitr; · ipureintro; exact hW'
  iexact HO

end Tile

end Cert.Proof.Scatter

end
-- ==== Proof.Gather.lean ====
/-
  The gather kernel on one subcore: the fetch of its five hundred and twelve words of the index list, and four times
  the gather of the rows a hundred and twenty-eight of them name and the copy of those rows out.
-/
module

public import proofs.«01_k».proof.Proof.Tile
public import Idealize.ShloMosaic.Lib.SparseCore.FromWhole

@[expose] public section

noncomputable section

namespace Cert.Proof.Gather

open Cert.KernelIdeal Cert.KernelIdeal.Gen
open Cert.Proof.Scatter (K D 𝒱₀ 𝒱 v₀ UU EH)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

/-! ## The buffers as the subcore names them -/

abbrev tM : Memref sig .scVector .hbm S100000x2x128 .f32 := Memref.whole main_v10_scv
abbrev iM : Memref sig .scVector .hbm S16384 .i32 := Memref.whole main_arg1_scv
abbrev oM : Memref sig .scVector .hbm S16384x2x128 .f32 := Memref.whole main_v11_scv
abbrev lM : Memref sig .scVector .vmem S512 .i32 := Memref.whole cc0_scratch0
abbrev xM : Memref sig .scVector .vmem S128x2x128 .f32 := Memref.whole cc0_scratch1
abbrev yM : Memref sig .scVector .vmem S128x2x128 .f32 := Memref.whole cc0_scratch2

/-- The row of the table an entry's word names. -/
def rowIx (ix : Vec F S16384 .i32) (e : S16384.Idx) : Fin 100000 := Fin.ofNat 100000 (ix e : BitVec 32).toNat

/-- The rows the whole list names, entry by entry. -/
def gat (ix : Vec F S16384 .i32) (tab : Vec F S100000x2x128 .f32) : Vec F S16384x2x128 .f32 :=
  fun z => tab fun | 0 => rowIx ix (Shape.ofLane (d := ![16384]) (z 0)) | 1 => z 1 | 2 => z 2

/-- Every word names a row of the table. -/
def Names (ix : Vec F S16384 .i32) : Prop := ∀ e, (ix e : BitVec 32).toNat < 100000

/-- The elements of `n` rows of the result, from row `b` on. -/
def gatRows (b n : ℕ) : Finset S16384x2x128.Idx := Finset.univ.filter fun z => b ≤ (z 0).val ∧ (z 0).val < b + n

theorem mem_gatRows {b n : ℕ} {z : S16384x2x128.Idx} : z ∈ gatRows b n ↔ b ≤ (z 0).val ∧ (z 0).val < b + n := by simp [gatRows]

/-- The table, a chunk of the subcore's words, and a chunk of its rows of the result, as the kernel names them. -/
abbrev tAll : Memref sig .scVector .hbm S100000x2x128 .f32 :=
  tM.slice (Rect.unit (s := S100000x2x128) ![0, 0, 0] S100000x2x128.size inb_S100000x2x128_S100000x2x128_0_0_0) (fun _ => rfl)
abbrev lAt (o : ℕ) (h : ∀ a, (![o] : Fin 1 → ℕ) a + S128.size a ≤ S512.size a) : Memref sig .scVector .vmem S128 .i32 :=
  lM.slice (Rect.unit (s := S512) ![o] S128.size h) (fun _ => rfl)
abbrev oAt (o : Fin 3 → ℕ) (h : ∀ a, o a + S128x2x128.size a ≤ S16384x2x128.size a) : Memref sig .scVector .hbm S128x2x128 .f32 :=
  oM.slice (Rect.unit (s := S16384x2x128) o S128x2x128.size h) (fun _ => rfl)

section Chunk

variable (ix : Vec F S16384 .i32) (tab : Vec F S100000x2x128 .f32) (b : ℕ) (hb : b + 512 ≤ 16384)

/-- The subcore's words. -/
def lst : Vec F S512 .i32 := fun j => ix (Shape.ofLane (d := ![16384]) ⟨b + (j 0).val, by
  have h : (j 0).val < 512 := (j 0).isLt
  show _ < 16384
  omega⟩)

theorem lst_inb (hix : Names ix) (o : ℕ) (h : ∀ a, (![o] : Fin 1 → ℕ) a + S128.size a ≤ S512.size a) :
    ∀ x, ((lAt o h).view.read (Elt F) (lst ix b hb) x : BitVec 32).toNat < S100000x2x128.size gathers_S100000x2x128_S128x2x128.axis := by
  intro x
  rw [show (lAt o h).view.read (Elt F) (lst ix b hb) x = lst ix b hb ((lAt o h).view.emb x) from (View.read_apply _ _).trans (cast_eq _ _)]
  exact hix _

/-- The rows a chunk of the words names. -/
def pay (hix : Names ix) (o : ℕ) (h : ∀ a, (![o] : Fin 1 → ℕ) a + S128.size a ≤ S512.size a) : Vec F S128x2x128 .f32 :=
  SparseCore.gatherPayload gathers_S100000x2x128_S128x2x128 ((tAll).view.read (Elt F) tab)
    (SparseCore.rows ((lAt o h).view.read (Elt F) (lst ix b hb)) rfl (lst_inb ix b hb hix o h))

theorem pay_apply (hix : Names ix) (o : ℕ) (h : ∀ a, (![o] : Fin 1 → ℕ) a + S128.size a ≤ S512.size a) (x : S128x2x128.Idx)
    (z : S16384x2x128.Idx) (h0 : (z 0).val = b + o + (x 0).val) (h1 : (z 1).val = (x 1).val) (h2 : (z 2).val = (x 2).val) :
    pay ix tab b hb hix o h x = gat ix tab z := by
  have hx : (x 0).val < 128 := (x 0).isLt
  unfold pay SparseCore.gatherPayload gat
  rw [show ∀ j, (tAll).view.read (Elt F) tab j = tab ((tAll).view.emb j) from fun j => (View.read_apply _ _).trans (cast_eq _ _)]
  congr 1
  funext a
  refine Fin.ext ?_
  have e : ∀ j : S100000x2x128.Idx, ((tAll).view.emb j a).val = (j a).val := fun j => by
    show ![0, 0, 0] a + 1 * (j a).val = _
    match a with
    | 0 => exact (Nat.zero_add _).trans (Nat.one_mul _)
    | 1 => exact (Nat.zero_add _).trans (Nat.one_mul _)
    | 2 => exact (Nat.zero_add _).trans (Nat.one_mul _)
  rw [e]
  match a with
  | 0 =>
    refine (congrArg Fin.val (Shape.Gathers.idx_axis gathers_S100000x2x128_S128x2x128 _ x)).trans ?_
    show ((lAt o h).view.read (Elt F) (lst ix b hb) _ : BitVec 32).toNat = (Fin.ofNat 100000 _ : Fin 100000).val
    rw [show ∀ j, (lAt o h).view.read (Elt F) (lst ix b hb) j = lst ix b hb ((lAt o h).view.emb j) from fun j => (View.read_apply _ _).trans (cast_eq _ _)]
    rw [Fin.val_ofNat, Nat.mod_eq_of_lt (hix _)]
    unfold lst
    congr 2
    funext a'
    match a' with
    | 0 =>
      refine Fin.ext ?_
      show b + (o + 1 * _) = (z 0).val
      rw [h0, Nat.one_mul, ← Nat.add_assoc]
      congr 1
      refine (Shape.rowMajor_val_one (d := ![128]) _).symm.trans ?_
      exact congrArg Fin.val (Equiv.apply_symm_apply (S128.rowMajor) _)
  | 1 => exact (Shape.Gathers.idx_of_ne gathers_S100000x2x128_S128x2x128 _ x 1 (by decide)).trans h1.symm
  | 2 => exact (Shape.Gathers.idx_of_ne gathers_S100000x2x128_S128x2x128 _ x 2 (by decide)).trans h2.symm

end Chunk

section Tile

variable [FloatOps F] (d : Dev nD) (L : grid0.Coords)
variable (ix : Vec F S16384 .i32) (tab : Vec F S100000x2x128 .f32) (qi qt : PosShare TreeShare)

abbrev cG (L : grid0.Coords) : Fin τ.nSC := (L 0).castLE hcore0
abbrev jG (L : grid0.Coords) : Fin τ.nSub := (L 1).castLE hsub0
abbrev tG (d : Dev nD) (L : grid0.Coords) : Thread nD τ := V d (cG L) (jG L)
/-- The subcore's first entry. -/
def base (L : grid0.Coords) : ℕ := 512 * (2 * (L 1).val + (L 0).val)

theorem base_le (L : grid0.Coords) : base L + 512 ≤ 16384 := by
  have h0 : (L 0).val < 2 := (L 0).isLt
  have h1 : (L 1).val < 16 := (L 1).isLt
  unfold base; omega

theorem off2_at (r : Fin 4) : k0_off2 L (BitVec.ofNat 32 (128 * r.val)) = ![base L + 128 * r.val, 0, 0] := by
  rw [k0_off2_eq]
  congr 1
  unfold base; omega

/-- The chunk `r` of the subcore's rows of the result. -/
abbrev oC (L : grid0.Coords) (r : Fin 4) : Memref sig .scVector .hbm S128x2x128 .f32 := oAt (k0_off2 L (BitVec.ofNat 32 (128 * r.val))) (k0_off2_inb L r)

theorem oC_emb (r : Fin 4) (x : S128x2x128.Idx) (a : Fin 3) : ((oC L r).view.emb x a).val = (![base L + 128 * r.val, 0, 0] : Fin 3 → ℕ) a + (x a).val := by
  rw [← off2_at L r]
  show k0_off2 L (BitVec.ofNat 32 (128 * r.val)) a + 1 * (x a).val = _
  rw [Nat.one_mul]

theorem oC_set (r : Fin 4) : (oC L r).view.set = gatRows (base L + 128 * r.val) 128 := by
  ext z
  rw [mem_gatRows]
  constructor
  · intro hz
    obtain ⟨x, -, rfl⟩ := Finset.mem_map.mp hz
    have h : (x 0).val < 128 := (x 0).isLt
    have := oC_emb L r x 0
    have e : (![base L + 128 * r.val, 0, 0] : Fin 3 → ℕ) 0 = base L + 128 * r.val := rfl
    rw [e] at this
    omega
  · intro hz
    refine Finset.mem_map.mpr ⟨fun | 0 => ⟨(z 0).val - (base L + 128 * r.val), by show _ < 128; omega⟩ | 1 => z 1 | 2 => z 2, Finset.mem_univ _, ?_⟩
    funext a
    refine Fin.ext ((oC_emb L r _ a).trans ?_)
    match a with
    | 0 => show base L + 128 * r.val + ((z 0).val - (base L + 128 * r.val)) = _; omega
    | 1 => exact Nat.zero_add _
    | 2 => exact Nat.zero_add _

/-- What the copy of a chunk's rows leaves in the result. -/
theorem chunk_landed (hix : Names ix) (r : Fin 4) (h : ∀ a, (![128 * r.val] : Fin 1 → ℕ) a + S128.size a ≤ S512.size a)
    (fo : Vec F S16384x2x128 .f32) (z : S16384x2x128.Idx) (hz : z ∈ (oC L r).view.set) :
    (oC L r).view.write (Elt F) fo (pay ix tab (base L) (base_le L) hix (128 * r.val) h) Finset.univ z = gat ix tab z := by
  obtain ⟨x, -, rfl⟩ := Finset.mem_map.mp hz
  rw [View.write_emb_of_mem _ _ (Finset.mem_univ x)]
  refine (cast_eq _ _).trans ?_
  exact pay_apply ix tab (base L) (base_le L) hix (128 * r.val) h x _ (oC_emb L r x 0) ((oC_emb L r x 1).trans (Nat.zero_add _))
    ((oC_emb L r x 2).trans (Nat.zero_add _))

theorem read_last {κ : Kind} {sp : Space} {s : Shape} {e : EltTy} (v : View sig κ sp s e) (f : v.ty.Contents (Elt F)) (w : s.Idx → Elt F e)
    (l : List (View.Piece (Elt F) s e)) : ReadAs.same.apply (v.read (Elt F) (v.writes (Elt F) f (⟨Rect.whole s, w⟩ :: l))) = w := by
  funext y
  have h := View.read_writes_cons_emb v f (Rect.whole s) w l y
  rwa [Rect.emb_whole_apply] at h

theorem chunk_done (hix : Names ix) (r : Fin 4) (h : ∀ a, (![128 * r.val] : Fin 1 → ℕ) a + S128.size a ≤ S512.size a)
    (fo : Vec F S16384x2x128 .f32) (p : Vec F S128x2x128 .f32) (hp : p = pay ix tab (base L) (base_le L) hix (128 * r.val) h) :
    ((oC L r).view.loc (tG d L) ↦[(oC L r).view.set]{fullShare} (oC L r).view.writes (Elt F) fo [⟨Rect.whole S128x2x128, p⟩] : sProp 𝕄)
      = (oC L r).view.loc (tG d L) ↦[(oC L r).view.set]{fullShare} gat ix tab := by
  rw [← View.write_univ_eq_writes_whole, hp]
  exact pointsTo_congr fun z hz => chunk_landed L ix tab hix r h fo z hz

/-- The word list's fetch. -/
theorem fetched (f0 : Vec F S512 .i32) :
    View.write (Elt F) lM.view f0 (ReadAs.same.apply ((iM.slice (Rect.unit (s := S16384) (k0_off1 L) S512.size (k0_off1_inb L)) (fun _ => rfl)).view.read (Elt F) ix)) Finset.univ
      = lst ix (base L) (base_le L) := by
  rw [show ∀ p, View.write (Elt F) lM.view f0 p Finset.univ = p from fun p => View.write_whole_univ _ _ _]
  funext j
  refine ((View.read_apply _ _).trans (cast_eq _ _)).trans ?_
  unfold lst
  congr 1
  funext a
  match a with
  | 0 =>
    refine Fin.ext ?_
    show k0_off1 L 0 + 1 * (j 0).val = base L + (j 0).val
    rw [k0_off1_eq, Nat.one_mul]
    show 1024 * (L 1).val + 512 * (L 0).val + _ = _
    unfold base; omega

theorem disj (r r' : Fin 4) (h : r ≠ r') : Disjoint (gatRows (base L + 128 * r.val) 128) (gatRows (base L + 128 * r'.val) 128) := by
  refine Finset.disjoint_left.mpr fun z h1 h2 => h (Fin.ext ?_)
  rw [mem_gatRows] at h1 h2
  omega

theorem rows_eq (f : Vec F S16384x2x128 .f32) :
    ((tG d L).loc main_v11_scv ↦[gatRows (base L) 512]{fullShare} f : sProp 𝕄)
      = bigSep Finset.univ fun r : Fin 4 => (oC L r).view.loc (tG d L) ↦[(oC L r).view.set]{fullShare} f := by
  have hU : gatRows (base L) 512 = Finset.univ.biUnion fun r : Fin 4 => gatRows (base L + 128 * r.val) 128 := by
    ext z
    simp only [Finset.mem_biUnion, Finset.mem_univ, true_and, mem_gatRows]
    constructor
    · intro h
      exact ⟨⟨((z 0).val - base L) / 128, by omega⟩, by show base L + 128 * (((z 0).val - base L) / 128) ≤ _; omega,
        by show _ < base L + 128 * (((z 0).val - base L) / 128) + 128; omega⟩
    · rintro ⟨r, h⟩
      omega
  rw [hU, pointsTo_biUnion (ℓ := (tG d L).loc main_v11_scv) (q := fullShare) (f := f) Finset.univ _ (fun r _ r' _ h => disj L r r' h)]
  exact bigSep_congr fun r _ => by rw [oC_set]

theorem four (Φ : Fin 4 → sProp 𝕄) : bigSep Finset.univ Φ = iprop(Φ 0 ∗ Φ 1 ∗ Φ 2 ∗ Φ 3) := by
  rw [show (Finset.univ : Finset (Fin 4)) = {0, 1, 2, 3} by decide]
  rw [bigSep_insert (by decide), bigSep_insert (by decide), bigSep_insert (by decide), bigSep_singleton]
  rfl

/-- The credits of one gather's rows on its semaphore. -/
abbrev NG : ℕ := (xM).view.dmaCredit

theorem sum_x : ∑ j, ((xM).slice (S128x2x128.rowRect gathers_S100000x2x128_S128x2x128.axis' j) (S128x2x128.stride_rowRect gathers_S100000x2x128_S128x2x128.axis' j)).view.dmaCredit = NG :=
  by decide +kernel
theorem sum_y : ∑ j, ((yM).slice (S128x2x128.rowRect gathers_S100000x2x128_S128x2x128.axis' j) (S128x2x128.stride_rowRect gathers_S100000x2x128_S128x2x128.axis' j)).view.dmaCredit = (yM).view.dmaCredit :=
  by decide +kernel

abbrev cell (d : Dev nD) (L : grid0.Coords) (a : DmaSem sig) : GSem nD τ sig := (tG d L, .dma a)

omit [FloatOps F] in
theorem ownSems0_G :
    (ownSems0 (tG d L) : sProp 𝕄)
      = iprop(semVal (cell d L cc0_scoped0.sem) 0 ∗ semVal (cell d L cc0_scratch3.sem) 0 ∗ semVal (cell d L cc0_scratch4.sem) 0
          ∗ semVal (cell d L cc0_scratch5.sem) 0
          ∗ bigSep (((((ownCells (tG d L)).erase (cell d L cc0_scoped0.sem)).erase (cell d L cc0_scratch3.sem)).erase (cell d L cc0_scratch4.sem)).erase
              (cell d L cc0_scratch5.sem)) fun g => semVal g 0) := by
  have hm : ∀ a : DmaSem sig, (SemLoc.dma a : SemLoc sig).isScoped .scVector = true → cell d L a ∈ ownCells (tG d L) := fun a h => mem_ownCells.mpr ⟨rfl, h⟩
  have hne : ∀ a b : DmaSem sig, a ≠ b → cell d L a ≠ cell d L b := fun a b h e => h (SemLoc.dma.inj (Prod.mk.inj e).2)
  have h0 := hm cc0_scoped0.sem (by decide)
  have h1 : cell d L cc0_scratch3.sem ∈ _ := Finset.mem_erase.mpr ⟨hne _ cc0_scoped0.sem (by decide), hm cc0_scratch3.sem (by decide)⟩
  have h2 : cell d L cc0_scratch4.sem ∈ _ := Finset.mem_erase.mpr ⟨hne _ cc0_scratch3.sem (by decide),
    Finset.mem_erase.mpr ⟨hne _ cc0_scoped0.sem (by decide), hm cc0_scratch4.sem (by decide)⟩⟩
  have h3 : cell d L cc0_scratch5.sem ∈ _ := Finset.mem_erase.mpr ⟨hne _ cc0_scratch4.sem (by decide), Finset.mem_erase.mpr ⟨hne _ cc0_scratch3.sem (by decide),
    Finset.mem_erase.mpr ⟨hne _ cc0_scoped0.sem (by decide), hm cc0_scratch5.sem (by decide)⟩⟩⟩
  unfold SparseCore.Cfg.ownSems0
  rw [SparseCore.bigSep_erase' h0, SparseCore.bigSep_erase' h1, SparseCore.bigSep_erase' h2, SparseCore.bigSep_erase' h3]

abbrev gRef (L : grid0.Coords) (b : Ref sig .scVector) : DevRef τ sig := (Proc.scVector (cG L) (jG L)).devRef b

omit [FloatOps F] in
theorem ownBufs_G :
    (ownBufs (tG d L) : sProp 𝕄)
      = iprop((∃ f, (tG d L).loc cc0_scratch0 ↦{fullShare} f) ∗ (∃ f, (tG d L).loc cc0_scratch1 ↦{fullShare} f)
          ∗ (∃ f, (tG d L).loc cc0_scratch2 ↦{fullShare} f)
          ∗ bigSep ((((ownRefs (τ := τ) (.scVector (cG L) (jG L))).erase (gRef L cc0_scratch0)).erase (gRef L cc0_scratch1)).erase (gRef L cc0_scratch2))
              fun b => iprop(∃ f, ((d, b) : Loc nD τ sig) ↦{fullShare} f)) := by
  have hne : ∀ b b' : Ref sig .scVector, b ≠ b' → gRef L b ≠ gRef L b' := fun b b' h e => h (Proc.devRef_injective _ e)
  have hm : ∀ b : Ref sig .scVector, (gRef L b).owner = .proc (Proc.scVector (cG L) (jG L)) → gRef L b ∈ ownRefs (τ := τ) (.scVector (cG L) (jG L)) :=
    fun b h => SparseCore.Cfg.mem_ownRefs_of_owner h
  have h0 := hm cc0_scratch0 rfl
  have h1 : gRef L cc0_scratch1 ∈ _ := Finset.mem_erase.mpr ⟨hne _ cc0_scratch0 (by decide), hm cc0_scratch1 rfl⟩
  have h2 : gRef L cc0_scratch2 ∈ _ := Finset.mem_erase.mpr ⟨hne _ cc0_scratch1 (by decide), Finset.mem_erase.mpr ⟨hne _ cc0_scratch0 (by decide), hm cc0_scratch2 rfl⟩⟩
  unfold SparseCore.Cfg.ownBufs
  refine (SparseCore.bigSep_erase' h0).trans ?_
  rw [SparseCore.bigSep_erase' h1, SparseCore.bigSep_erase' h2]

/-- What the subcore is handed: a share of the index list, a share of the table, and its own rows of the result. -/
abbrev goPts (fo : Vec F S16384x2x128 .f32) : sProp 𝕄 :=
  iprop(((tG d L).loc main_arg1_scv ↦{qi} ix) ∗ ((tG d L).loc main_v10_scv ↦{qt} tab) ∗ ((tG d L).loc main_v11_scv ↦[gatRows (base L) 512]{fullShare} fo))
/-- What it hands back: its own rows. -/
abbrev tdPts (f : Vec F S16384x2x128 .f32) : sProp 𝕄 := (tG d L).loc main_v11_scv ↦[gatRows (base L) 512]{fullShare} f

set_option maxHeartbeats 4000000 in
theorem gather_body (hix : Names ix) (fo : Vec F S16384x2x128 .f32) (hF : (K (F := F)).Facts) (O : CellTallies nD τ sig (HIx 2)) (W : Waits sig (HIx 2))
    (hO : ∀ g, O g none = 0) :
    iprop(levAts (K (F := F)).L (K (F := F)).lev ∗ emp
        ∗ goPts d L ix tab qi qt fo
        ∗ scopedBufs (tG d L) ∗ scopedSems0 (tG d L) ∗ owes (tG d L) O W)
      ⊢ wp frame (wpE (defs₀ (F := F)) 𝒱₀ (tG d L) none) Set.univ
          (cc0__sc_gather L tM (Memref.isWhole_whole _) iM (Memref.isWhole_whole _) oM (Memref.isWhole_whole _)
            lM (Memref.isWhole_whole _) xM (Memref.isWhole_whole _) yM (Memref.isWhole_whole _)
            cc0_scratch3 cc0_scratch4 cc0_scratch5 cc0_scoped0)
          fun _ => iprop(tdPts d L (gat ix tab)
            ∗ scopedBufs (tG d L) ∗ scopedSems0 (tG d L)
            ∗ ∃ W', ⌜∀ p ∈ W', p ∈ W ∨ p.2 = none⌝ ∗ owes (tG d L) O W') := by
  simp only [cc0__sc_gather_eq_skeleton]; unfold cc0__sc_gather_skel
  simp only [k0_part1_eq_skeleton, k0_part2_eq_skeleton]; unfold k0_part1_skel k0_part2_skel
  rw [(K (F := F)).scopedBufs_V hF d (cG L) (jG L), SparseCore.Cfg.scopedSems0_V (Val := Elt F) d (cG L) (jG L), ownSems0_G, ownBufs_G]
  iintro ⟨#Hlv, -, ⟨Hi, Ht, Ho⟩, ⟨⟨%f0, HL⟩, ⟨%f1, HX⟩, ⟨%f2, HY⟩, Hbufs⟩, ⟨HsA, HsG, HsX, HsY, Hsems⟩, HO⟩
  ihave Hmw := (show levAts (K (F := F)).L (K (F := F)).lev ⊢ Transfers.MayWaits (tG d L) (default : HIx 2) O from
    (K (F := F)).mayWaits_none (thr := tG d L) hO) $$ Hlv
  ihave Hi := (show ((tG d L).loc main_arg1_scv ↦{qi} ix : sProp 𝕄) ⊢ ((iM).view.loc (tG d L) ↦{qi} ix : sProp 𝕄) from .rfl) $$ Hi
  ihave Ht := (show ((tG d L).loc main_v10_scv ↦{qt} tab : sProp 𝕄) ⊢ ((tM).view.loc (tG d L) ↦{qt} tab : sProp 𝕄) from .rfl) $$ Ht
  ihave HL := (show ((tG d L).loc cc0_scratch0 ↦{fullShare} f0 : sProp 𝕄) ⊢ ((lM).view.loc (tG d L) ↦{fullShare} f0 : sProp 𝕄) from .rfl) $$ HL
  ihave HX := (show ((tG d L).loc cc0_scratch1 ↦{fullShare} f1 : sProp 𝕄) ⊢ ((xM).view.loc (tG d L) ↦{fullShare} f1 : sProp 𝕄) from .rfl) $$ HX
  ihave HY := (show ((tG d L).loc cc0_scratch2 ↦{fullShare} f2 : sProp 𝕄) ⊢ ((yM).view.loc (tG d L) ↦{fullShare} f2 : sProp 𝕄) from .rfl) $$ HY
  ihave Ho := (Entails.of_eq (rows_eq d L fo)) $$ Ho
  ihave Ho := (Entails.of_eq (four _)) $$ Ho
  icases Ho with ⟨Ho0, Ho1, Ho2, Ho3⟩
  sl_exec
  ihave HL := (Entails.of_eq (show ((lM).view.loc (tG d L) ↦{fullShare} View.write (Elt F) lM.view f0 (gather_body.sl.dma0 L ix) Finset.univ : sProp 𝕄)
      = (lM).view.loc (tG d L) ↦{fullShare} lst ix (base L) (base_le L) by
    rw [show View.write (Elt F) lM.view f0 (gather_body.sl.dma0 L ix) Finset.univ = lst ix (base L) (base_le L) from fetched L ix f0])) $$ HL
  have hin0 := lst_inb ix (base L) (base_le L) hix 0 inb_S512_S128_0
  have hin1 := lst_inb ix (base L) (base_le L) hix 128 inb_S512_S128_128
  have hin2 := lst_inb ix (base L) (base_le L) hix 256 inb_S512_S128_256
  have hin3 := lst_inb ix (base L) (base_le L) hix 384 inb_S512_S128_384
  sl_exec
  ihave Ho0 := (Entails.of_eq (chunk_done d L ix tab hix 0 inb_S512_S128_0 fo (gather_body.sl.dma0_1 d L ix tab f1 hin0) (read_last (F := F) (xM).view f1 _ []))) $$ Ho0
  ihave Ho1 := (Entails.of_eq (chunk_done d L ix tab hix 1 inb_S512_S128_128 fo (gather_body.sl.dma0_2 d L ix tab f2 hin1) (read_last (F := F) (yM).view f2 _ []))) $$ Ho1
  ihave Ho2 := (Entails.of_eq (chunk_done d L ix tab hix 2 inb_S512_S128_256 fo (gather_body.sl.dma0_3 d L ix tab f1 hin0 hin2) (read_last (F := F) (xM).view f1 _ [_]))) $$ Ho2
  ihave Ho3 := (Entails.of_eq (chunk_done d L ix tab hix 3 inb_S512_S128_384 fo (gather_body.sl.dma0_4 d L ix tab f2 hin1 hin3) (read_last (F := F) (yM).view f2 _ [_]))) $$ Ho3
  sl_step
  isplitl [Ho0 Ho1 Ho2 Ho3]
  · iapply (Entails.of_eq ((rows_eq d L (gat ix tab)).trans (four _)).symm)
    isplitl [Ho0]; · iexact Ho0
    isplitl [Ho1]; · iexact Ho1
    isplitl [Ho2]; · iexact Ho2
    iexact Ho3
  isplitl [HL HX HY Hbufs]
  · isplitl [HL]; · iexists _; iexact HL
    isplitl [HX]; · iexists _; iexact HX
    isplitl [HY]; · iexists _; iexact HY
    iexact Hbufs
  isplitl [HsA HsG HsX HsY Hsems]
  · isplitl [HsA]; · iexact HsA
    isplitl [HsG]; · iexact HsG
    isplitl [HsX]; · iexact HsX
    isplitl [HsY]; · iexact HsY
    iexact Hsems
  iexists _
  isplitr; swap; · iexact HO
  ipureintro
  intro p hp
  iterate 9 rcases Finset.mem_insert.mp hp with hp | hp; exact .inr (hp ▸ rfl)
  exact .inl hp

end Tile

end Cert.Proof.Gather
-- ==== Proof.Deal.lean ====
/-
  What the two calls on the vector subcores take and bring back: each of the thirty-two subcores' shares of what it reads
  and its own rows of what it writes, at both calls, and the subcores' runs as the calls' parts.
-/
module

public import proofs.«01_k».proof.Proof.Tile
public import proofs.«01_k».proof.Proof.Gather

@[expose] public section

noncomputable section

namespace Cert.Proof.Scatter

open Cert.KernelIdeal Cert.KernelIdeal.Gen
open Cert.Proof.Lanes Cert.Proof.Trips Cert.Proof.Words
open Cert.Proof.Gather (gat gatRows mem_gatRows Names gather_body)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareDrop shareTokN)

variable {F : FTy → Type}

local notation "𝕄" => MT nD τ sig (HIx 2) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev iLoc (d : Dev nD) : Loc nD τ sig := (SparseCore.T d).loc main_arg1
abbrev tLoc (d : Dev nD) : Loc nD τ sig := (SparseCore.T d).loc main_v10
abbrev gLoc (d : Dev nD) : Loc nD τ sig := (SparseCore.T d).loc main_v11
abbrev hLoc (d : Dev nD) : Loc nD τ sig := (SparseCore.T d).loc main_v16_1
abbrev oLoc (d : Dev nD) : Loc nD τ sig := (SparseCore.T d).loc main_v17

/-- What is kept of the index list at the first call: what the second call takes its shares of. -/
abbrev qI : PosShare TreeShare := shareDrop fullShare 32

/-- What the calls find: the index list, the table as the first call reads it, the first call's result before it, the new
    rows, and the table the second call writes into. -/
structure Found (F : FTy → Type) where
  ix : Vec F S16384 .i32
  tab : Vec F S100000x2x128 .f32
  g0 : Vec F S16384x2x128 .f32
  hn : Vec F S16384x256 .f32
  oa : Vec F S100000x256 .f32

/-- What the second call leaves. -/
def Found.out (f : Found F) : Vec F S100000x256 .f32 := scat f.ix f.hn f.oa

variable (X : Dev nD → Found F)

/-! ## What the thirty-two subcores take and bring back -/

def goG (d : Dev nD) (t : ℕ) : sProp 𝕄 :=
  iprop((iLoc d ↦{shareTokN fullShare t} (X d).ix) ∗ (tLoc d ↦{shareTokN fullShare t} (X d).tab) ∗ (gLoc d ↦[gatRows (512 * t) 512]{fullShare} (X d).g0))
def tdG (d : Dev nD) (t : ℕ) : sProp 𝕄 := gLoc d ↦[gatRows (512 * t) 512]{fullShare} gat (X d).ix (X d).tab
def goT (d : Dev nD) (t : ℕ) : sProp 𝕄 :=
  iprop((iLoc d ↦{shareTokN qI t} (X d).ix) ∗ (hLoc d ↦{shareTokN fullShare t} (X d).hn) ∗ (oLoc d ↦[tileRows (3125 * t)]{fullShare} (X d).oa))
def tdT (d : Dev nD) (t : ℕ) : sProp 𝕄 := oLoc d ↦[tileRows (3125 * t)]{fullShare} (X d).out

instance goG_storable (d : Dev nD) (t : ℕ) : BI.Storable (upEmb : UEmb _ 𝕄) (goG X d t) := by unfold goG; infer_instance
instance tdG_storable (d : Dev nD) (t : ℕ) : BI.Storable (upEmb : UEmb _ 𝕄) (tdG X d t) := by unfold tdG; infer_instance
instance goT_storable (d : Dev nD) (t : ℕ) : BI.Storable (upEmb : UEmb _ 𝕄) (goT X d t) := by unfold goT; infer_instance
instance tdT_storable (d : Dev nD) (t : ℕ) : BI.Storable (upEmb : UEmb _ 𝕄) (tdT X d t) := by unfold tdT; infer_instance

/-- Call `q`'s subcore `t` takes, and brings back. -/
def goAt (q : Fin 2) (d : Dev nD) (t : ℕ) : sProp 𝕄 := match q with | 0 => goG X d t | 1 => goT X d t
def tdAt (q : Fin 2) (d : Dev nD) (t : ℕ) : sProp 𝕄 := match q with | 0 => tdG X d t | 1 => tdT X d t

instance goAt_storable (q : Fin 2) (d : Dev nD) (t : ℕ) : BI.Storable (upEmb : UEmb _ 𝕄) (goAt X q d t) :=
  match q with | 0 => goG_storable X d t | 1 => goT_storable X d t
instance tdAt_storable (q : Fin 2) (d : Dev nD) (t : ℕ) : BI.Storable (upEmb : UEmb _ 𝕄) (tdAt X q d t) :=
  match q with | 0 => tdG_storable X d t | 1 => tdT_storable X d t

def P : (K (F := F)).Pay (nD := nD) (Val := Elt F) (Name := ℕ) (U := UU) where
  st := fun q d c => bigSep Finset.univ fun i : Fin ((K (F := F)).nSub q) => goAt X q d (2 * i.val + c.val)
  dn := fun q d c => bigSep Finset.univ fun i : Fin ((K (F := F)).nSub q) => tdAt X q d (2 * i.val + c.val)
  go := fun q d c i => goAt X q d (2 * i.val + c.val)
  td := fun q d c i => tdAt X q d (2 * i.val + c.val)
  x := fun _ _ => iprop(emp)

instance P_storable : (P (F := F) X).IsStorable where
  st q d c := (inferInstance : BI.Storable (upEmb : UEmb _ 𝕄) (bigSep Finset.univ fun i : Fin ((K (F := F)).nSub q) => goAt X q d (2 * i.val + c.val)))
  dn q d c := (inferInstance : BI.Storable (upEmb : UEmb _ 𝕄) (bigSep Finset.univ fun i : Fin ((K (F := F)).nSub q) => tdAt X q d (2 * i.val + c.val)))
  go q d c i := goAt_storable X q d (2 * i.val + c.val)
  td q d c i := tdAt_storable X q d (2 * i.val + c.val)

def coordsV (c : Fin (grid2.bound 0)) (s : Fin (grid2.bound 1)) : grid2.Coords :=
  fun | 0 => c | 1 => s | ⟨_ + 2, h⟩ => absurd h (Nat.not_lt.2 (Nat.le_add_left _ _))

variable [FloatOps F]

theorem defs₀_gather (c : Fin τ.nSC) (s : Fin τ.nSub) :
    defs₀ (F := F) (.scVector c s) 0 ()
      = SparseCore.onTile hcore0 hsub0 (fun c s => cc0__sc_gather (coordsV c s)
          Gather.tM (Memref.isWhole_whole _) Gather.iM (Memref.isWhole_whole _) Gather.oM (Memref.isWhole_whole _) Gather.lM (Memref.isWhole_whole _)
          Gather.xM (Memref.isWhole_whole _) Gather.yM (Memref.isWhole_whole _) cc0_scratch3 cc0_scratch4 cc0_scratch5 cc0_scoped0) ⟨⟩ c s := rfl

theorem defs₀_scatter (c : Fin τ.nSC) (s : Fin τ.nSub) :
    defs₀ (F := F) (.scVector c s) 2 ()
      = SparseCore.onTile hcore2 hsub2 (fun c s => cc2__sc_scatter (coordsV c s)
          oV (Memref.isWhole_whole _) hV (Memref.isWhole_whole _) iV (Memref.isWhole_whole _) oV (Memref.isWhole_whole _)
          bI (Memref.isWhole_whole _) bP (Memref.isWhole_whole _) bW (Memref.isWhole_whole _) bC (Memref.isWhole_whole _)
          bS (Memref.isWhole_whole _) cc2_scratch5 cc2_scoped0) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; swap; · iexact HO
  ipureintro
  exact fun p hp => (hW' p hp).imp_right Or.inl

set_option maxRecDepth 16384 in
theorem tileObl_gather (hix : ∀ d, Names (X d).ix) : (K (F := F)).TileObl (D (F := F)) 𝒱 (P X) v₀ 0 := by
  intro d c i O W hO _ _
  simp only [show (P X).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  exact (gather_body d (coordsV ⟨_, hci.1⟩ ⟨_, hci.2⟩) (X d).ix (X d).tab _ _ (hix d) (X d).g0 facts O W hO).trans (wp_mono frame _ _ fun _ => obl_post)

set_option maxRecDepth 16384 in
theorem tileObl_scatter : (K (F := F)).TileObl (D (F := F)) 𝒱 (P X) v₀ 1 := by
  intro d c i O W hO _ _
  simp only [show (P X).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_scatter]; simp only [SparseCore.onTile, hci, and_self, ↓reduceDIte]
  exact (tile_body d (coordsV ⟨_, hci.1⟩ ⟨_, hci.2⟩) (X d).ix (X d).hn (X d).oa _ _ facts O W hO).trans (wp_mono frame _ _ fun _ => obl_post)

omit [FloatOps F] in
theorem vecSplit (q : Fin 2) : (K (F := F)).VecSplit' (P X) q := by
  intro d c
  show (bigSep Finset.univ fun i : Fin ((K (F := F)).nSub q) => goAt X q d (2 * i.val + c.val)) ⊢ |={Set.univ}=> iprop(
    (bigSep Finset.univ fun i : Fin ((K (F := F)).nSub q) => goAt X q d (2 * i.val + c.val))
      ∗ ((bigSep Finset.univ fun i : Fin ((K (F := F)).nSub q) => tdAt X q d (2 * i.val + c.val))
        -∗ bigSep Finset.univ fun i : Fin ((K (F := F)).nSub q) => tdAt X q d (2 * i.val + c.val)))
  iintro H; imodintro
  isplitl [H]; · iexact H
  iintro H; iexact H

/-! ## The arrays in thirty-two parts, and the shares -/

section Parts

variable {ℓ : Loc nD τ sig} {n : ℕ}

omit [FloatOps F] in
theorem parts_all (R : Fin n → Finset (Idx ℓ)) (hd : ∀ j j', j ≠ j' → Disjoint (R j) (R j')) (hc : ∀ z, ∃ j, z ∈ R j) (f : Buf (Elt F) ℓ) :
    (ℓ ↦{fullShare} f : sProp 𝕄) = bigSep Finset.univ (fun j => ℓ ↦[R j]{fullShare} f) := by
  rw [← pointsTo_biUnion (q := fullShare) (f := f) Finset.univ R (fun j _ j' _ h => hd j j' h)]
  congr 1
  refine (Finset.eq_univ_iff_forall.mpr fun z => ?_).symm
  obtain ⟨j, hj⟩ := hc z
  exact Finset.mem_biUnion.mpr ⟨j, Finset.mem_univ _, hj⟩

omit [FloatOps F] in
/-- A share of a buffer in `n` parts, and what is kept. -/
theorem toks (q : PosShare TreeShare) (f : Buf (Elt F) ℓ) (n : ℕ) :
    (ℓ ↦{q} f : sProp 𝕄) ⊢ iprop((ℓ ↦{shareDrop q n} f) ∗ bigSep Finset.univ (fun j : Fin n => ℓ ↦{shareTokN q j.val} f)) := by
  rw [← bigSep_fin_range n (fun j => (ℓ ↦{shareTokN q j} f : sProp 𝕄))]
  exact (Transfers.pointsTo_toks_range q n).1

end Parts

theorem tileRows_disjoint {t t' : ℕ} (h : t ≠ t') : Disjoint (tileRows (3125 * t)) (tileRows (3125 * t')) := by
  refine Finset.disjoint_left.mpr fun z h1 h2 => ?_
  rw [mem_tileRows] at h1 h2
  omega

theorem tileRows_cover (z : S100000x256.Idx) : ∃ t : Fin 32, z ∈ tileRows (3125 * t.val) := by
  have hz : (z 0).val < 100000 := (z 0).isLt
  exact ⟨⟨(z 0).val / 3125, by omega⟩, mem_tileRows.mpr ⟨by show 3125 * ((z 0).val / 3125) ≤ _; omega, by show _ < 3125 * ((z 0).val / 3125) + 3125; omega⟩⟩

theorem gatRows_disjoint {t t' : ℕ} (h : t ≠ t') : Disjoint (gatRows (512 * t) 512) (gatRows (512 * t') 512) := by
  refine Finset.disjoint_left.mpr fun z h1 h2 => ?_
  rw [mem_gatRows] at h1 h2
  omega

theorem gatRows_cover (z : S16384x2x128.Idx) : ∃ t : Fin 32, z ∈ gatRows (512 * t.val) 512 := by
  have hz : (z 0).val < 16384 := (z 0).isLt
  exact ⟨⟨(z 0).val / 512, by omega⟩, mem_gatRows.mpr ⟨by show 512 * ((z 0).val / 512) ≤ _; omega, by show _ < 512 * ((z 0).val / 512) + 512; omega⟩⟩

omit [FloatOps F] in
theorem rows_parts (d : Dev nD) (f : Buf (Elt F) (oLoc d)) :
    (oLoc d ↦{fullShare} f : sProp 𝕄) = bigSep Finset.univ (fun t : Fin 32 => oLoc d ↦[tileRows (3125 * t.val)]{fullShare} f) :=
  parts_all (ℓ := oLoc d) (fun t : Fin 32 => tileRows (3125 * t.val)) (fun t t' h => tileRows_disjoint fun e => h (Fin.ext e)) tileRows_cover f

omit [FloatOps F] in
theorem gathered_parts (d : Dev nD) (f : Buf (Elt F) (gLoc d)) :
    (gLoc d ↦{fullShare} f : sProp 𝕄) = bigSep Finset.univ (fun t : Fin 32 => gLoc d ↦[gatRows (512 * t.val) 512]{fullShare} f) :=
  parts_all (ℓ := gLoc d) (fun t : Fin 32 => gatRows (512 * t.val) 512) (fun t t' h => gatRows_disjoint fun e => h (Fin.ext e)) gatRows_cover f

omit [FloatOps F] in
/-- The tiles by number, by SparseCore and subcore. -/
theorem bigSep_tiles (Φ : ℕ → sProp 𝕄) :
    (bigSep Finset.univ fun t : Fin 32 => Φ t.val)
      = bigSep Finset.univ fun c : Fin 2 => bigSep Finset.univ fun i : Fin 16 => Φ (2 * i.val + c.val) := by
  rw [bigSep_univ_equiv ((Equiv.prodComm (Fin 2) (Fin 16)).trans finProdFinEquiv) (fun t : Fin 32 => Φ t.val), bigSep_univ_prod]
  refine bigSep_congr fun c _ => bigSep_congr fun i _ => ?_
  show Φ (c.val + 2 * i.val) = _
  rw [Nat.add_comm]

omit [FloatOps F] in
/-- The first call's operands, out of the arrays held whole. -/
theorem st_gather (d : Dev nD) :
    iprop((iLoc d ↦{fullShare} (X d).ix) ∗ (tLoc d ↦{fullShare} (X d).tab) ∗ (gLoc d ↦{fullShare} (X d).g0))
      ⊢ (iprop((iLoc d ↦{qI} (X d).ix) ∗ bigSep Finset.univ fun c : Fin ((K (F := F)).nCore 0) => (P X).st 0 d c) : sProp 𝕄) := by
  show _ ⊢ iprop(_ ∗ bigSep Finset.univ fun c : Fin 2 => bigSep Finset.univ fun i : Fin 16 => goG X d (2 * i.val + c.val))
  rw [← bigSep_tiles (goG X d)]
  unfold goG
  rw [bigSep_sep', bigSep_sep', gathered_parts]
  iintro ⟨Hi, Ht, Hg⟩
  ihave Hi := (toks fullShare (X d).ix 32) $$ Hi
  icases Hi with ⟨Hi0, Hi⟩
  ihave Ht := (toks fullShare (X d).tab 32) $$ Ht
  icases Ht with ⟨-, Ht⟩
  isplitl [Hi0]; · iexact Hi0
  isplitl [Hi]; · iexact Hi
  isplitl [Ht]; · iexact Ht
  iexact Hg

omit [FloatOps F] in
/-- Its result, whole again. -/
theorem dn_gather (d : Dev nD) :
    (bigSep Finset.univ fun c : Fin ((K (F := F)).nCore 0) => (P X).dn 0 d c) ⊢ (gLoc d ↦{fullShare} gat (X d).ix (X d).tab : sProp 𝕄) := by
  show (bigSep Finset.univ fun c : Fin 2 => bigSep Finset.univ fun i : Fin 16 => tdG X d (2 * i.val + c.val)) ⊢ _
  rw [← bigSep_tiles (tdG X d)]
  unfold tdG
  rw [← gathered_parts]

omit [FloatOps F] in
/-- The second call's operands, out of the arrays held whole and what is kept of the index list. -/
theorem st_scatter (d : Dev nD) :
    iprop((iLoc d ↦{qI} (X d).ix) ∗ (hLoc d ↦{fullShare} (X d).hn) ∗ (oLoc d ↦{fullShare} (X d).oa))
      ⊢ (iprop((iLoc d ↦{shareDrop qI 32} (X d).ix) ∗ bigSep Finset.univ fun c : Fin ((K (F := F)).nCore 1) => (P X).st 1 d c) : sProp 𝕄) := by
  show _ ⊢ iprop(_ ∗ bigSep Finset.univ fun c : Fin 2 => bigSep Finset.univ fun i : Fin 16 => goT X d (2 * i.val + c.val))
  rw [← bigSep_tiles (goT X d)]
  unfold goT
  rw [bigSep_sep', bigSep_sep', rows_parts]
  iintro ⟨Hi, Hh, Ho⟩
  ihave Hi := (toks qI (X d).ix 32) $$ Hi
  icases Hi with ⟨Hi0, Hi⟩
  ihave Hh := (toks fullShare (X d).hn 32) $$ Hh
  icases Hh with ⟨-, Hh⟩
  isplitl [Hi0]; · iexact Hi0
  isplitl [Hi]; · iexact Hi
  isplitl [Hh]; · iexact Hh
  iexact Ho

omit [FloatOps F] in
/-- Its result, the array whole again. -/
theorem dn_scatter (d : Dev nD) :
    (bigSep Finset.univ fun c : Fin ((K (F := F)).nCore 1) => (P X).dn 1 d c) ⊢ (oLoc d ↦{fullShare} (X d).out : sProp 𝕄) := by
  show (bigSep Finset.univ fun c : Fin 2 => bigSep Finset.univ fun i : Fin 16 => tdT X d (2 * i.val + c.val)) ⊢ _
  rw [← bigSep_tiles (tdT X d)]
  unfold tdT
  rw [← rows_parts]

end Cert.Proof.Scatter

end
-- ==== Proof.Region.lean ====
/-
  The TensorCore's call: the rows of the batch put through the two layers and the gates, block by block, and the table
  copied into the result's first buffer.
-/
module

public import proofs.«01_k».proof.Proof.Loops
public import proofs.«01_k».proof.Proof.Gen.KernelIdeal.Points
public import Idealize.ShloMosaic.Lib.Pipeline.ValueKit
public import Idealize.ShloMosaic.Lib.VecWindow

@[expose] public section

noncomputable section

namespace Cert.Proof.Region

open Cert.KernelIdeal Cert.KernelIdeal.Gen
open Cert.Proof.Scatter (K D 𝒱₀ 𝒱 UU UP)

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F]

local notation "𝕄" => MT nD τ sig (HIx 2) (Elt F) ℕ UU ℕ

/-! ## The body on one block of rows -/

/-- What the body makes of a block of the messages, a block of the rows, and the weights. -/
def gru (X1 : Vec F S512x1024 .f32) (X2 : Vec F S512x256 .f32) (X4 : Vec F S1024x512 .f32) (X5 : Vec F S1x512 .f32) (X6 : Vec F S512x128 .f32)
    (X7 : Vec F S1x128 .f32) (X8 : Vec F S128x768 .f32) (X9 : Vec F S256x768 .f32) (X10 X11 : Vec F S1x768 .f32) : Vec F S512x256 .f32 :=
  k1_pay1 (k1_pay2 X1 X4 X5 X6 X7 X8 X10) (k1_pay3 X2) (k1_pay4 X2 X9) X11

abbrev own (c : Dev nD) {sp : Space} {s : Shape} {e : EltTy} (M : Memref sig .tc sp s e) (X : s.Idx → Elt F e) : sProp 𝕄 :=
  owns (c : Thread nD τ) M fullShare X

omit [FloatOps F] in
theorem owns_pt (c : Dev nD) {sp : Space} {s : Shape} {e : EltTy} {M : Memref sig .tc sp s e} (h : M.IsWhole) (X : s.Idx → Elt F e) :
    (owns (c : Thread nD τ) M fullShare X : sProp 𝕄) = (M.view.loc (c : Thread nD τ) ↦{fullShare} h.unread X) := by
  have h₁ : (owns (c : Thread nD τ) M fullShare X : sProp 𝕄) ⊢ (M.view.loc (c : Thread nD τ) ↦{fullShare} h.unread X) := by
    unfold owns
    iintro ⟨%f, %hf, H⟩
    obtain rfl := h.eq_unread hf
    rw [h.set_eq_univ]
    iexact H
  have h₂ : (M.view.loc (c : Thread nD τ) ↦{fullShare} h.unread X : sProp 𝕄) ⊢ owns (c : Thread nD τ) M fullShare X := by
    unfold owns
    iintro H
    iexists h.unread X
    isplitr; · ipureintro; exact h.read_unread X
    rw [h.set_eq_univ]
    iexact H
  exact Entails.antisymm h₁ h₂

omit [FloatOps F] in
/-- Contents written whole over a buffer read back as what was written. -/
theorem written_whole {sp : Space} {s : Shape} {e : EltTy} {M : Memref sig .tc sp s e} (h : M.IsWhole)
    (f : M.view.ty.Contents (Elt F)) (off : Fin s.rank → ℕ) (inb : ∀ a, off a + s.size a ≤ s.size a)
    (w : (Rect.unit off s.size inb).shape.Idx → Elt F e) :
    M.view.writes (Elt F) f [⟨Rect.unit off s.size inb, w⟩] = h.unread w := by
  refine h.eq_unread ?_
  funext x
  have hx := View.read_writes_cons_emb M.view f (Rect.unit off s.size inb) w [] x
  exact (congrArg _ (Rect.emb_unit_full inb x).symm).trans hx

omit [FloatOps F] in
/-- A load of the whole buffer reads its contents. -/
theorem read_whole {sp : Space} {s : Shape} {e : EltTy} {M : Memref sig .tc sp s e} (h : M.IsWhole) (X : s.Idx → Elt F e)
    (off : Fin s.rank → ℕ) (inb : ∀ a, off a + s.size a ≤ s.size a) (hz : ∀ a, off a = 0) :
    View.readAt (Elt F) M.view (Rect.unit off s.size inb).toLoadRect (h.unread X) = X := by
  rw [View.readAt_eq_ld, h.read_unread]
  exact View.ld_unit_lit inb X hz

theorem body_run (c : Dev nD) (i : grid1.Coords) (M1 : Memref sig .tc .vmem S512x1024 .f32) (h1 : M1.IsWhole) (M2 : Memref sig .tc .vmem S512x256 .f32) (h2 : M2.IsWhole) (M3 : Memref sig .tc .vmem S3200x256 .f32) (h3 : M3.IsWhole) (M4 : Memref sig .tc .vmem S1024x512 .f32) (h4 : M4.IsWhole) (M5 : Memref sig .tc .vmem S1x512 .f32) (h5 : M5.IsWhole) (M6 : Memref sig .tc .vmem S512x128 .f32) (h6 : M6.IsWhole) (M7 : Memref sig .tc .vmem S1x128 .f32) (h7 : M7.IsWhole) (M8 : Memref sig .tc .vmem S128x768 .f32) (h8 : M8.IsWhole) (M9 : Memref sig .tc .vmem S256x768 .f32) (h9 : M9.IsWhole) (M10 : Memref sig .tc .vmem S1x768 .f32) (h10 : M10.IsWhole) (M11 : Memref sig .tc .vmem S1x768 .f32) (h11 : M11.IsWhole) (M12 : Memref sig .tc .vmem S3200x256 .f32) (h12 : M12.IsWhole) (M13 : Memref sig .tc .vmem S512x256 .f32) (h13 : M13.IsWhole)
    (X1 : Vec F S512x1024 .f32) (X2 : Vec F S512x256 .f32) (X3 : Vec F S3200x256 .f32) (X4 : Vec F S1024x512 .f32) (X5 : Vec F S1x512 .f32) (X6 : Vec F S512x128 .f32) (X7 : Vec F S1x128 .f32) (X8 : Vec F S128x768 .f32) (X9 : Vec F S256x768 .f32) (X10 : Vec F S1x768 .f32) (X11 : Vec F S1x768 .f32) (X12 : Vec F S3200x256 .f32) (X13 : Vec F S512x256 .f32) (E : Set ℕ) (Q : PUnit → sProp 𝕄) :
    iprop((own c M1 X1 ∗ own c M2 X2 ∗ own c M3 X3 ∗ own c M4 X4 ∗ own c M5 X5 ∗ own c M6 X6 ∗ own c M7 X7 ∗ own c M8 X8 ∗ own c M9 X9 ∗ own c M10 X10 ∗ own c M11 X11 ∗ own c M12 X12 ∗ own c M13 X13)
        ∗ (iprop(own c M1 X1 ∗ own c M2 X2 ∗ own c M3 X3 ∗ own c M4 X4 ∗ own c M5 X5 ∗ own c M6 X6 ∗ own c M7 X7 ∗ own c M8 X8 ∗ own c M9 X9 ∗ own c M10 X10 ∗ own c M11 X11 ∗ own c M12 X3 ∗ own c M13 (gru X1 X2 X4 X5 X6 X7 X8 X9 X10 X11)) -∗ Q ⟨⟩))
      ⊢ wp frame (wpE (defs₀ (F := F)) Variants.none (c : Thread nD τ) none) E (cc1__tc_body i M1 h1 M2 h2 M3 h3 M4 h4 M5 h5 M6 h6 M7 h7 M8 h8 M9 h9 M10 h10 M11 h11 M12 h12 M13 h13) Q := by
  simp only [own, owns_pt c h1, owns_pt c h2, owns_pt c h3, owns_pt c h4, owns_pt c h5, owns_pt c h6, owns_pt c h7, owns_pt c h8, owns_pt c h9, owns_pt c h10, owns_pt c h11, owns_pt c h12, owns_pt c h13]
  iintro ⟨⟨H1, H2, H3, H4, H5, H6, H7, H8, H9, H10, H11, H12, H13⟩, Hk⟩
  sl_exec
  rw [wp_ret]
  unfold body_run.sl.r body_run.sl.r_1 body_run.sl.r_2
  rw [written_whole h12 _ _ _, written_whole h13 _ _ _]
  rw [read_whole h1 X1 _ _ (by decide), read_whole h2 X2 _ _ (by decide), read_whole h3 X3 _ _ (by decide), read_whole h4 X4 _ _ (by decide), read_whole h5 X5 _ _ (by decide), read_whole h6 X6 _ _ (by decide), read_whole h7 X7 _ _ (by decide), read_whole h8 X8 _ _ (by decide), read_whole h9 X9 _ _ (by decide), read_whole h10 X10 _ _ (by decide), read_whole h11 X11 _ _ (by decide)]
  imodintro
  iapply Hk
  unfold gru
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Proof.Region

end
-- ==== Proof.Call.lean ====
/-
  The TensorCore's call as one step of its program: what each block of rows is when the body runs, the body at a grid
  point, and the call from the buffers as it finds them to the buffers as it leaves them.
-/
module

public import proofs.«01_k».proof.Proof.Region
public import proofs.«01_k».proof.Proof.Gen.KernelIdeal.Launch

@[expose] public section

noncomputable section

namespace Cert.Proof.Region

open Cert.KernelIdeal Cert.KernelIdeal.Gen
open Cert.Proof.Scatter (K D 𝒱₀ 𝒱 UU UP)

open Idealize.ShloMosaic
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligationLoose)

variable {F : FTy → Type} [FloatOps F] [∀ e, Nonempty (Elt F e)]

local notation "𝕄" => MT nD τ sig (HIx 2) (Elt F) ℕ UU ℕ

abbrev adm : (p : Fin 1) → (pcfgs (F := F) p).Adm := fun p => (cfgs p).toPCfg_adm

variable (A : (c : Dev nD) → (b : Ref sig .tc) → Buf (Elt F) ((c : Thread nD τ).loc b))

/-- The stage below which the call's own waits sit. -/
abbrev cut : ℕ := (inferInstance : SparseCore.Cfg.Blocks 2 2).fst 1

/-- Window `w`'s block at point `t`, filled out past the array's end with anything. -/
def inb (c : Dev nD) (w : Fin cfg1.W) (t : Fin cfg1.N) : (cfg1.win w).block.Idx → Elt F (cfg1.win w).elt :=
  (cfg1.win w).fill (cfg1.grid.coords t) (fun _ => Classical.arbitrary _)
    (((cfg1.win w).blk t).view.read (Elt F) (A c (Pipeline.arrRef spec1 w)))

/-- The new rows of a block. -/
def newRows (c : Dev nD) (t : Fin cfg1.N) : Vec F S512x256 .f32 :=
  gru (inb A c 0 t) (inb A c 1 t) (inb A c 3 t) (inb A c 4 t) (inb A c 5 t) (inb A c 6 t) (inb A c 7 t) (inb A c 8 t) (inb A c 9 t) (inb A c 10 t)

def dat (c : Dev nD) : Dat τ (Elt F) (HIx 2) ℕ UU ℕ cfg1 c where
  A w := A c (Pipeline.arrRef spec1 w)
  after w t := match w with
    | ⟨0, _⟩ => inb A c 0 t
    | ⟨1, _⟩ => inb A c 1 t
    | ⟨2, _⟩ => inb A c 2 t
    | ⟨3, _⟩ => inb A c 3 t
    | ⟨4, _⟩ => inb A c 4 t
    | ⟨5, _⟩ => inb A c 5 t
    | ⟨6, _⟩ => inb A c 6 t
    | ⟨7, _⟩ => inb A c 7 t
    | ⟨8, _⟩ => inb A c 8 t
    | ⟨9, _⟩ => inb A c 9 t
    | ⟨10, _⟩ => inb A c 10 t
    | ⟨11, _⟩ => inb A c 2 t
    | ⟨12, _⟩ => newRows A c t
  Φ _ := Pipeline.scopedRest (Ix := HIx 2) (Name := ℕ) (U := UU) (Lvl := ℕ) (Val := Elt F) spec1 c
  q _ := fullShare
  owed _ := (K (F := F)).Otc c 1
  recorded _ := {p | (K (F := F)).lev (T c, p.1) p.2 ≤ 8 * cut}

theorem cut_inb (c : Dev nD) (w : Fin cfg1.W) (t : Fin cfg1.N) :
    (cfg1.win w).cut (cfg1.grid.coords t) (inb A c w t) = (dat A c).blockOf w t := (cfg1.win w).cut_fill _ _ _

/-- A window whose blocks lie whole within its array holds, when the body runs, its block. -/
theorem before_whole (c : Dev nD) (w : Fin cfg1.W) (hw : (cfg1.win w).isOut = false)
    (hclip : ∀ t a, (cfg1.win w).clip (cfg1.grid.coords t) a = none)
    (hkeep : ∀ t, (dat A c).after w t = inb A c w t) (t : Fin cfg1.N) (d) :
    (dat A c).before w t d = inb A c w t := by
  refine ((dat A c).before_in_eq_fetched w hw (fun _ => rfl) (fun t t' _ => funext fun a => (hclip t a).trans (hclip t' a).symm)
    (fun t => ?_) t d).trans ((dat A c).fetched_of_clip_none w t (hclip t) d _)
  rw [hkeep]; exact cut_inb A c w t

theorem body_obligation (c : Dev nD) : BodyObligationLoose (dat A c) (defs₀ (F := F)) 𝒱₀ none Set.univ := fun t => by
  rw [bigSep_W1, bigSep_W1]
  simp only
  rw [show (dat A c).Φ t.succ = (dat A c).Φ t.castSucc from rfl,
    show (dat A c).owesAt none t.succ = (dat A c).owesAt none t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [before_whole A c 0 rfl (fun _ _ => rfl) (fun _ => rfl) t d0, before_whole A c 1 rfl (fun _ _ => rfl) (fun _ => rfl) t d1, before_whole A c 3 rfl (fun _ _ => rfl) (fun _ => rfl) t d3, before_whole A c 4 rfl (fun _ _ => rfl) (fun _ => rfl) t d4, before_whole A c 5 rfl (fun _ _ => rfl) (fun _ => rfl) t d5, before_whole A c 6 rfl (fun _ _ => rfl) (fun _ => rfl) t d6, before_whole A c 7 rfl (fun _ _ => rfl) (fun _ => rfl) t d7, before_whole A c 8 rfl (fun _ _ => rfl) (fun _ => rfl) t d8, before_whole A c 9 rfl (fun _ _ => rfl) (fun _ => rfl) t d9, before_whole A c 10 rfl (fun _ _ => rfl) (fun _ => rfl) t d10,
    (dat A c).before_fetched 2 t (fetch1_2 t) d2]
  iapply (body_run (F := F) c (grid1.coords t) (stage1_0 (cfg1.slots t 0)) (hstage1_0 (cfg1.slots t 0)) (stage1_1 (cfg1.slots t 1)) (hstage1_1 (cfg1.slots t 1)) (stage1_2 (cfg1.slots t 2)) (hstage1_2 (cfg1.slots t 2)) (stage1_3 (cfg1.slots t 3)) (hstage1_3 (cfg1.slots t 3)) (stage1_4 (cfg1.slots t 4)) (hstage1_4 (cfg1.slots t 4)) (stage1_5 (cfg1.slots t 5)) (hstage1_5 (cfg1.slots t 5)) (stage1_6 (cfg1.slots t 6)) (hstage1_6 (cfg1.slots t 6)) (stage1_7 (cfg1.slots t 7)) (hstage1_7 (cfg1.slots t 7)) (stage1_8 (cfg1.slots t 8)) (hstage1_8 (cfg1.slots t 8)) (stage1_9 (cfg1.slots t 9)) (hstage1_9 (cfg1.slots t 9)) (stage1_10 (cfg1.slots t 10)) (hstage1_10 (cfg1.slots t 10)) (stage1_11 (cfg1.slots t 11)) (hstage1_11 (cfg1.slots t 11)) (stage1_12 (cfg1.slots t 12)) (hstage1_12 (cfg1.slots t 12))
    (inb A c 0 t) (inb A c 1 t) ((dat A c).fetched 2 t d2) (inb A c 3 t) (inb A c 4 t) (inb A c 5 t) (inb A c 6 t) (inb A c 7 t) (inb A c 8 t) (inb A c 9 t) (inb A c 10 t) _ _ Set.univ _)
  isplitl [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]
  · iexists d2
    change _ ⊢ owns (c : Thread nD τ) (stage1_2 (cfg1.slots t 2)) fullShare ((cfg1.win 2).fill (cfg1.grid.coords t) d2 ((cfg1.win 2).cut (cfg1.grid.coords t) (inb A c 2 t)))
    rw [cut_inb A c 2 t]; exact BI.Entails.refl _
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists d2
    change _ ⊢ owns (c : Thread nD τ) (stage1_11 (cfg1.slots t 11)) fullShare ((cfg1.win 2).fill (cfg1.grid.coords t) d2 ((cfg1.win 2).cut (cfg1.grid.coords t) (inb A c 2 t)))
    rw [cut_inb A c 2 t]; exact BI.Entails.refl _
  iexact H12

/-! ## The call over the buffers -/

omit [FloatOps F] [∀ e, Nonempty (Elt F e)] in
theorem otc_none (c : Dev nD) (n : ℕ) (g : GSem nD τ sig) : (K (F := F)).Otc c n g none = 0 := by
  by_contra h
  have h1 := SparseCore.Cfg.lev_of_Otc_pos (K := K (F := F)) (N := 2) (Nat.pos_of_ne_zero h)
  rw [SparseCore.Cfg.lev_none] at h1
  omega

def pdats : (p : Fin 1) → (c : Dev nD) → Dat τ (Elt F) (HIx 2) ℕ UU ℕ (Pipeline.pin (pcfgs (F := F)) adm p) c
  | ⟨0, _⟩ => fun c => dat A c

/-- The core's pending signals and its waits so far, none above the call's stage. -/
def owing (c : Dev nD) : sProp 𝕄 :=
  iprop(∃ W, ⌜(K (F := F)).WBelow (T c) W (8 * cut)⌝ ∗ owes (T c) ((K (F := F)).Otc c 1) W)

/-- The call's arrays held whole, at contents `G`. -/
def arrs (c : Dev nD) (G : (w : Fin 13) → Buf (Elt F) ((c : Thread nD τ).loc (Pipeline.arrRef spec1 w))) : sProp 𝕄 :=
  bigSep Finset.univ fun w : Fin 13 => ((c : Thread nD τ).loc (Pipeline.arrRef spec1 w)) ↦{fullShare} G w

/-- What the call leaves in its arrays. -/
def left (c : Dev nD) (w : Fin 13) : Buf (Elt F) ((c : Thread nD τ).loc (Pipeline.arrRef spec1 w)) := (dat A c).arrAt w cfg1.N

theorem arrays_held (c : Dev nD) (n : ℕ) :
    ((pdats A 0 c).arrays ((pdats A 0 c).arrAt · n) : sProp 𝕄) = arrs c fun w => (dat A c).arrAt w n :=
  Pipeline.arrays_eq (Pipeline.pin (pcfgs (F := F)) adm) (pdats A) 0 c launch1.arr_whole ((pdats A 0 c).share_full fun _ => rfl) _

set_option backward.isDefEq.respectTransparency.types false in
def reg : Pipeline.RegionSeg (pcfgs (F := F)) adm (pdats A) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := body_obligation A c
  hwaits c := Pipeline.cellsWaits_intro _ (pdats A) none 0 c fun w s t => (K (F := F)).mayWait_none _ (fun g => otc_none c 1 g)
  pre c := iprop(arrs c (fun w => A c (Pipeline.arrRef spec1 w)) ∗ owing c)
  post c := iprop(arrs c (left A c) ∗ owing c)
  X _ := BI.emp
  Y _ := BI.emp
  Z _ := BI.emp
  hentry c := by
    rw [Pipeline.ownSems0_none, arrays_held]
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin owing
      icases HO with ⟨%W, %hW, HO⟩; iexists W; isplitr; · ipureintro; exact fun p hp => Or.inl (hW p hp)
      iexact HO
    isplitr; · iempintro
    iempintro
  hin c := by
    rw [show (pdats A 0 c).Φ 0 = Pipeline.scopedRest (Ix := HIx 2) (Name := ℕ) (U := UU) (Lvl := ℕ) (Val := Elt F) spec1 c from rfl]
    iintro ⟨-, -, Hr⟩; iexact Hr
  hout c := by
    rw [Pipeline.ownSems0_none, show (pdats A 0 c).Φ (Fin.last _) = Pipeline.scopedRest (Ix := HIx 2) (Name := ℕ) (U := UU) (Lvl := ℕ) (Val := Elt F) spec1 c from rfl]
    iintro Hr
    isplitr; · iempintro
    isplitr; · iempintro
    iexact Hr
  hexit c := by
    rw [arrays_held]
    iintro ⟨Ha, HO, -⟩
    imodintro
    isplitl [Ha]; · iexact Ha
    unfold Pipeline.Dat.owesAt Pipeline.owesWithin owing
    icases HO with ⟨%W, %hW, HO⟩; iexists W
    isplitr; swap; · iexact HO
    ipureintro
    intro p hp
    rcases hW hp with h | ⟨w, s, rfl⟩
    · exact h
    · rw [SparseCore.Cfg.lev_none]; exact Nat.zero_le _

/-! ## The call as a step of the program -/

/-- The pipeline's own ghost state, beside the calls'. -/
def EP : Emb UP (MT nD τ sig (HIx 2) (Elt F) ℕ UU ℕ) :=
  ((Emb.inl : Emb UP (UP × Counters)).trans (Emb.inr : Emb (UP × Counters) UU)).trans
    (uEmb (nD := nD) (sig := sig) (Ix := HIx 2) (Val := Elt F) (Name := ℕ) (U := UU) (Lvl := ℕ)).toEmb

instance EP_landsIn : (EP (F := F) : Emb UP 𝕄).LandsIn (upEmb : UEmb _ 𝕄) := by unfold EP; infer_instance

/-- What the launch deals the core for its call. -/
def ghost (c : Dev nD) : sProp 𝕄 :=
  iprop(Pipeline.cellsGhost (Pipeline.pin (pcfgs (F := F)) adm) EP 0 c ∗ Pipeline.toksInit (Pipeline.pin (pcfgs (F := F)) adm) EP 0 c)

theorem wp_region (c : Dev nD) (Q : PUnit → sProp 𝕄) :
    iprop((iprop(boundary (T c) ∗ arrs c (left A c) ∗ owing c) -∗ Q ⟨⟩)
        ∗ boundary (T c) ∗ (arrs c (fun w => A c (Pipeline.arrRef spec1 w)) ∗ owing c) ∗ levAts (K (F := F)).L (K (F := F)).lev ∗ ghost c)
      ⊢ wp frame (wpE ((K (F := F)).defs (D (F := F))) 𝒱 (T c) none) Set.univ
          (Prog.lift (.customCall (SparseCore.inner (Pipeline.entry 0)) ())) Q := by
  have h := Pipeline.RegionSeg.wp (pcfgs (F := F)) adm (pdats A) none cellOf_inj EP defs₀ 𝒱₀ (K (F := F)).L (K (F := F)).lev
    (reg A) c none (by simp) (fun _ => .ret ⟨⟩) Q
  have hk : (iprop(iprop(boundary (T c) ∗ arrs c (left A c) ∗ owing c) -∗ Q ⟨⟩) : sProp 𝕄)
      ⊢ iprop(iprop(boundary (T c) ∗ arrs c (left A c) ∗ owing c) -∗ wp frame (wpE (D (F := F)) 𝒱 (T c) none) Set.univ (.ret ⟨⟩) Q) := by
    iintro Hk H
    rw [wp_ret]; imodintro
    iapply Hk; iexact H
  exact (sep_mono_left hk).trans (h.trans ((K (F := F)).wp_liftProg (D (F := F)) 𝒱 (T c) Set.univ none _ Q))

end Cert.Proof.Region

end
-- ==== Proof.Launch.lean ====
/-
  The launch: the program on the TensorCore — the weights padded to whole tiles, the first call, the update of the rows, the
  copy of the table into the result's buffer, and the second call —, and the run.
-/
module

public import proofs.«01_k».proof.Proof.Deal
public import proofs.«01_k».proof.Proof.Call

@[expose] public section

noncomputable section

namespace Cert.Proof.Launch

open Cert.KernelIdeal Cert.KernelIdeal.Gen
open Cert.Proof.Scatter Cert.Proof.Words
open Cert.Proof.Gather (gat Names)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within after)
open Idealize.ShloMosaic.Transfers (shareDrop shareTokN)

variable {F : FTy → Type} [FloatOps F]

local notation "𝕄" => MT nD τ sig (HIx 2) (Elt F) ℕ UU ℕ

variable (m : (ℓ : Loc nD τ sig) → Buf (Elt F) ℓ) (ρ : Dev nD → PrngReg)

/-! ## The lines of the program and what the buffers hold after each -/

abbrev dr (r : Ref sig .tc) : DevRef τ sig := Proc.devRef .tc r

/-- The weights padded to whole tiles, and the table in rows of two half rows. -/
abbrev ops0 : List (HloOp τ sig (Elt F)) :=
  [StableHlo.nullary main_cst (constant S_ .f32 0x00000000#32),
   StableHlo.unary main_cst main_v0 (broadcastInDim S512x128 ![] bcast_S_S512x128 : (⟨S_, .f32⟩ : BufTy).Contents (Elt F) → (⟨S512x128, .f32⟩ : BufTy).Contents (Elt F)),
   StableHlo.nullary main_c (constantI S_ 32 0#32),
   StableHlo.unary main_c main_v1 (broadcastInDim S1 ![] bcast_S_S1 : (⟨S_, .i32⟩ : BufTy).Contents (Elt F) → (⟨S1, .i32⟩ : BufTy).Contents (Elt F)),
   StableHlo.ternary main_v0 main_v1 main_arg5 main_v2 ((fun x i u => Host.scatter scatter_S512x128_S1_S512x100_01_n_1_0 (fun _ b => b) x i u) : (⟨S512x128, .f32⟩ : BufTy).Contents (Elt F) → (⟨S1, .i32⟩ : BufTy).Contents (Elt F) → (⟨S512x100, .f32⟩ : BufTy).Contents (Elt F) → (⟨S512x128, .f32⟩ : BufTy).Contents (Elt F)),
   StableHlo.nullary main_cst_0 (constant S_ .f32 0x00000000#32),
   StableHlo.unary main_cst_0 main_v3 (broadcastInDim S1x128 ![] bcast_S_S1x128 : (⟨S_, .f32⟩ : BufTy).Contents (Elt F) → (⟨S1x128, .f32⟩ : BufTy).Contents (Elt F)),
   StableHlo.nullary main_c_1 (constantI S_ 32 0#32),
   StableHlo.unary main_c_1 main_v4 (broadcastInDim S1 ![] bcast_S_S1 : (⟨S_, .i32⟩ : BufTy).Contents (Elt F) → (⟨S1, .i32⟩ : BufTy).Contents (Elt F)),
   StableHlo.unary main_arg6 main_v5 (broadcastInDim S1x100 ![1] bcast_S100_S1x100_1 : (⟨S100, .f32⟩ : BufTy).Contents (Elt F) → (⟨S1x100, .f32⟩ : BufTy).Contents (Elt F)),
   StableHlo.ternary main_v3 main_v4 main_v5 main_v6 ((fun x i u => Host.scatter scatter_S1x128_S1_S1x100_01_n_1_0 (fun _ b => b) x i u) : (⟨S1x128, .f32⟩ : BufTy).Contents (Elt F) → (⟨S1, .i32⟩ : BufTy).Contents (Elt F) → (⟨S1x100, .f32⟩ : BufTy).Contents (Elt F) → (⟨S1x128, .f32⟩ : BufTy).Contents (Elt F)),
   StableHlo.nullary main_cst_2 (constant S_ .f32 0x00000000#32),
   StableHlo.unary main_cst_2 main_v7 (broadcastInDim S128x768 ![] bcast_S_S128x768 : (⟨S_, .f32⟩ : BufTy).Contents (Elt F) → (⟨S128x768, .f32⟩ : BufTy).Contents (Elt F)),
   StableHlo.nullary main_c_3 (constantI S_ 32 0#32),
   StableHlo.unary main_c_3 main_v8 (broadcastInDim S1 ![] bcast_S_S1 : (⟨S_, .i32⟩ : BufTy).Contents (Elt F) → (⟨S1, .i32⟩ : BufTy).Contents (Elt F)),
   StableHlo.ternary main_v7 main_v8 main_arg7 main_v9 ((fun x i u => Host.scatter scatter_S128x768_S1_S100x768_01_n_0_0 (fun _ b => b) x i u) : (⟨S128x768, .f32⟩ : BufTy).Contents (Elt F) → (⟨S1, .i32⟩ : BufTy).Contents (Elt F) → (⟨S100x768, .f32⟩ : BufTy).Contents (Elt F) → (⟨S128x768, .f32⟩ : BufTy).Contents (Elt F)),
   StableHlo.reshape main_arg0 main_v10 (rfl : (.f32 : EltTy) = .f32) shapeCasts_S100000x256_S100000x2x128]

/-- The gathered rows put together again, and the one-row operands of the update. -/
abbrev ops1 : List (HloOp τ sig (Elt F)) :=
  [StableHlo.reshape main_v11 main_v12 (rfl : (.f32 : EltTy) = .f32) shapeCasts_S16384x2x128_S16384x256,
   StableHlo.reshape main_arg4 main_v13 (rfl : (.f32 : EltTy) = .f32) shapeCasts_S512_S1x512,
   StableHlo.reshape main_arg9 main_v14 (rfl : (.f32 : EltTy) = .f32) shapeCasts_S768_S1x768,
   StableHlo.reshape main_arg10 main_v15 (rfl : (.f32 : EltTy) = .f32) shapeCasts_S768_S1x768]

abbrev opCopy : HloOp τ sig (Elt F) := StableHlo.unary main_v16_0 main_v17 id

theorem main_eq (d : Dev nD) : main (F := F) d =
    (StableHlo.seq ops0 >>= fun _ => ((K (F := F)).run d 0 >>= fun _ => (StableHlo.seq ops1 >>= fun _ =>
      (Prog.lift (.customCall (SparseCore.inner (Pipeline.entry 0)) ()) >>= fun _ => (hlo rfl opCopy (fun _ => .ret (⟨⟩ : PUnit)) >>= fun _ =>
        ((K (F := F)).run d 1 >>= fun _ => pure ⟨⟩)))))) := rfl

abbrev W0 : List (Ref sig .tc) := [main_cst, main_v0, main_c, main_v1, main_v2, main_cst_0, main_v3, main_c_1, main_v4, main_v5, main_v6, main_cst_2,
  main_v7, main_c_3, main_v8, main_v9, main_v10]
abbrev W1 : List (Ref sig .tc) := [main_v12, main_v13, main_v14, main_v15]

theorem ops0_writes : (ops0 (F := F)).Forall fun op => op.writes ⊆ (W0.map (Proc.devRef (τ := τ) .tc)).toFinset := StableHlo.forall_writes_sub_of_map rfl
theorem ops1_writes : (ops1 (F := F)).Forall fun op => op.writes ⊆ (W1.map (Proc.devRef (τ := τ) .tc)).toFinset := StableHlo.forall_writes_sub_of_map rfl

def V0 (d : Dev nD) : Valuation τ sig (Elt F) := fun b => m (d, b)
def U0 (d : Dev nD) : Valuation τ sig (Elt F) := after ops0 (V0 m d)
abbrev fI (d : Dev nD) : Vec F S16384 .i32 := m (iLoc d)
/-- The gathered rows. -/
def rows (d : Dev nD) : Vec F S16384x2x128 .f32 := gat (fI m d) (U0 m d (dr main_v10))
def U1 (d : Dev nD) : Valuation τ sig (Elt F) := Function.update (U0 m d) (dr main_v11) (rows m d)
def U2 (d : Dev nD) : Valuation τ sig (Elt F) := after ops1 (U1 m d)
/-- What the update of the rows finds in its arrays. -/
def A (d : Dev nD) (b : Ref sig .tc) : Buf (Elt F) ((d.tc : Thread nD τ).loc b) := U2 m d (dr b)

variable [∀ e, Nonempty (Elt F e)]

def U3 (d : Dev nD) : Valuation τ sig (Elt F) :=
  Function.update (Function.update (U2 m d) (dr main_v16_0) (Region.left (A m) d 11)) (dr main_v16_1) (Region.left (A m) d 12)
def U4 (d : Dev nD) : Valuation τ sig (Elt F) := (opCopy (F := F)).result (U3 m d)

/-- What the calls find. -/
def X (d : Dev nD) : Found F :=
  ⟨fI m d, U0 m d (dr main_v10), U0 m d (dr main_v11), U4 m d (dr main_v16_1), U4 m d (dr main_v17)⟩

/-- What the program leaves in the result's buffer. -/
def OUT (d : Dev nD) : Vec F S100000x256 .f32 := (X m d).out

/-- A buffer no line writes and no call writes keeps its contents. -/
theorem kept (d : Dev nD) (r : Ref sig .tc) (h0 : r ∉ W0) (h1 : r ∉ W1) (hg : r ≠ main_v11) (h3 : r ≠ main_v16_0) (h4 : r ≠ main_v16_1) (h5 : r ≠ main_v17) :
    U4 m d (dr r) = m ((SparseCore.T d).loc r) := by
  have e : ∀ {y : Ref sig .tc}, r ≠ y → dr r ≠ dr y := fun h h' => h (Proc.devRef_injective _ h')
  unfold U4 U3 U2 U1 U0
  rw [StableHlo.unary_result_ne _ _ _ _ _ _ h5, Function.update_of_ne (e h4), Function.update_of_ne (e h3),
    StableHlo.after_of_writes_sub _ _ ops1_writes h1, Function.update_of_ne (e hg), StableHlo.after_of_writes_sub _ _ ops0_writes h0]
  rfl

/-! ## The buffers held -/

def ucRefs : Finset (DevRef τ sig) := (StableHlo.tcRefs τ sig).filter fun b => ¬ b.isScoped

omit [FloatOps F] [∀ e, Nonempty (Elt F e)] in
theorem unscoped_held (d : Dev nD) : (unscopedBufs d (fun b => m ((SparseCore.T d).loc b)) : sProp 𝕄) = held (T d) ucRefs (V0 m d) := by
  unfold unscopedBufs held ucRefs StableHlo.tcRefs
  rw [Finset.filter_map, bigSep_map]
  rfl

theorem mem_uc {r : Ref sig .tc} (h : (dr r).isScoped = false) : dr r ∈ ucRefs :=
  Finset.mem_filter.mpr ⟨StableHlo.devRef_mem_tcRefs r, by rw [h]; exact Bool.false_ne_true⟩

theorem sub_uc {s : Finset (DevRef τ sig)} (hs : s ⊆ StableHlo.tcRefs τ sig) (h : ∀ b ∈ s, b.isScoped = false) : s ⊆ ucRefs := fun b hb =>
  Finset.mem_filter.mpr ⟨hs hb, by rw [h b hb]; exact Bool.false_ne_true⟩

theorem ops0_bufs : ∀ op ∈ ops0 (F := F), op.bufs ⊆ ucRefs := by
  have h : (ops0 (F := F)).Forall fun op => op.bufs ⊆ StableHlo.tcRefs τ sig := by
    simp only [List.Forall, StableHlo.nullary_bufs_sub, StableHlo.unary_bufs_sub, StableHlo.ternary_bufs_sub, StableHlo.reshape_bufs_sub, and_self]
  exact fun op hop => sub_uc (List.forall_iff_forall_mem.mp h op hop) op.no_scoped

omit [FloatOps F] [∀ e, Nonempty (Elt F e)] in
theorem held_put (d : Dev nD) {S : Finset (DevRef τ sig)} {b : DevRef τ sig} (hb : b ∉ S) (W : Valuation τ sig (Elt F)) (f : b.ty.Contents (Elt F)) :
    (held (T d) (insert b S) (Function.update W b f) : sProp 𝕄) = iprop(((d, b) ↦{fullShare} f) ∗ held (T d) S W) := by
  unfold held
  rw [SparseCore.bigSep_insert' hb, Function.update_self]
  congr 1
  refine bigSep_congr fun b' hb' => ?_
  have hne : b' ≠ b := fun e => hb (e ▸ hb')
  rw [Function.update_of_ne hne]

/-- What the first call takes out of the buffers. -/
abbrev T0 : Finset (DevRef τ sig) := {dr main_arg1, dr main_v10, dr main_v11}
/-- What is held after it. -/
def S1 : Finset (DevRef τ sig) := insert (dr main_v11) (ucRefs \ T0)
/-- What the second call takes out. -/
abbrev T1 : Finset (DevRef τ sig) := {dr main_v16_1, dr main_v17}
/-- The update's arrays. -/
def img : Finset (DevRef τ sig) := Finset.univ.image fun w : Fin 13 => dr (Pipeline.arrRef spec1 w)

theorem mem_S1 {r : Ref sig .tc} (h : (dr r).isScoped = false) (hn : dr r ∉ T0) : dr r ∈ S1 :=
  Finset.mem_insert_of_mem (Finset.mem_sdiff.mpr ⟨mem_uc h, hn⟩)

theorem T0_sub : T0 ⊆ ucRefs := by
  intro b hb
  simp only [T0, Finset.mem_insert, Finset.mem_singleton] at hb
  rcases hb with rfl | rfl | rfl <;> exact mem_uc rfl

theorem T1_sub : T1 ⊆ S1 := by
  intro b hb
  simp only [T1, Finset.mem_insert, Finset.mem_singleton] at hb
  rcases hb with rfl | rfl <;> exact mem_S1 rfl (by decide)

theorem img_sub : img ⊆ S1 := by
  refine Finset.image_subset_iff.mpr fun w _ => mem_S1 ?_ ?_
  · revert w; decide
  · revert w; decide

theorem img_inj : Function.Injective fun w : Fin 13 => dr (Pipeline.arrRef spec1 w) := by decide

theorem ops1_bufs : ∀ op ∈ ops1 (F := F), op.bufs ⊆ S1 := by
  have h2 : ∀ x y : Ref sig .tc, dr x ∈ S1 → dr y ∈ S1 → ({dr x, dr y} : Finset (DevRef τ sig)) ⊆ S1 := fun x y hx hy b hb => by
    simp only [Finset.mem_insert, Finset.mem_singleton] at hb
    rcases hb with rfl | rfl <;> assumption
  have h : (ops1 (F := F)).Forall fun op => op.bufs ⊆ S1 :=
    ⟨h2 _ _ (Finset.mem_insert_self _ _) (mem_S1 rfl (by decide)), h2 _ _ (mem_S1 rfl (by decide)) (mem_S1 rfl (by decide)),
      h2 _ _ (mem_S1 rfl (by decide)) (mem_S1 rfl (by decide)), h2 _ _ (mem_S1 rfl (by decide)) (mem_S1 rfl (by decide))⟩
  exact fun op hop => List.forall_iff_forall_mem.mp h op hop

theorem copy_bufs : (opCopy (F := F)).bufs ⊆ S1 := by
  intro b hb
  have hb' : b ∈ ({dr main_v16_0, dr main_v17} : Finset (DevRef τ sig)) := hb
  simp only [Finset.mem_insert, Finset.mem_singleton] at hb'
  rcases hb' with rfl | rfl <;> exact mem_S1 rfl (by decide)

theorem ops0_fresh : ∀ op ∈ ops0 (F := F), op.fresh = ∅ := List.forall_iff_forall_mem.mp (StableHlo.forall_fresh_of_map rfl)
theorem ops1_fresh : ∀ op ∈ ops1 (F := F), op.fresh = ∅ := List.forall_iff_forall_mem.mp (StableHlo.forall_fresh_of_map rfl)

theorem take0 (d : Dev nD) :
    (held (T d) ucRefs (after ops0 (V0 m d)) : sProp 𝕄)
      ⊢ iprop(((iLoc d ↦{fullShare} (X m d).ix) ∗ (tLoc d ↦{fullShare} (X m d).tab) ∗ (gLoc d ↦{fullShare} (X m d).g0)) ∗ held (T d) (ucRefs \ T0) (U0 m d)) := by
  change held (T d) ucRefs (U0 m d) ⊢ _
  rw [StableHlo.held_sub_split _ T0_sub]
  refine sep_mono_left (Entails.of_eq ?_)
  unfold held T0
  rw [SparseCore.bigSep_insert' (by decide), SparseCore.bigSep_insert' (by decide), bigSep_singleton]
  have e : U0 m d (dr main_arg1) = fI m d := StableHlo.after_of_writes_sub _ _ ops0_writes (by decide)
  rw [e]; rfl

theorem put0 (d : Dev nD) :
    (iprop((gLoc d ↦{fullShare} gat (X m d).ix (X m d).tab) ∗ held (T d) (ucRefs \ T0) (U0 m d)) : sProp 𝕄) ⊢ held (T d) S1 (U1 m d) := by
  refine Entails.of_eq ?_
  unfold S1 U1
  rw [held_put d (Finset.notMem_sdiff_of_mem_right (by decide))]
  rfl

omit [∀ e, Nonempty (Elt F e)] in
theorem arrs_held (d : Dev nD) (W : Valuation τ sig (Elt F)) (G : (w : Fin 13) → Buf (Elt F) ((d.tc : Thread nD τ).loc (Pipeline.arrRef spec1 w)))
    (h : ∀ w, W (dr (Pipeline.arrRef spec1 w)) = G w) : (held (T d) img W : sProp 𝕄) = Region.arrs d G := by
  unfold held img Region.arrs
  rw [SparseCore.bigSep_image_of_injOn img_inj.injOn]
  exact bigSep_congr fun w _ => by rw [h w]

theorem take1 (d : Dev nD) :
    (held (T d) S1 (after ops1 (U1 m d)) : sProp 𝕄)
      ⊢ iprop(Region.arrs d (fun w => A m d (Pipeline.arrRef spec1 w)) ∗ held (T d) (S1 \ img) (U2 m d)) := by
  change held (T d) S1 (U2 m d) ⊢ _
  rw [StableHlo.held_sub_split _ img_sub, arrs_held d (U2 m d) (fun w => A m d (Pipeline.arrRef spec1 w)) fun _ => rfl]

theorem left_eq (d : Dev nD) (w : Fin 13) : U3 m d (dr (Pipeline.arrRef spec1 w)) = Region.left (A m) d w := by
  unfold U3
  by_cases h12 : w = 12
  · subst h12; exact Function.update_self _ _ _
  by_cases h11 : w = 11
  · subst h11
    rw [Function.update_of_ne (by decide)]
    exact Function.update_self _ _ _
  rw [Function.update_of_ne (fun e => h12 (img_inj e)), Function.update_of_ne (fun e => h11 (img_inj e))]
  refine (Pipeline.Dat.arrAt_in (Region.dat (A m) d) w ?_ _).symm
  revert w; decide

theorem put1 (d : Dev nD) :
    (iprop(Region.arrs d (Region.left (A m) d) ∗ held (T d) (S1 \ img) (U2 m d)) : sProp 𝕄) ⊢ held (T d) S1 (U3 m d) := by
  rw [StableHlo.held_sub_split _ img_sub, arrs_held d (U3 m d) (Region.left (A m) d) (left_eq m d)]
  refine sep_mono_right (Entails.of_eq (StableHlo.held_congr _ fun b hb => ?_))
  have hb' := (Finset.mem_sdiff.mp hb).2
  have hne : ∀ w : Fin 13, b ≠ dr (Pipeline.arrRef spec1 w) := fun w e => hb' (e ▸ Finset.mem_image_of_mem _ (Finset.mem_univ w))
  unfold U3
  rw [Function.update_of_ne (hne 12), Function.update_of_ne (hne 11)]

theorem take2 (d : Dev nD) :
    (held (T d) S1 ((opCopy (F := F)).result (U3 m d)) : sProp 𝕄)
      ⊢ iprop(((hLoc d ↦{fullShare} (X m d).hn) ∗ (oLoc d ↦{fullShare} (X m d).oa)) ∗ held (T d) (S1 \ T1) (U4 m d)) := by
  change held (T d) S1 (U4 m d) ⊢ _
  rw [StableHlo.held_sub_split _ T1_sub]
  refine sep_mono_left (Entails.of_eq ?_)
  unfold held T1
  rw [SparseCore.bigSep_insert' (by decide), bigSep_singleton]
  rfl

/-! ## The ghost state at the launch -/

def u₀ : UU := (initOf (K (F := F)).hsCells (K (F := F)).hsToks,
  (initOf (Pipeline.cells (Pipeline.pin (pcfgs (F := F)) Region.adm) cellOf_inj) (Pipeline.launchToks (Pipeline.pin (pcfgs (F := F)) Region.adm) cellOf_inj), 1))

theorem ownU_split (a : UH) (b : UP) : (ownU ((a, (b, 1)) : UU) : sProp 𝕄) ⊢ iprop(BI.own (EH a) ∗ BI.own (Region.EP (F := F) b)) :=
  BI.own_op_elim ((uEmb (nD := nD) (sig := sig) (Ix := HIx 2) (Val := Elt F) (Name := ℕ) (U := UU) (Lvl := ℕ)).toEmb.op_of_mem
    (Prod.mk_mem_op (URA.mem_op_one a) (URA.mem_one_op (b, (1 : Counters)))))

theorem hu₀ : (ownU (u₀ (F := F)) : sProp 𝕄)
    ⊢ |={Set.univ}=> iprop(BI.own (EH (initOf (K (F := F)).hsCells (K (F := F)).hsToks)) ∗ (bigSep Finset.univ fun d : Dev nD => Region.ghost (F := F) d)
        ∗ bigSep Finset.univ fun thr : Thread nD τ => bigSep Finset.univ fun q : Fin 2 => (P (X m)).x q thr) := by
  unfold u₀
  iintro Hu
  ihave H := (ownU_split _ _) $$ Hu
  icases H with ⟨HH, HP⟩
  imod (Pipeline.fund_ghost (Pipeline.pin (pcfgs (F := F)) Region.adm) Region.EP cellOf_inj) $$ HP with ⟨Hc, Ht⟩
  imodintro
  isplitl [HH]; · iexact HH
  isplitl [Hc Ht]
  · unfold Region.ghost
    rw [bigSep_sep']
    isplitl [Hc]
    · ihave H := (show (bigSep Finset.univ fun c : Dev nD => bigSep Finset.univ fun p => Pipeline.cellsGhost (Pipeline.pin (pcfgs (F := F)) Region.adm) Region.EP p c)
          ⊢ (bigSep Finset.univ fun c : Dev nD => Pipeline.cellsGhost (Pipeline.pin (pcfgs (F := F)) Region.adm) Region.EP 0 c : sProp 𝕄)
          from Entails.of_eq (bigSep_congr fun c _ => bigSep_univ_of_subsingleton (0 : Fin 1))) $$ Hc
      iexact H
    · ihave H := (show (bigSep Finset.univ fun c : Dev nD => bigSep Finset.univ fun p => Pipeline.toksInit (Pipeline.pin (pcfgs (F := F)) Region.adm) Region.EP p c)
          ⊢ (bigSep Finset.univ fun c : Dev nD => Pipeline.toksInit (Pipeline.pin (pcfgs (F := F)) Region.adm) Region.EP 0 c : sProp 𝕄)
          from Entails.of_eq (bigSep_congr fun c _ => bigSep_univ_of_subsingleton (0 : Fin 1))) $$ Ht
      iexact H
  rw [show (bigSep Finset.univ fun thr : Thread nD τ => bigSep Finset.univ fun q : Fin 2 => (P (F := F) (X m)).x q thr) = bigSep Finset.univ fun _ => iprop(emp) from
    bigSep_congr fun _ _ => bigSep_emp_const _]
  rw [show (bigSep Finset.univ fun _ : Thread nD τ => iprop(emp)) = (iprop(emp) : sProp 𝕄) from bigSep_emp_const _]
  iempintro

/-! ## The program on the TensorCore -/

theorem wp_line (d : Dev nD) (S : Finset (DevRef τ sig)) (ops : List (HloOp τ sig (Elt F))) (hS : ∀ op ∈ ops, op.bufs ⊆ S)
    (hf : ∀ op ∈ ops, op.fresh = ∅) (W : Valuation τ sig (Elt F)) (Q : PUnit → sProp 𝕄) :
    iprop(boundary (T d) ∗ held (T d) S W)
      ⊢ iprop(((boundary (T d) ∗ held (T d) S (after ops W)) -∗ Q ⟨⟩)
        -∗ wp frame (wpE ((K (F := F)).defs (D (F := F))) 𝒱 (T d) none) Set.univ (StableHlo.seq ops) Q) := by
  have h := StableHlo.wp_seq (defs := (K (F := F)).defs (D (F := F))) 𝒱 none Set.univ d S (fun x => .ret x) (K := Q) ops hS hf W
  rw [show (StableHlo.seq ops >>= fun x => .ret x) = StableHlo.seq ops from bind_pure _] at h
  iintro H Hk
  iapply h $$ H
  iintro H
  rw [wp_ret]; imodintro
  iapply Hk; iexact H

/-- The core's signals owed, out of what it holds between the calls, and back. -/
theorem owing_out (d : Dev nD) : ((K (F := F)).tcSt EH d 1 : sProp 𝕄) ⊢ iprop(Region.owing d ∗ (Region.owing d -∗ (K (F := F)).tcSt EH d 1)) := by
  unfold SparseCore.Cfg.tcSt Region.owing
  change iprop(Region.owing d ∗ _) ⊢ iprop(Region.owing d ∗ (Region.owing d -∗ (Region.owing d ∗ _)))
  iintro ⟨HO, Hr⟩
  isplitl [HO]; · iexact HO
  iintro HO
  isplitl [HO]; · iexact HO
  iexact Hr

abbrev FIN (d : Dev nD) : sProp 𝕄 :=
  iprop((iLoc d ↦{shareDrop qI 32} fI m d) ∗ (oLoc d ↦{fullShare} OUT m d) ∗ held (T d) (S1 \ T1) (U4 m d))

theorem hmain (κ : GSem nD τ sig → ℕ) (d : Dev nD) :
    iprop((K (F := F)).ctx EH (P (X m)) κ ∗ (K (F := F)).tcSt EH d 0 ∗ (K (F := F)).tcRes m ρ d ∗ Region.ghost (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held, main_eq]
  simp only [wp_bind, wp_pure]
  iintro ⟨#Hctx, Hst, ⟨Hb, Hheld, Hts, -⟩, Hg⟩
  iapply (wp_line d ucRefs ops0 ops0_bufs ops0_fresh (V0 m d) _) $$ [Hb Hheld]
  · isplitl [Hb] <;> iassumption
  iintro ⟨Hb, Hheld⟩
  ihave H := (take0 m d) $$ Hheld
  icases H with ⟨H3, Hrest⟩
  ihave H := (st_gather (X m) d) $$ H3
  icases H with ⟨Hi, H⟩
  iapply ((K (F := F)).wp_run (D (F := F)) 𝒱 (EH := EH) (P := P (X m)) κ d 0) $$ [Hst H Hi Hb Hts Hrest Hg]
  isplitr; · iexact Hctx
  isplitl [Hst]; · iexact Hst
  isplitl [H]; · iexact H
  iintro ⟨Hst, Hdn⟩
  ihave Hgat := (dn_gather (X m) d) $$ Hdn
  ihave Hheld := (put0 m d) $$ [Hgat Hrest]
  · isplitl [Hgat] <;> iassumption
  iapply (wp_line d S1 ops1 ops1_bufs ops1_fresh (U1 m d) _) $$ [Hb Hheld]
  · isplitl [Hb] <;> iassumption
  iintro ⟨Hb, Hheld⟩
  ihave H := (take1 m d) $$ Hheld
  icases H with ⟨Ha, Hrest⟩
  ihave H := (show ((K (F := F)).tcSt EH d ((0 : Fin 2).val + 1) : sProp 𝕄) ⊢ _ from owing_out d) $$ Hst
  icases H with ⟨HO, Hback⟩
  ihave Hlev := ((K (F := F)).ctx_levAts κ) $$ Hctx
  iapply (Region.wp_region (A m) d _)
  isplitl [Hi Hts Hrest Hback]
  · iintro ⟨Hb, Ha, HO⟩
    ihave Hst := Hback $$ HO
    ihave Hheld := (put1 m d) $$ [Ha Hrest]
    · isplitl [Ha] <;> iassumption
    iapply (wp_hlo_within 𝒱 (SparseCore.T d) none Set.univ (op := opCopy) (S := S1) copy_bufs (V := U3 m d)) $$ [Hb Hheld]
    · isplitl [Hb] <;> iassumption
    iintro ⟨Hb, Hheld⟩
    rw [wp_ret]; imodintro
    ihave H := (take2 m d) $$ Hheld
    icases H with ⟨⟨Hh, Ho⟩, Hrest⟩
    ihave H := (st_scatter (X m) d) $$ [Hi Hh Ho]
    · isplitl [Hi]; · iexact Hi
      isplitl [Hh]; · iexact Hh
      iexact Ho
    icases H with ⟨Hi, H⟩
    iapply ((K (F := F)).wp_run (D (F := F)) 𝒱 (EH := EH) (P := P (X m)) κ d 1) $$ [Hst H Hi Hb Hts Hrest]
    isplitr; · iexact Hctx
    isplitl [Hst]; · iexact Hst
    isplitl [H]; · iexact H
    iintro ⟨Hst, Hdn⟩
    ihave Ho := (dn_scatter (X m) d) $$ Hdn
    imodintro
    isplitl [Hst]; · iexact Hst
    isplitr [Hb Hts]
    · isplitl [Hi]; · iexact Hi
      isplitl [Ho]; · iexact Ho
      iexact Hrest
    isplitl [Hb] <;> iassumption
  isplitl [Hb]; · iexact Hb
  isplitl [Ha HO]
  · isplitl [Ha] <;> iassumption
  isplitl [Hlev]; · iexact Hlev
  iexact Hg

/-! ## The run -/

/-- The argument arrays besides the index list. -/
abbrev args : List (Ref sig .tc) := [main_arg0, main_arg2, main_arg3, main_arg4, main_arg5, main_arg6, main_arg7, main_arg8, main_arg9, main_arg10]

theorem args_held {r : Ref sig .tc} (h : r ∈ args) : dr r ∈ S1 \ T1 := by
  have h' : (dr r).isScoped = false ∧ dr r ∉ T0 ∧ dr r ∉ T1 := by revert r; decide
  exact Finset.mem_sdiff.mpr ⟨mem_S1 h'.1 h'.2.1, h'.2.2⟩

theorem args_kept (d : Dev nD) {r : Ref sig .tc} (h : r ∈ args) : U4 m d (dr r) = m ((SparseCore.T d).loc r) := by
  have h' : r ∉ W0 ∧ r ∉ W1 ∧ r ≠ main_v11 ∧ r ≠ main_v16_0 ∧ r ≠ main_v16_1 ∧ r ≠ main_v17 := by revert r; decide
  exact kept m d r h'.1 h'.2.1 h'.2.2.1 h'.2.2.2.1 h'.2.2.2.2.1 h'.2.2.2.2.2

def fq (d : Dev nD) (s' : Phys nD τ sig (Elt F)) : Prop :=
  s'.mem.mem (oLoc d) = OUT m d ∧ s'.mem.mem (iLoc d) = m (iLoc d) ∧ ∀ r ∈ args, s'.mem.mem ((SparseCore.T d).loc r) = m ((SparseCore.T d).loc r)

omit [FloatOps F] [∀ e, Nonempty (Elt F e)] in
/-- A buffer held whole at some share is the memory's. -/
theorem agree {ℓ : Loc nD τ sig} {q : PosShare TreeShare} {f : Buf (Elt F) ℓ} (s' : Phys nD τ sig (Elt F)) :
    iprop((ℓ ↦{q} f) ∗ SI s') ⊢ (iprop(⌜s'.mem.mem ℓ = f⌝ ∗ SI s') : sProp 𝕄) := by
  iintro ⟨Hf, HSI⟩
  ihave H := (persistent_entails_right (SI_pointsTo_agree (st := s') (ℓ := ℓ) (I := Finset.univ) (q := q) (f := f))) $$ [HSI Hf]
  · isplitl [HSI] <;> iassumption
  icases H with ⟨%h, HSI, -⟩
  isplitr; · ipureintro; exact funext fun z => h z (Finset.mem_univ z)
  iexact HSI

theorem hfin (d : Dev nD) (s' : Phys nD τ sig (Elt F)) : iprop(FIN m d ∗ SI s') ⊢ (⌜fq m d s'⌝ : sProp 𝕄) := by
  iintro ⟨⟨Hi, Ho, Hr⟩, HSI⟩
  ihave H := (agree s') $$ [HSI Hi]
  · isplitl [Hi] <;> iassumption
  icases H with ⟨%hi, HSI⟩
  ihave H := (agree s') $$ [HSI Ho]
  · isplitl [Ho] <;> iassumption
  icases H with ⟨%ho, HSI⟩
  ihave Hr := (show (held (T d) (S1 \ T1) (U4 m d) : sProp 𝕄) ⊢ (bigSep (S1 \ T1) fun b => ((d, b) : Loc nD τ sig) ↦{fullShare} U4 m d b) from BI.Entails.refl _) $$ Hr
  ihave H := (pointsTo_read_all (S1 \ T1) (fun b => (d, b)) (U4 m d) s') $$ [HSI Hr]
  · isplitl [Hr] <;> iassumption
  icases H with ⟨%hr, -⟩
  ipureintro
  exact ⟨ho, hi, fun r h => (hr (dr r) (args_held h)).trans (args_kept m d h)⟩

def QC : PUnit × MemSt nD τ sig (Elt F) → Prop := fun r =>
  (∀ d : Dev nD, r.2.mem (oLoc d) = OUT m d ∧ r.2.mem (iLoc d) = m (iLoc d)
    ∧ ∀ x ∈ args, r.2.mem ((SparseCore.T d).loc x) = m ((SparseCore.T d).loc x)) ∧ r.2.sem = fun _ => 0

theorem run_main (hix : ∀ d, Names (fI m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (X m)) (A := ∅) facts v₀
    (fun q hq => match q with | 0 => nomatch hq | 1 => nomatch hq)
    (fun q _ => match q with | 0 => tileObl_gather (X m) hix | 1 => tileObl_scatter (X m))
    (fun q _ => SparseCore.Cfg.VecSplit.of_plain (vecSplit (X m) q))
    m ρ main (fun d => Region.ghost (F := F) d) (FIN m) (u₀ (F := F)) (sep_elim_left.trans (hu₀ m)) (hmain m ρ) (fq m) (hfin m) (QC m) (fun _ h hz => ⟨h, hz⟩)

end Cert.Proof.Launch

end
-- ==== Proof.Cell.lean ====
/-
  One row of the update, as numbers: what the message's layers and the recurrent step make of a raw message and a row of
  the table; the same over weights padded with zeros; and the update of a block of rows read at an element.
-/
module

public import proofs.«01_k».proof.Proof.Region
public import Idealize.ShloMosaic.Lib.MatmulPlain
public import Idealize.ShloMosaic.Lib.ValueIdx
public import Idealize.ShloMosaic.Lib.ValueLayout

@[expose] public section

noncomputable section

namespace Cert.Proof.Cell

open Idealize.ShloMosaic hiding ix1 ix2 ix3 addf_apply mulf_apply subf_apply constant_apply
open Idealize.ShloMosaic.ValueIdx
open Cert.KernelIdeal Cert.KernelIdeal.Gen
open scoped BigOperators

/-! ## The numbers -/

/-- A linear layer. -/
def lin {p q : ℕ} (x : Fin p → EReal) (W : Fin p → Fin q → EReal) (b : Fin q → EReal) (c : Fin q) : EReal := (∑ k, x k * W k c) + b c

/-- The negative part cut off. -/
def cut {p : ℕ} (x : Fin p → EReal) (k : Fin p) : EReal := max (x k) 0

/-- A column of one of the three gates. -/
def gate (o : ℕ) (ho : o ≤ 512) (j : Fin 256) : Fin 768 := ⟨o + j.val, by have := j.isLt; omega⟩

/-- The recurrent step: from what the message gives the gates, what the row gives them, and the row. -/
def step (gx gh : Fin 768 → EReal) (h : Fin 256 → EReal) (j : Fin 256) : EReal :=
  (1 - Ideal.logistic (gx (gate 256 (by omega) j) + gh (gate 256 (by omega) j)))
      * Ideal.tanh (gx (gate 512 (by omega) j)
          + Ideal.logistic (gx (gate 0 (by omega) j) + gh (gate 0 (by omega) j)) * gh (gate 512 (by omega) j))
    + Ideal.logistic (gx (gate 256 (by omega) j) + gh (gate 256 (by omega) j)) * h j

/-- A row's new contents, over messages of `p` numbers. -/
def cell {p : ℕ} (x : Fin 1024 → EReal) (h : Fin 256 → EReal) (W1 : Fin 1024 → Fin 512 → EReal) (b1 : Fin 512 → EReal)
    (W2 : Fin 512 → Fin p → EReal) (b2 : Fin p → EReal) (Wx : Fin p → Fin 768 → EReal) (Wh : Fin 256 → Fin 768 → EReal)
    (bx bh : Fin 768 → EReal) : Fin 256 → EReal :=
  step (lin (lin (cut (lin x W1 b1)) W2 b2) Wx bx) (lin h Wh bh) h

/-- A layer's input padded with anything, where the weights are padded with zeros. -/
theorem lin_pad {p n q : ℕ} (x : Fin (p + n) → EReal) (y : Fin p → EReal) (W : Fin (p + n) → Fin q → EReal) (V : Fin p → Fin q → EReal) (b : Fin q → EReal)
    (hx : ∀ k, x (Fin.castAdd n k) = y k) (hW : ∀ k c, W (Fin.castAdd n k) c = V k c) (h0 : ∀ k c, W (Fin.natAdd p k) c = 0) : lin x W b = lin y V b := by
  funext c
  unfold lin
  rw [Fin.sum_univ_add]
  simp only [hx, hW, h0, mul_zero, Finset.sum_const_zero, add_zero]

/-- The padded weights give the same row. -/
theorem cell_pad (x : Fin 1024 → EReal) (h : Fin 256 → EReal) (W1 : Fin 1024 → Fin 512 → EReal) (b1 : Fin 512 → EReal)
    (W2 : Fin 512 → Fin 128 → EReal) (V2 : Fin 512 → Fin 100 → EReal) (b2 : Fin 128 → EReal) (c2 : Fin 100 → EReal)
    (Wx : Fin 128 → Fin 768 → EReal) (Vx : Fin 100 → Fin 768 → EReal) (Wh : Fin 256 → Fin 768 → EReal) (bx bh : Fin 768 → EReal)
    (e2 : ∀ i (k : Fin 100), W2 i (Fin.castAdd 28 k) = V2 i k) (eb : ∀ k : Fin 100, b2 (Fin.castAdd 28 k) = c2 k)
    (ex : ∀ (k : Fin 100) c, Wx (Fin.castAdd 28 k) c = Vx k c) (e0 : ∀ (k : Fin 28) c, Wx (Fin.natAdd 100 k) c = 0) :
    cell x h W1 b1 W2 b2 Wx Wh bx bh = cell x h W1 b1 V2 c2 Vx Wh bx bh := by
  unfold cell
  rw [lin_pad (p := 100) (n := 28) _ (lin (cut (lin x W1 b1)) V2 c2) Wx Vx bx (fun k => ?_) ex e0]
  unfold lin
  rw [eb]
  exact congrArg (· + _) (Finset.sum_congr rfl fun i _ => by rw [e2])

/-! ## The block's update at an element -/

/-- A row of a matrix, and the matrix by its two coordinates. -/
abbrev row {n k : ℕ} (X : (⟨2, ![n, k]⟩ : Shape).Idx → EReal) (r : Fin n) (c : Fin k) : EReal := X (ix2 r c)

theorem product {M K N : ℕ} (d : DotDims ⟨2, ![M, K]⟩ ⟨2, ![K, N]⟩ ⟨2, ![M, N]⟩) (hd : d = DotDims.plain M K N)
    (A : FVec Ideal ⟨2, ![M, K]⟩ .f32) (W : FVec Ideal ⟨2, ![K, N]⟩ .f32) (b : FVec Ideal ⟨2, ![1, N]⟩ .f32)
    (h : (⟨2, ![1, N]⟩ : Shape).Broadcasts ⟨2, ![M, N]⟩) (hc : (⟨2, ![1, N]⟩ : Shape).ShapeCasts ⟨2, ![1, N]⟩) (r : Fin M) (c : Fin N) :
    addf (matmul d none A W (constant ⟨2, ![M, N]⟩ .f32 0x00000000#32)) (broadcastTo ⟨2, ![M, N]⟩ (shapeCast ⟨2, ![1, N]⟩ b hc) h) (ix2 r c)
      = lin (row A r) (row W) (row b 0) c := by
  subst hd
  rw [addf_apply, shapeCast_self, broadcastTo_1b_ab_apply, matmul, Ideal.matmul_plain_apply]
  unfold lin row
  rw [constant_apply, Ideal.ofBits_zero_f32, zero_add]

theorem pay2_at (v2 : Vec Ideal S512x1024 .f32) (v3 : Vec Ideal S1024x512 .f32) (v5 : Vec Ideal S1x512 .f32) (v11 : Vec Ideal S512x128 .f32)
    (v14 : Vec Ideal S1x128 .f32) (v18 : Vec Ideal S128x768 .f32) (v21 : Vec Ideal S1x768 .f32) (r : Fin 512) (c : Fin 768) :
    k1_pay2 v2 v3 v5 v11 v14 v18 v21 (ix2 r c)
      = lin (lin (cut (lin (row v2 r) (row v3) (row v5 0))) (row v11) (row v14 0)) (row v18) (row v21 0) c := by
  unfold k1_pay2
  rw [shapeCast_self v11, shapeCast_self v18]
  refine (product _ rfl _ _ _ _ _ r c).trans (congrArg (fun x => lin x (row v18) (row v21 0) c) (funext fun k => ?_))
  refine (product _ rfl _ _ _ _ _ r k).trans (congrArg (fun x => lin x (row v11) (row v14 0) k) (funext fun i => ?_))
  exact congrArg₂ max (product _ rfl _ _ _ _ _ r i) Ideal.ofBits_zero_f32

theorem gates_at (v25 : Vec Ideal S512x256 .f32) (v27 : Vec Ideal S256x768 .f32) (v29 : Vec Ideal S1x768 .f32) (r : Fin 512) (c : Fin 768) :
    addf (k1_pay4 v25 v27) (broadcastTo S512x768 (shapeCast S1x768 v29 shapeCasts_S1x768_S1x768) broadcasts_S1x768_S512x768) (ix2 r c)
      = lin (row v25 r) (row v27) (row v29 0) c := by
  have e : k1_pay3 v25 = v25 := shapeCast_self _ _
  unfold k1_pay4
  rw [e]
  exact product _ rfl _ _ _ _ _ r c

theorem sliced (o : ℕ) (ho : o ≤ 512) (v : FVec Ideal S512x768 .f32) (h : S512x768.Slices ![0, o] S512x256) (r : Fin 512) (j : Fin 256) :
    extractStridedSlice S512x256 ![0, o] v h (ix2 r j) = v (ix2 r (gate o ho j)) :=
  extractStridedSlice_apply _ _ _ _ _ fun a => by
    match a with
    | ⟨0, _⟩ => exact (Nat.zero_add _).symm
    | ⟨1, _⟩ => rfl

/-- The block's update at an element is its row's. -/
theorem gru_at (X1 : Vec Ideal S512x1024 .f32) (X2 : Vec Ideal S512x256 .f32) (X4 : Vec Ideal S1024x512 .f32) (X5 : Vec Ideal S1x512 .f32)
    (X6 : Vec Ideal S512x128 .f32) (X7 : Vec Ideal S1x128 .f32) (X8 : Vec Ideal S128x768 .f32) (X9 : Vec Ideal S256x768 .f32)
    (X10 X11 : Vec Ideal S1x768 .f32) (r : Fin 512) (j : Fin 256) :
    Region.gru X1 X2 X4 X5 X6 X7 X8 X9 X10 X11 (ix2 r j)
      = cell (row X1 r) (row X2 r) (row X4) (row X5 0) (row X6) (row X7 0) (row X8) (row X9) (row X10 0) (row X11 0) j := by
  have e : k1_pay3 X2 = X2 := shapeCast_self _ _
  have hx := pay2_at X1 X4 X5 X6 X7 X8 X10 r
  have hh := gates_at X2 X9 X11 r
  unfold Region.gru cell step
  generalize k1_pay2 X1 X4 X5 X6 X7 X8 X10 = gx at hx ⊢
  unfold k1_pay1
  generalize addf (k1_pay4 X2 X9) (broadcastTo S512x768 (shapeCast S1x768 X11 shapeCasts_S1x768_S1x768) broadcasts_S1x768_S512x768) = gh at hh ⊢
  rw [e]
  have one : Scalar.ofBits (F := Ideal) .f32 0x3F800000#32 = (1 : EReal) := Ideal.ofBits_one_f32
  simp only [addf_apply, mulf_apply, subf_apply, broadcast_apply, logistic, tanh, Ideal.logistic_def, Ideal.tanh_def, sliced 0 (by omega),
    sliced 256 (by omega), sliced 512 (by omega), hx, hh, one]

end Cert.Proof.Cell

end
-- ==== Proof.Values.lean ====
/-
  What the update of the rows leaves in its two arrays: the copy of the table, and row by row the new contents.
-/
module

public import proofs.«01_k».proof.Proof.Cell
public import proofs.«01_k».proof.Proof.Call

@[expose] public section

set_option maxRecDepth 16384

noncomputable section

namespace Cert.Proof.Values

open Cert.KernelIdeal Cert.KernelIdeal.Gen
open Cert.Proof.Region Cert.Proof.Cell
open Idealize.ShloMosaic hiding ix1 ix2 ix3
open Idealize.ShloMosaic.ValueIdx
open Idealize.ShloMosaic.TcCoe
open Idealize.ShloMosaic.Pipeline (Dat)

variable {F : FTy → Type} [FloatOps F] [∀ e, Nonempty (Elt F e)]

theorem idx : ∀ t : Fin cfg1.N, win1_0.index t = ![t.val, 0] ∧ win1_1.index t = ![t.val, 0] ∧ win1_2.index t = ![t.val, 0]
    ∧ win1_3.index t = ![0, 0] ∧ win1_4.index t = ![0, 0] ∧ win1_5.index t = ![0, 0] ∧ win1_6.index t = ![0, 0] ∧ win1_7.index t = ![0, 0]
    ∧ win1_8.index t = ![0, 0] ∧ win1_9.index t = ![0, 0] ∧ win1_10.index t = ![0, 0] ∧ win1_11.index t = ![t.val, 0] ∧ win1_12.index t = ![t.val, 0] :=
  (by decide +kernel : ∀ t : Fin grid1.N, _)

/-- The copied table is the table. -/
theorem left_copy (A : (c : Dev nD) → (b : Ref sig .tc) → Buf (Elt F) ((c : Thread nD τ).loc b)) (c : Dev nD) :
    left A c 11 = A c main_arg0 := by
  refine (dat A c).arrAt_eq_of_covers 11 _ (by decide +kernel) fun t hf y => ?_
  have h := congrFun (cut_inb A c 2 t) y
  refine (show _ = (dat A c).blockOf 2 t y from h).trans ?_
  show A c main_arg0 ((((cfg1.win 2).blk t).view).emb y) = A c main_arg0 ((((cfg1.win 11).blk t).view).emb y)
  blk_ext [idx t]

section
variable (A : (c : Dev nD) → (b : Ref sig .tc) → Buf (Elt Ideal) ((c : Thread nD τ).loc b))

theorem in0 (c : Dev nD) (t : Fin cfg1.N) (p : Fin 512) (r : Fin 16384) (hr : r.val = t.val * 512 + p.val) (k : Fin 1024) :
    inb A c 0 t (ix2 p k) = A c main_arg2 (ix2 r k) := by
  refine (show _ = A c main_arg2 (((cfg1.win 0).blk t).view.emb (ix2 p k)) from congrFun (cut_inb A c 0 t) (ix2 p k)).trans ?_
  blk_ext [idx t]
  exact hr.symm

theorem in1 (c : Dev nD) (t : Fin cfg1.N) (p : Fin 512) (r : Fin 16384) (hr : r.val = t.val * 512 + p.val) (k : Fin 256) :
    inb A c 1 t (ix2 p k) = A c main_v12 (ix2 r k) := by
  refine (show _ = A c main_v12 (((cfg1.win 1).blk t).view.emb (ix2 p k)) from congrFun (cut_inb A c 1 t) (ix2 p k)).trans ?_
  blk_ext [idx t]
  exact hr.symm

theorem in3 (c : Dev nD) (t : Fin cfg1.N) (p : Fin 1024) (k : Fin 512) : inb A c 3 t (ix2 p k) = A c main_arg3 (ix2 p k) := by
  refine (show _ = A c main_arg3 (((cfg1.win 3).blk t).view.emb (ix2 p k)) from congrFun (cut_inb A c 3 t) (ix2 p k)).trans ?_
  blk_ext [idx t]

theorem in4 (c : Dev nD) (t : Fin cfg1.N) (p : Fin 1) (k : Fin 512) : inb A c 4 t (ix2 p k) = A c main_v13 (ix2 p k) := by
  refine (show _ = A c main_v13 (((cfg1.win 4).blk t).view.emb (ix2 p k)) from congrFun (cut_inb A c 4 t) (ix2 p k)).trans ?_
  blk_ext [idx t]

theorem in5 (c : Dev nD) (t : Fin cfg1.N) (p : Fin 512) (k : Fin 128) : inb A c 5 t (ix2 p k) = A c main_v2 (ix2 p k) := by
  refine (show _ = A c main_v2 (((cfg1.win 5).blk t).view.emb (ix2 p k)) from congrFun (cut_inb A c 5 t) (ix2 p k)).trans ?_
  blk_ext [idx t]

theorem in6 (c : Dev nD) (t : Fin cfg1.N) (p : Fin 1) (k : Fin 128) : inb A c 6 t (ix2 p k) = A c main_v6 (ix2 p k) := by
  refine (show _ = A c main_v6 (((cfg1.win 6).blk t).view.emb (ix2 p k)) from congrFun (cut_inb A c 6 t) (ix2 p k)).trans ?_
  blk_ext [idx t]

theorem in7 (c : Dev nD) (t : Fin cfg1.N) (p : Fin 128) (k : Fin 768) : inb A c 7 t (ix2 p k) = A c main_v9 (ix2 p k) := by
  refine (show _ = A c main_v9 (((cfg1.win 7).blk t).view.emb (ix2 p k)) from congrFun (cut_inb A c 7 t) (ix2 p k)).trans ?_
  blk_ext [idx t]

theorem in8 (c : Dev nD) (t : Fin cfg1.N) (p : Fin 256) (k : Fin 768) : inb A c 8 t (ix2 p k) = A c main_arg8 (ix2 p k) := by
  refine (show _ = A c main_arg8 (((cfg1.win 8).blk t).view.emb (ix2 p k)) from congrFun (cut_inb A c 8 t) (ix2 p k)).trans ?_
  blk_ext [idx t]

theorem in9 (c : Dev nD) (t : Fin cfg1.N) (p : Fin 1) (k : Fin 768) : inb A c 9 t (ix2 p k) = A c main_v14 (ix2 p k) := by
  refine (show _ = A c main_v14 (((cfg1.win 9).blk t).view.emb (ix2 p k)) from congrFun (cut_inb A c 9 t) (ix2 p k)).trans ?_
  blk_ext [idx t]

theorem in10 (c : Dev nD) (t : Fin cfg1.N) (p : Fin 1) (k : Fin 768) : inb A c 10 t (ix2 p k) = A c main_v15 (ix2 p k) := by
  refine (show _ = A c main_v15 (((cfg1.win 10).blk t).view.emb (ix2 p k)) from congrFun (cut_inb A c 10 t) (ix2 p k)).trans ?_
  blk_ext [idx t]

/-- The new rows, row by row. -/
def newRow (c : Dev nD) (r : Fin 16384) : Fin 256 → EReal :=
  cell (row (A c main_arg2) r) (row (A c main_v12) r) (row (A c main_arg3)) (row (A c main_v13) 0) (row (A c main_v2)) (row (A c main_v6) 0)
    (row (A c main_v9)) (row (A c main_arg8)) (row (A c main_v14) 0) (row (A c main_v15) 0)

theorem newRows_at (c : Dev nD) (t : Fin cfg1.N) (p : Fin 512) (r : Fin 16384) (hr : r.val = t.val * 512 + p.val) (j : Fin 256) :
    newRows A c t (ix2 p j) = newRow A c r j := by
  unfold newRows
  refine (gru_at _ _ _ _ _ _ _ _ _ _ p j).trans ?_
  unfold newRow
  have e0 : row (inb A c 0 t : Vec Ideal S512x1024 .f32) p = row (A c main_arg2) r := funext (in0 A c t p r hr)
  have e1 : row (inb A c 1 t : Vec Ideal S512x256 .f32) p = row (A c main_v12) r := funext (in1 A c t p r hr)
  have e3 : row (inb A c 3 t : Vec Ideal S1024x512 .f32) = row (A c main_arg3) := funext fun i => funext (in3 A c t i)
  have e4 : row (inb A c 4 t : Vec Ideal S1x512 .f32) 0 = row (A c main_v13) 0 := funext (in4 A c t 0)
  have e5 : row (inb A c 5 t : Vec Ideal S512x128 .f32) = row (A c main_v2) := funext fun i => funext (in5 A c t i)
  have e6 : row (inb A c 6 t : Vec Ideal S1x128 .f32) 0 = row (A c main_v6) 0 := funext (in6 A c t 0)
  have e7 : row (inb A c 7 t : Vec Ideal S128x768 .f32) = row (A c main_v9) := funext fun i => funext (in7 A c t i)
  have e8 : row (inb A c 8 t : Vec Ideal S256x768 .f32) = row (A c main_arg8) := funext fun i => funext (in8 A c t i)
  have e9 : row (inb A c 9 t : Vec Ideal S1x768 .f32) 0 = row (A c main_v14) 0 := funext (in9 A c t 0)
  have e10 : row (inb A c 10 t : Vec Ideal S1x768 .f32) 0 = row (A c main_v15) 0 := funext (in10 A c t 0)
  exact congrFun (by rw [e0, e1, e3, e4, e5, e6, e7, e8, e9, e10]) j

theorem left_rows (c : Dev nD) (r : Fin 16384) (j : Fin 256) : (left A c 12 : Vec Ideal S16384x256 .f32) (ix2 r j) = newRow A c r j := by
  have h : left A c 12 = (fun i : S16384x256.Idx => newRow A c (i 0) (i 1)) := by
    refine (dat A c).arrAt_eq_of_covers 12 _ (by decide +kernel) fun t hf y => ?_
    have e0 : ((((cfg1.win 12).blk t).view.emb y) 0).val = t.val * 512 + (y 0).val := by blk_simp [idx t]
    have e1 : ((((cfg1.win 12).blk t).view.emb y) 1).val = (y 1).val := by blk_simp [idx t]
    blk_simp
    change newRows A c t y = newRow A c ((((cfg1.win 12).blk t).view.emb y) 0) ((((cfg1.win 12).blk t).view.emb y) 1)
    have hy : y = ix2 (y 0) (y 1) := ValueIdx.eq_ix2 y
    rw [hy]
    refine (newRows_at A c t (y 0) _ e0 (y 1)).trans (congrArg (newRow A c _) (Fin.ext e1.symm))
  rw [h]

end

end Cert.Proof.Values

end
-- ==== Proof.Land.lean ====
/-
  The last of a list of writes at one place, and a scatter that puts a small array at the corner of a larger one.
-/
module

public import Idealize.ShloMosaic.Lib.Routing.OpsPair

@[expose] public section

namespace Cert.Proof.Land

open Idealize.ShloMosaic

/-- A fold that writes at the places that hit ends with the last hit's value. -/
theorem foldl_hit {α : Type} {N : ℕ} (hit : Fin N → Prop) [DecidablePred hit] (v : Fin N → α) (a₀ : α) (n₀ : Fin N) (h₀ : hit n₀)
    (hl : ∀ n, n₀ < n → ¬ hit n) : (List.finRange N).foldl (fun a n => if hit n then v n else a) a₀ = v n₀ := by
  induction N with
  | zero => exact n₀.elim0
  | succ N ih =>
    rw [List.finRange_succ_last, List.foldl_append, List.foldl_map]
    show (if hit (Fin.last N) then v (Fin.last N) else _) = _
    by_cases e : n₀ = Fin.last N
    · rw [← e, if_pos h₀]
    · have hlt : n₀ < Fin.last N := Fin.lt_last_iff_ne_last.2 e
      rw [if_neg (hl _ hlt)]
      obtain ⟨q, rfl⟩ := Fin.exists_castSucc_eq.2 e
      exact ih (fun n => hit n.castSucc) (fun n => v n.castSucc) q h₀ fun n hn => hl _ (Fin.castSucc_lt_castSucc_iff.2 hn)

/-- With no hit the fold ends as it began. -/
theorem foldl_miss {α : Type} {N : ℕ} (hit : Fin N → Prop) [DecidablePred hit] (v : Fin N → α) (a₀ : α) (hl : ∀ n, ¬ hit n) :
    (List.finRange N).foldl (fun a n => if hit n then v n else a) a₀ = a₀ := by
  induction List.finRange N with
  | nil => rfl
  | cons n t ih => rw [List.foldl_cons, if_neg (hl n), ih]

/-! ## An array put at the corner of another -/

theorem start_zero {s si u : Shape} {w : ℕ} (d : ScatterDims s si u) (k : u.Idx) (idx : IVec si w) (h : ∀ j, (idx j).toInt = 0) (a : Fin s.rank) :
    d.start k idx a = 0 := by
  unfold ScatterDims.start
  split
  · exact h _
  · rfl

/-- Where one update lands at `z`, the scatter holds it there. -/
theorem scatter_hit {α : Type} {s si u : Shape} {w : ℕ} (d : ScatterDims s si u) (x : s.Idx → α) (idx : IVec si w) (upd : u.Idx → α) (z : s.Idx) (k₀ : u.Idx)
    (h₀ : d.resultIdx? k₀ idx = some z) (h : ∀ k, d.resultIdx? k idx = some z → k = k₀) :
    Host.scatter d (fun _ b => b) x idx upd z = upd k₀ := by
  rw [Routing.scatter_at, foldl_hit (fun n => d.resultIdx? (u.rowMajor.symm n) idx = some z) (fun n => upd (u.rowMajor.symm n)) (x z) (u.rowMajor k₀)]
  · rw [Equiv.symm_apply_apply]
  · rw [Equiv.symm_apply_apply]; exact h₀
  · intro n hn hl
    have := h _ hl
    rw [← this, Equiv.apply_symm_apply] at hn
    exact lt_irrefl _ hn

/-- Where none does, what was there. -/
theorem scatter_miss {α : Type} {s si u : Shape} {w : ℕ} (d : ScatterDims s si u) (x : s.Idx → α) (idx : IVec si w) (upd : u.Idx → α) (z : s.Idx)
    (h : ∀ k, d.resultIdx? k idx ≠ some z) : Host.scatter d (fun _ b => b) x idx upd z = x z := by
  rw [Routing.scatter_at]
  exact foldl_miss _ (fun n => upd (u.rowMajor.symm n)) _ fun n hl => h _ hl

end Cert.Proof.Land
-- ==== Proof.Reference.lean ====
/-
  The reference: its run, a straight line of host operations in five groups, what each group leaves, and the last group's
  value where no index is negative: each row of the array an index names holds the row of the last update that names it,
  any other what it held.
-/
module

public import proofs.«01_k».proof.Proof.Fire
public import proofs.«01_k».proof.Proof.Land
public import proofs.«01_k».proof.Proof.Gen.ReferenceIdeal
public import Idealize.ShloMosaic.Lib.StableHlo.Run
public import Idealize.ShloMosaic.Lib.Quiescent
public import Idealize.ShloMosaic.Lib.Routing.OpsPair

@[expose] public section

noncomputable section

namespace Cert.Proof.Ref

open Cert.ReferenceIdeal Cert.ReferenceIdeal.Gen
open Cert.Proof.Land (foldl_hit foldl_miss)
open Idealize.ShloMosaic Idealize.ShloMosaic.TcCoe Idealize.ShloMosaic.StableHlo Idealize.SL.Sem

variable {F : FTy → Type} [FloatOps F]

/-! ## What each group computes -/

/-- The message of each raw message. -/
def msgV (x : FVec F S16384x1024 .f32) (w1 : FVec F S1024x512 .f32) (b1 : FVec F S512 .f32) (w2 : FVec F S512x100 .f32) (b2 : FVec F S100 .f32) :
    FVec F S16384x100 .f32 :=
  addf (Host.dotGeneral dot_S16384x512_S512x100_S16384x100_1_0_0_1_n_n none
      (maximumf
        (addf (Host.dotGeneral dot_S16384x1024_S1024x512_S16384x512_1_0_0_1_n_n none x w1)
          (broadcastInDim S16384x512 ![0, 1] bcast_S1x512_S16384x512_0_1 (broadcastInDim S1x512 ![1] bcast_S512_S1x512_1 b1)))
        (broadcastInDim S16384x512 ![] bcast_S_S16384x512 (constant S_ .f32 0x00000000#32)))
      w2)
    (broadcastInDim S16384x100 ![0, 1] bcast_S1x100_S16384x100_0_1 (broadcastInDim S1x100 ![1] bcast_S100_S1x100_1 b2))

/-- The index list with jnp's wrap of a negative index, as a column. -/
def ixCol (ix : IVec S16384 32) : IVec S16384x1 32 :=
  broadcastInDim S16384x1 ![0] bcast_S16384_S16384x1_0
    (select (cmpi .slt ix (broadcastInDim S16384 ![] bcast_S_S16384 (constantI S_ 32 0#32)))
      (addi ix (broadcastInDim S16384 ![] bcast_S_S16384 (constantI S_ 32 100000#32))) ix)

/-- Which words of the column name a row of the table. -/
def inTable (ix : IVec S16384 32) : IVec S16384x1 1 :=
  andi (cmpi .sge (ixCol ix) (broadcastInDim S16384x1 ![] bcast_S_S16384x1 (constantI S_ 32 0#32)))
    (cmpi .sle (ixCol ix) (broadcastInDim S16384x1 ![0, 1] bcast_S1x1_S16384x1_0_1 (broadcastInDim S1x1 ![1] bcast_S1_S1x1_1 (constantI S1 32 99999#32))))

/-- The rows the index list names, and no number where a word names none. -/
def takeV (fa : FVec F S100000x256 .f32) (ix : IVec S16384 32) : FVec F S16384x256 .f32 :=
  select (broadcastInDim S16384x256 ![0] bcast_S16384_S16384x256_0
      (Host.reduce IntOp.andi (inTable ix) (constantI S_ 1 1#1) reducesTo_S16384x1_S16384_d1 h_S_))
    (Host.gather gather_S100000x256_S16384x1_S16384x256_1_0_n_n_0_1_1256 fa (ixCol ix))
    (broadcastInDim S16384x256 ![] bcast_S_S16384x256 (constant S_ .f32 0x7FC00000#32))

/-- What the messages give the gates, and what the rows give them. -/
def gxV (x : FVec F S16384x100 .f32) (w : FVec F S100x768 .f32) (b : FVec F S768 .f32) : FVec F S16384x768 .f32 :=
  addf (Host.dotGeneral dot_S16384x100_S100x768_S16384x768_1_0_0_1_n_n none x w)
    (broadcastInDim S16384x768 ![0, 1] bcast_S1x768_S16384x768_0_1 (broadcastInDim S1x768 ![1] bcast_S768_S1x768_1 b))
@[inherit_doc gxV]
def ghV (x : FVec F S16384x256 .f32) (w : FVec F S256x768 .f32) (b : FVec F S768 .f32) : FVec F S16384x768 .f32 :=
  addf (Host.dotGeneral dot_S16384x256_S256x768_S16384x768_1_0_0_1_n_n none x w)
    (broadcastInDim S16384x768 ![0, 1] bcast_S1x768_S16384x768_0_1 (broadcastInDim S1x768 ![1] bcast_S768_S1x768_1 b))

/-- One everywhere. -/
def ones : FVec F S16384x256 .f32 := broadcastInDim S16384x256 ![] bcast_S_S16384x256 (constant S_ .f32 0x3F800000#32)

/-- The logistic function, from the exponential. -/
def sigV (x : FVec F S16384x256 .f32) : FVec F S16384x256 .f32 := Host.divf ones (addf ones (Host.exp (Host.negf x)))

/-- The update and the reset gate. -/
def updV (gx gh : FVec F S16384x768 .f32) : FVec F S16384x256 .f32 :=
  sigV (addf (extractStridedSlice S16384x256 ![0, 256] gx slices_S16384x768_S16384x256_0_256)
    (extractStridedSlice S16384x256 ![0, 256] gh slices_S16384x768_S16384x256_0_256))
@[inherit_doc updV]
def resV (gx gh : FVec F S16384x768 .f32) : FVec F S16384x256 .f32 :=
  sigV (addf (extractStridedSlice S16384x256 ![0, 0] gx slices_S16384x768_S16384x256_0_0)
    (extractStridedSlice S16384x256 ![0, 0] gh slices_S16384x768_S16384x256_0_0))

/-- The recurrent step. -/
def stepV (gx gh : FVec F S16384x768 .f32) (h : FVec F S16384x256 .f32) : FVec F S16384x256 .f32 :=
  addf (mulf (subf ones (updV gx gh))
      (Host.tanh (addf (extractStridedSlice S16384x256 ![0, 512] gx slices_S16384x768_S16384x256_0_512)
        (mulf (resV gx gh) (extractStridedSlice S16384x256 ![0, 512] gh slices_S16384x768_S16384x256_0_512)))))
    (mulf (updV gx gh) h)

/-- The rows put back. -/
def val (fa : FVec F S100000x256 .f32) (fh : FVec F S16384x256 .f32) (ix : IVec S16384 32) : FVec F S100000x256 .f32 :=
  Host.scatter scatter_S100000x256_S16384x1_S16384x256_1_0_0_1 (fun _ b => b) fa (ixCol ix) fh

/-! ## The operations -/

/-- The message. -/
abbrev opsMsg : List (HloOp τ sig (Elt F)) :=
  [binary main_arg2 main_arg3 main_v0 ((fun l r => Host.dotGeneral dot_S16384x1024_S1024x512_S16384x512_1_0_0_1_n_n none l r) : (⟨S16384x1024, .f32⟩ : BufTy).Contents (Elt F) → (⟨S1024x512, .f32⟩ : BufTy).Contents (Elt F) → (⟨S16384x512, .f32⟩ : BufTy).Contents (Elt F)),
   unary main_arg4 main_v1 (broadcastInDim S1x512 ![1] bcast_S512_S1x512_1 : (⟨S512, .f32⟩ : BufTy).Contents (Elt F) → (⟨S1x512, .f32⟩ : BufTy).Contents (Elt F)),
   unary main_v1 main_v2 (broadcastInDim S16384x512 ![0, 1] bcast_S1x512_S16384x512_0_1 : (⟨S1x512, .f32⟩ : BufTy).Contents (Elt F) → (⟨S16384x512, .f32⟩ : BufTy).Contents (Elt F)),
   binary main_v0 main_v2 main_v3 (addf : (⟨S16384x512, .f32⟩ : BufTy).Contents (Elt F) → (⟨S16384x512, .f32⟩ : BufTy).Contents (Elt F) → (⟨S16384x512, .f32⟩ : BufTy).Contents (Elt F)),
   nullary main_call0_cst (constant S_ .f32 0x00000000#32),
   unary main_call0_cst main_call0_v0 (broadcastInDim S16384x512 ![] bcast_S_S16384x512 : (⟨S_, .f32⟩ : BufTy).Contents (Elt F) → (⟨S16384x512, .f32⟩ : BufTy).Contents (Elt F)),
   binary main_v3 main_call0_v0 main_v4 (maximumf : (⟨S16384x512, .f32⟩ : BufTy).Contents (Elt F) → (⟨S16384x512, .f32⟩ : BufTy).Contents (Elt F) → (⟨S16384x512, .f32⟩ : BufTy).Contents (Elt F)),
   binary main_v4 main_arg5 main_v5 ((fun l r => Host.dotGeneral dot_S16384x512_S512x100_S16384x100_1_0_0_1_n_n none l r) : (⟨S16384x512, .f32⟩ : BufTy).Contents (Elt F) → (⟨S512x100, .f32⟩ : BufTy).Contents (Elt F) → (⟨S16384x100, .f32⟩ : BufTy).Contents (Elt F)),
   unary main_arg6 main_v6 (broadcastInDim S1x100 ![1] bcast_S100_S1x100_1 : (⟨S100, .f32⟩ : BufTy).Contents (Elt F) → (⟨S1x100, .f32⟩ : BufTy).Contents (Elt F)),
   unary main_v6 main_v7 (broadcastInDim S16384x100 ![0, 1] bcast_S1x100_S16384x100_0_1 : (⟨S1x100, .f32⟩ : BufTy).Contents (Elt F) → (⟨S16384x100, .f32⟩ : BufTy).Contents (Elt F)),
   binary main_v5 main_v7 main_v8 (addf : (⟨S16384x100, .f32⟩ : BufTy).Contents (Elt F) → (⟨S16384x100, .f32⟩ : BufTy).Contents (Elt F) → (⟨S16384x100, .f32⟩ : BufTy).Contents (Elt F))]

/-- The rows of the table. -/
abbrev opsTake : List (HloOp τ sig (Elt F)) :=
  [nullary main_call1_c (constantI S_ 32 0#32),
   unary main_call1_c main_call1_v0 (broadcastInDim S16384 ![] bcast_S_S16384 : (⟨S_, .i32⟩ : BufTy).Contents (Elt F) → (⟨S16384, .i32⟩ : BufTy).Contents (Elt F)),
   binary main_arg1 main_call1_v0 main_call1_v1 (cmpi .slt : (⟨S16384, .i32⟩ : BufTy).Contents (Elt F) → (⟨S16384, .i32⟩ : BufTy).Contents (Elt F) → (⟨S16384, .i1⟩ : BufTy).Contents (Elt F)),
   nullary main_call1_c_0 (constantI S_ 32 100000#32),
   unary main_call1_c_0 main_call1_v2 (broadcastInDim S16384 ![] bcast_S_S16384 : (⟨S_, .i32⟩ : BufTy).Contents (Elt F) → (⟨S16384, .i32⟩ : BufTy).Contents (Elt F)),
   binary main_arg1 main_call1_v2 main_call1_v3 (addi : (⟨S16384, .i32⟩ : BufTy).Contents (Elt F) → (⟨S16384, .i32⟩ : BufTy).Contents (Elt F) → (⟨S16384, .i32⟩ : BufTy).Contents (Elt F)),
   ternary main_call1_v1 main_call1_v3 main_arg1 main_call1_v4 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
   unary main_call1_v4 main_call1_v5 (broadcastInDim S16384x1 ![0] bcast_S16384_S16384x1_0 : (⟨S16384, .i32⟩ : BufTy).Contents (Elt F) → (⟨S16384x1, .i32⟩ : BufTy).Contents (Elt F)),
   nullary main_call1_c_1 (constantI S1 32 99999#32),
   nullary main_call1_c_2 (constantI S_ 32 0#32),
   unary main_call1_c_2 main_call1_v6 (broadcastInDim S16384x1 ![] bcast_S_S16384x1 : (⟨S_, .i32⟩ : BufTy).Contents (Elt F) → (⟨S16384x1, .i32⟩ : BufTy).Contents (Elt F)),
   binary main_call1_v5 main_call1_v6 main_call1_v7 (cmpi .sge : (⟨S16384x1, .i32⟩ : BufTy).Contents (Elt F) → (⟨S16384x1, .i32⟩ : BufTy).Contents (Elt F) → (⟨S16384x1, .i1⟩ : BufTy).Contents (Elt F)),
   unary main_call1_c_1 main_call1_v8 (broadcastInDim S1x1 ![1] bcast_S1_S1x1_1 : (⟨S1, .i32⟩ : BufTy).Contents (Elt F) → (⟨S1x1, .i32⟩ : BufTy).Contents (Elt F)),
   unary main_call1_v8 main_call1_v9 (broadcastInDim S16384x1 ![0, 1] bcast_S1x1_S16384x1_0_1 : (⟨S1x1, .i32⟩ : BufTy).Contents (Elt F) → (⟨S16384x1, .i32⟩ : BufTy).Contents (Elt F)),
   binary main_call1_v5 main_call1_v9 main_call1_v10 (cmpi .sle : (⟨S16384x1, .i32⟩ : BufTy).Contents (Elt F) → (⟨S16384x1, .i32⟩ : BufTy).Contents (Elt F) → (⟨S16384x1, .i1⟩ : BufTy).Contents (Elt F)),
   binary main_call1_v7 main_call1_v10 main_call1_v11 (andi : (⟨S16384x1, .i1⟩ : BufTy).Contents (Elt F) → (⟨S16384x1, .i1⟩ : BufTy).Contents (Elt F) → (⟨S16384x1, .i1⟩ : BufTy).Contents (Elt F)),
   nullary main_call1_c_3 (constantI S_ 1 1#1),
   binary main_call1_v11 main_call1_c_3 main_call1_v12 ((fun x v => Host.reduce IntOp.andi x v reducesTo_S16384x1_S16384_d1 h_S_) : (⟨S16384x1, .i1⟩ : BufTy).Contents (Elt F) → (⟨S_, .i1⟩ : BufTy).Contents (Elt F) → (⟨S16384, .i1⟩ : BufTy).Contents (Elt F)),
   binary main_arg0 main_call1_v5 main_call1_v13 ((fun x i => Host.gather gather_S100000x256_S16384x1_S16384x256_1_0_n_n_0_1_1256 x i) : (⟨S100000x256, .f32⟩ : BufTy).Contents (Elt F) → (⟨S16384x1, .i32⟩ : BufTy).Contents (Elt F) → (⟨S16384x256, .f32⟩ : BufTy).Contents (Elt F)),
   unary main_call1_v12 main_call1_v14 (broadcastInDim S16384x256 ![0] bcast_S16384_S16384x256_0 : (⟨S16384, .i1⟩ : BufTy).Contents (Elt F) → (⟨S16384x256, .i1⟩ : BufTy).Contents (Elt F)),
   nullary main_call1_cst (constant S_ .f32 0x7FC00000#32),
   unary main_call1_cst main_call1_v15 (broadcastInDim S16384x256 ![] bcast_S_S16384x256 : (⟨S_, .f32⟩ : BufTy).Contents (Elt F) → (⟨S16384x256, .f32⟩ : BufTy).Contents (Elt F)),
   ternary main_call1_v14 main_call1_v13 main_call1_v15 main_v9 (select : (⟨S16384x256, .i1⟩ : BufTy).Contents (Elt F) → (⟨S16384x256, .f32⟩ : BufTy).Contents (Elt F) → (⟨S16384x256, .f32⟩ : BufTy).Contents (Elt F) → (⟨S16384x256, .f32⟩ : BufTy).Contents (Elt F))]

/-- What the message and the row give the gates. -/
abbrev opsGates : List (HloOp τ sig (Elt F)) :=
  [binary main_v8 main_arg7 main_v10 ((fun l r => Host.dotGeneral dot_S16384x100_S100x768_S16384x768_1_0_0_1_n_n none l r) : (⟨S16384x100, .f32⟩ : BufTy).Contents (Elt F) → (⟨S100x768, .f32⟩ : BufTy).Contents (Elt F) → (⟨S16384x768, .f32⟩ : BufTy).Contents (Elt F)),
   unary main_arg9 main_v11 (broadcastInDim S1x768 ![1] bcast_S768_S1x768_1 : (⟨S768, .f32⟩ : BufTy).Contents (Elt F) → (⟨S1x768, .f32⟩ : BufTy).Contents (Elt F)),
   unary main_v11 main_v12 (broadcastInDim S16384x768 ![0, 1] bcast_S1x768_S16384x768_0_1 : (⟨S1x768, .f32⟩ : BufTy).Contents (Elt F) → (⟨S16384x768, .f32⟩ : BufTy).Contents (Elt F)),
   binary main_v10 main_v12 main_v13 (addf : (⟨S16384x768, .f32⟩ : BufTy).Contents (Elt F) → (⟨S16384x768, .f32⟩ : BufTy).Contents (Elt F) → (⟨S16384x768, .f32⟩ : BufTy).Contents (Elt F)),
   binary main_v9 main_arg8 main_v14 ((fun l r => Host.dotGeneral dot_S16384x256_S256x768_S16384x768_1_0_0_1_n_n none l r) : (⟨S16384x256, .f32⟩ : BufTy).Contents (Elt F) → (⟨S256x768, .f32⟩ : BufTy).Contents (Elt F) → (⟨S16384x768, .f32⟩ : BufTy).Contents (Elt F)),
   unary main_arg10 main_v15 (broadcastInDim S1x768 ![1] bcast_S768_S1x768_1 : (⟨S768, .f32⟩ : BufTy).Contents (Elt F) → (⟨S1x768, .f32⟩ : BufTy).Contents (Elt F)),
   unary main_v15 main_v16 (broadcastInDim S16384x768 ![0, 1] bcast_S1x768_S16384x768_0_1 : (⟨S1x768, .f32⟩ : BufTy).Contents (Elt F) → (⟨S16384x768, .f32⟩ : BufTy).Contents (Elt F)),
   binary main_v14 main_v16 main_v17 (addf : (⟨S16384x768, .f32⟩ : BufTy).Contents (Elt F) → (⟨S16384x768, .f32⟩ : BufTy).Contents (Elt F) → (⟨S16384x768, .f32⟩ : BufTy).Contents (Elt F))]

/-- The recurrent step. -/
abbrev opsStep : List (HloOp τ sig (Elt F)) :=
  [unary main_v13 main_v18 ((extractStridedSlice S16384x256 ![0, 0] · slices_S16384x768_S16384x256_0_0) : (⟨S16384x768, .f32⟩ : BufTy).Contents (Elt F) → (⟨S16384x256, .f32⟩ : BufTy).Contents (Elt F)),
   unary main_v13 main_v19 ((extractStridedSlice S16384x256 ![0, 256] · slices_S16384x768_S16384x256_0_256) : (⟨S16384x768, .f32⟩ : BufTy).Contents (Elt F) → (⟨S16384x256, .f32⟩ : BufTy).Contents (Elt F)),
   unary main_v13 main_v20 ((extractStridedSlice S16384x256 ![0, 512] · slices_S16384x768_S16384x256_0_512) : (⟨S16384x768, .f32⟩ : BufTy).Contents (Elt F) → (⟨S16384x256, .f32⟩ : BufTy).Contents (Elt F)),
   unary main_v17 main_v21 ((extractStridedSlice S16384x256 ![0, 0] · slices_S16384x768_S16384x256_0_0) : (⟨S16384x768, .f32⟩ : BufTy).Contents (Elt F) → (⟨S16384x256, .f32⟩ : BufTy).Contents (Elt F)),
   unary main_v17 main_v22 ((extractStridedSlice S16384x256 ![0, 256] · slices_S16384x768_S16384x256_0_256) : (⟨S16384x768, .f32⟩ : BufTy).Contents (Elt F) → (⟨S16384x256, .f32⟩ : BufTy).Contents (Elt F)),
   unary main_v17 main_v23 ((extractStridedSlice S16384x256 ![0, 512] · slices_S16384x768_S16384x256_0_512) : (⟨S16384x768, .f32⟩ : BufTy).Contents (Elt F) → (⟨S16384x256, .f32⟩ : BufTy).Contents (Elt F)),
   binary main_v18 main_v21 main_v24 (addf : (⟨S16384x256, .f32⟩ : BufTy).Contents (Elt F) → (⟨S16384x256, .f32⟩ : BufTy).Contents (Elt F) → (⟨S16384x256, .f32⟩ : BufTy).Contents (Elt F)),
   unary main_v24 main_v25 (Host.negf : (⟨S16384x256, .f32⟩ : BufTy).Contents (Elt F) → (⟨S16384x256, .f32⟩ : BufTy).Contents (Elt F)),
   unary main_v25 main_v26 (Host.exp : (⟨S16384x256, .f32⟩ : BufTy).Contents (Elt F) → (⟨S16384x256, .f32⟩ : BufTy).Contents (Elt F)),
   nullary main_cst (constant S_ .f32 0x3F800000#32),
   unary main_cst main_v27 (broadcastInDim S16384x256 ![] bcast_S_S16384x256 : (⟨S_, .f32⟩ : BufTy).Contents (Elt F) → (⟨S16384x256, .f32⟩ : BufTy).Contents (Elt F)),
   binary main_v27 main_v26 main_v28 (addf : (⟨S16384x256, .f32⟩ : BufTy).Contents (Elt F) → (⟨S16384x256, .f32⟩ : BufTy).Contents (Elt F) → (⟨S16384x256, .f32⟩ : BufTy).Contents (Elt F)),
   nullary main_cst_0 (constant S_ .f32 0x3F800000#32),
   unary main_cst_0 main_v29 (broadcastInDim S16384x256 ![] bcast_S_S16384x256 : (⟨S_, .f32⟩ : BufTy).Contents (Elt F) → (⟨S16384x256, .f32⟩ : BufTy).Contents (Elt F)),
   binary main_v29 main_v28 main_v30 (Host.divf : (⟨S16384x256, .f32⟩ : BufTy).Contents (Elt F) → (⟨S16384x256, .f32⟩ : BufTy).Contents (Elt F) → (⟨S16384x256, .f32⟩ : BufTy).Contents (Elt F)),
   binary main_v19 main_v22 main_v31 (addf : (⟨S16384x256, .f32⟩ : BufTy).Contents (Elt F) → (⟨S16384x256, .f32⟩ : BufTy).Contents (Elt F) → (⟨S16384x256, .f32⟩ : BufTy).Contents (Elt F)),
   unary main_v31 main_v32 (Host.negf : (⟨S16384x256, .f32⟩ : BufTy).Contents (Elt F) → (⟨S16384x256, .f32⟩ : BufTy).Contents (Elt F)),
   unary main_v32 main_v33 (Host.exp : (⟨S16384x256, .f32⟩ : BufTy).Contents (Elt F) → (⟨S16384x256, .f32⟩ : BufTy).Contents (Elt F)),
   nullary main_cst_1 (constant S_ .f32 0x3F800000#32),
   unary main_cst_1 main_v34 (broadcastInDim S16384x256 ![] bcast_S_S16384x256 : (⟨S_, .f32⟩ : BufTy).Contents (Elt F) → (⟨S16384x256, .f32⟩ : BufTy).Contents (Elt F)),
   binary main_v34 main_v33 main_v35 (addf : (⟨S16384x256, .f32⟩ : BufTy).Contents (Elt F) → (⟨S16384x256, .f32⟩ : BufTy).Contents (Elt F) → (⟨S16384x256, .f32⟩ : BufTy).Contents (Elt F)),
   nullary main_cst_2 (constant S_ .f32 0x3F800000#32),
   unary main_cst_2 main_v36 (broadcastInDim S16384x256 ![] bcast_S_S16384x256 : (⟨S_, .f32⟩ : BufTy).Contents (Elt F) → (⟨S16384x256, .f32⟩ : BufTy).Contents (Elt F)),
   binary main_v36 main_v35 main_v37 (Host.divf : (⟨S16384x256, .f32⟩ : BufTy).Contents (Elt F) → (⟨S16384x256, .f32⟩ : BufTy).Contents (Elt F) → (⟨S16384x256, .f32⟩ : BufTy).Contents (Elt F)),
   binary main_v30 main_v23 main_v38 (mulf : (⟨S16384x256, .f32⟩ : BufTy).Contents (Elt F) → (⟨S16384x256, .f32⟩ : BufTy).Contents (Elt F) → (⟨S16384x256, .f32⟩ : BufTy).Contents (Elt F)),
   binary main_v20 main_v38 main_v39 (addf : (⟨S16384x256, .f32⟩ : BufTy).Contents (Elt F) → (⟨S16384x256, .f32⟩ : BufTy).Contents (Elt F) → (⟨S16384x256, .f32⟩ : BufTy).Contents (Elt F)),
   unary main_v39 main_v40 (Host.tanh : (⟨S16384x256, .f32⟩ : BufTy).Contents (Elt F) → (⟨S16384x256, .f32⟩ : BufTy).Contents (Elt F)),
   nullary main_cst_3 (constant S_ .f32 0x3F800000#32),
   unary main_cst_3 main_v41 (broadcastInDim S16384x256 ![] bcast_S_S16384x256 : (⟨S_, .f32⟩ : BufTy).Contents (Elt F) → (⟨S16384x256, .f32⟩ : BufTy).Contents (Elt F)),
   binary main_v41 main_v37 main_v42 (subf : (⟨S16384x256, .f32⟩ : BufTy).Contents (Elt F) → (⟨S16384x256, .f32⟩ : BufTy).Contents (Elt F) → (⟨S16384x256, .f32⟩ : BufTy).Contents (Elt F)),
   binary main_v42 main_v40 main_v43 (mulf : (⟨S16384x256, .f32⟩ : BufTy).Contents (Elt F) → (⟨S16384x256, .f32⟩ : BufTy).Contents (Elt F) → (⟨S16384x256, .f32⟩ : BufTy).Contents (Elt F)),
   binary main_v37 main_v9 main_v44 (mulf : (⟨S16384x256, .f32⟩ : BufTy).Contents (Elt F) → (⟨S16384x256, .f32⟩ : BufTy).Contents (Elt F) → (⟨S16384x256, .f32⟩ : BufTy).Contents (Elt F)),
   binary main_v43 main_v44 main_v45 (addf : (⟨S16384x256, .f32⟩ : BufTy).Contents (Elt F) → (⟨S16384x256, .f32⟩ : BufTy).Contents (Elt F) → (⟨S16384x256, .f32⟩ : BufTy).Contents (Elt F))]

/-- The rows put back. -/
abbrev opsScat : List (HloOp τ sig (Elt F)) :=
  [nullary main_c (constantI S_ 32 0#32),
   unary main_c main_v46 (broadcastInDim S16384 ![] bcast_S_S16384 : (⟨S_, .i32⟩ : BufTy).Contents (Elt F) → (⟨S16384, .i32⟩ : BufTy).Contents (Elt F)),
   binary main_arg1 main_v46 main_v47 (cmpi .slt : (⟨S16384, .i32⟩ : BufTy).Contents (Elt F) → (⟨S16384, .i32⟩ : BufTy).Contents (Elt F) → (⟨S16384, .i1⟩ : BufTy).Contents (Elt F)),
   nullary main_c_4 (constantI S_ 32 100000#32),
   unary main_c_4 main_v48 (broadcastInDim S16384 ![] bcast_S_S16384 : (⟨S_, .i32⟩ : BufTy).Contents (Elt F) → (⟨S16384, .i32⟩ : BufTy).Contents (Elt F)),
   binary main_arg1 main_v48 main_v49 (addi : (⟨S16384, .i32⟩ : BufTy).Contents (Elt F) → (⟨S16384, .i32⟩ : BufTy).Contents (Elt F) → (⟨S16384, .i32⟩ : BufTy).Contents (Elt F)),
   ternary main_v47 main_v49 main_arg1 main_v50 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
   unary main_v50 main_v51 (broadcastInDim S16384x1 ![0] bcast_S16384_S16384x1_0 : (⟨S16384, .i32⟩ : BufTy).Contents (Elt F) → (⟨S16384x1, .i32⟩ : BufTy).Contents (Elt F)),
   ternary main_arg0 main_v51 main_v45 main_v52 ((fun x i u => Host.scatter scatter_S100000x256_S16384x1_S16384x256_1_0_0_1 (fun _ b => b) x i u) : (⟨S100000x256, .f32⟩ : BufTy).Contents (Elt F) → (⟨S16384x1, .i32⟩ : BufTy).Contents (Elt F) → (⟨S16384x256, .f32⟩ : BufTy).Contents (Elt F) → (⟨S100000x256, .f32⟩ : BufTy).Contents (Elt F))]

abbrev WMsg : List (Ref sig .tc) := [main_v0, main_v1, main_v2, main_v3, main_call0_cst, main_call0_v0, main_v4, main_v5, main_v6, main_v7, main_v8]
abbrev WTake : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v9]
abbrev WGates : List (Ref sig .tc) := [main_v10, main_v11, main_v12, main_v13, main_v14, main_v15, main_v16, main_v17]
abbrev WStep : List (Ref sig .tc) := [main_v18, main_v19, main_v20, main_v21, main_v22, main_v23, main_v24, main_v25, main_v26, main_cst, main_v27, main_v28, main_cst_0, main_v29, main_v30, main_v31, main_v32, main_v33, main_cst_1, main_v34, main_v35, main_cst_2, main_v36, main_v37, main_v38, main_v39, main_v40, main_cst_3, main_v41, main_v42, main_v43, main_v44, main_v45]
abbrev WScat : List (Ref sig .tc) := [main_c, main_v46, main_v47, main_c_4, main_v48, main_v49, main_v50, main_v51, main_v52]

abbrev ops : List (HloOp τ sig (Elt F)) := opsMsg ++ (opsTake ++ (opsGates ++ (opsStep ++ opsScat)))

set_option maxRecDepth 100000 in
set_option maxHeartbeats 4000000 in
theorem main_eq (c : Dev nD) : main (F := F) c = seq ops := (rfl)

theorem v8_eq (W : Valuation τ sig (Elt F)) :
    after opsMsg W (main_v8 : DevRef τ sig) = msgV (W (main_arg2 : DevRef τ sig)) (W (main_arg3 : DevRef τ sig)) (W (main_arg4 : DevRef τ sig)) (W (main_arg5 : DevRef τ sig)) (W (main_arg6 : DevRef τ sig)) := by
  after_results
  rfl
theorem v9_eq (W : Valuation τ sig (Elt F)) :
    after opsTake W (main_v9 : DevRef τ sig) = takeV (W (main_arg0 : DevRef τ sig)) (W (main_arg1 : DevRef τ sig)) := by
  after_results
  rfl
theorem v13_eq (W : Valuation τ sig (Elt F)) :
    after opsGates W (main_v13 : DevRef τ sig) = gxV (W (main_v8 : DevRef τ sig)) (W (main_arg7 : DevRef τ sig)) (W (main_arg9 : DevRef τ sig)) := by
  after_results
  rfl
theorem v17_eq (W : Valuation τ sig (Elt F)) :
    after opsGates W (main_v17 : DevRef τ sig) = ghV (W (main_v9 : DevRef τ sig)) (W (main_arg8 : DevRef τ sig)) (W (main_arg10 : DevRef τ sig)) := by
  after_results
  rfl
theorem v45_eq (W : Valuation τ sig (Elt F)) :
    after opsStep W (main_v45 : DevRef τ sig) = stepV (W (main_v13 : DevRef τ sig)) (W (main_v17 : DevRef τ sig)) (W (main_v9 : DevRef τ sig)) := by
  after_results
  rfl
theorem v52_eq (W : Valuation τ sig (Elt F)) :
    after opsScat W (main_v52 : DevRef τ sig) = val (W (main_arg0 : DevRef τ sig)) (W (main_v45 : DevRef τ sig)) (W (main_arg1 : DevRef τ sig)) := by
  after_results
  rfl
theorem opsMsg_writes : (opsMsg (F := F)).Forall fun op => op.writes ⊆ (WMsg.map (Proc.devRef (τ := τ) .tc)).toFinset := forall_writes_sub_of_map rfl
theorem opsTake_writes : (opsTake (F := F)).Forall fun op => op.writes ⊆ (WTake.map (Proc.devRef (τ := τ) .tc)).toFinset := forall_writes_sub_of_map rfl
theorem opsGates_writes : (opsGates (F := F)).Forall fun op => op.writes ⊆ (WGates.map (Proc.devRef (τ := τ) .tc)).toFinset := forall_writes_sub_of_map rfl
theorem opsStep_writes : (opsStep (F := F)).Forall fun op => op.writes ⊆ (WStep.map (Proc.devRef (τ := τ) .tc)).toFinset := forall_writes_sub_of_map rfl
theorem opsScat_writes : (opsScat (F := F)).Forall fun op => op.writes ⊆ (WScat.map (Proc.devRef (τ := τ) .tc)).toFinset := forall_writes_sub_of_map rfl

/-- The result, of the arguments. -/
def full (fa : FVec F S100000x256 .f32) (ix : IVec S16384 32) (x : FVec F S16384x1024 .f32) (w1 : FVec F S1024x512 .f32) (b1 : FVec F S512 .f32)
    (w2 : FVec F S512x100 .f32) (b2 : FVec F S100 .f32) (wx : FVec F S100x768 .f32) (wh : FVec F S256x768 .f32) (bx bh : FVec F S768 .f32) :
    FVec F S100000x256 .f32 :=
  val fa (stepV (gxV (msgV x w1 b1 w2 b2) wx bx) (ghV (takeV fa ix) wh bh) (takeV fa ix)) ix

theorem after_two (l₁ l₂ : List (HloOp τ sig (Elt F))) (W : Valuation τ sig (Elt F)) : after (l₁ ++ l₂) W = after l₂ (after l₁ W) := by
  induction l₁ generalizing W with
  | nil => rfl
  | cons _ _ ih => exact ih _

/-- The contents after each group but the last. -/
def W1 (W : Valuation τ sig (Elt F)) : Valuation τ sig (Elt F) := after opsMsg W
@[inherit_doc W1] def W2 (W : Valuation τ sig (Elt F)) : Valuation τ sig (Elt F) := after opsTake (W1 W)
@[inherit_doc W1] def W3 (W : Valuation τ sig (Elt F)) : Valuation τ sig (Elt F) := after opsGates (W2 W)
@[inherit_doc W1] def W4 (W : Valuation τ sig (Elt F)) : Valuation τ sig (Elt F) := after opsStep (W3 W)

theorem after_ops (W : Valuation τ sig (Elt F)) : after ops W = after opsScat (W4 W) := by
  unfold ops W4 W3 W2 W1
  rw [after_two, after_two, after_two, after_two]

variable (W : Valuation τ sig (Elt F)) {r : Ref sig .tc}

theorem keep1 (h : r ∉ WMsg) : W1 W (Proc.devRef .tc r) = W (Proc.devRef .tc r) := after_of_writes_sub _ W opsMsg_writes h
theorem keep2 (h : r ∉ WTake) : W2 W (Proc.devRef .tc r) = W1 W (Proc.devRef .tc r) := after_of_writes_sub _ _ opsTake_writes h
theorem keep3 (h : r ∉ WGates) : W3 W (Proc.devRef .tc r) = W2 W (Proc.devRef .tc r) := after_of_writes_sub _ _ opsGates_writes h
theorem keep4 (h : r ∉ WStep) : W4 W (Proc.devRef .tc r) = W3 W (Proc.devRef .tc r) := after_of_writes_sub _ _ opsStep_writes h

theorem keep_two (h1 : r ∉ WMsg) (h2 : r ∉ WTake) : W2 W (Proc.devRef .tc r) = W (Proc.devRef .tc r) := (keep2 W h2).trans (keep1 W h1)
theorem keep_all (h1 : r ∉ WMsg) (h2 : r ∉ WTake) (h3 : r ∉ WGates) (h4 : r ∉ WStep) : W4 W (Proc.devRef .tc r) = W (Proc.devRef .tc r) :=
  (keep4 W h4).trans ((keep3 W h3).trans (keep_two W h1 h2))

/-- An argument ends as it began. -/
theorem keep (h : r ∉ WMsg) (h2 : r ∉ WTake) (h3 : r ∉ WGates) (h4 : r ∉ WStep) (h5 : r ∉ WScat) :
    after ops W (Proc.devRef .tc r) = W (Proc.devRef .tc r) := by
  rw [after_ops]
  exact (after_of_writes_sub _ _ opsScat_writes h5).trans (keep_all W h h2 h3 h4)

theorem msg_after : W2 W (main_v8 : DevRef τ sig) = msgV (W (main_arg2 : DevRef τ sig)) (W (main_arg3 : DevRef τ sig)) (W (main_arg4 : DevRef τ sig))
    (W (main_arg5 : DevRef τ sig)) (W (main_arg6 : DevRef τ sig)) :=
  (keep2 W (by decide)).trans (v8_eq W)

theorem take_after : W2 W (main_v9 : DevRef τ sig) = takeV (W (main_arg0 : DevRef τ sig)) (W (main_arg1 : DevRef τ sig)) :=
  (v9_eq _).trans (congrArg₂ takeV (keep1 W (by decide)) (keep1 W (by decide)))

theorem gx_after : W3 W (main_v13 : DevRef τ sig) = gxV (W2 W (main_v8 : DevRef τ sig)) (W (main_arg7 : DevRef τ sig)) (W (main_arg9 : DevRef τ sig)) :=
  (v13_eq _).trans (congrArg₂ (gxV _) (keep_two W (by decide) (by decide)) (keep_two W (by decide) (by decide)))

theorem gh_after : W3 W (main_v17 : DevRef τ sig) = ghV (W2 W (main_v9 : DevRef τ sig)) (W (main_arg8 : DevRef τ sig)) (W (main_arg10 : DevRef τ sig)) :=
  (v17_eq _).trans (congrArg₂ (ghV _) (keep_two W (by decide) (by decide)) (keep_two W (by decide) (by decide)))

theorem step_after : W4 W (main_v45 : DevRef τ sig)
    = stepV (W3 W (main_v13 : DevRef τ sig)) (W3 W (main_v17 : DevRef τ sig)) (W2 W (main_v9 : DevRef τ sig)) :=
  (v45_eq _).trans (congrArg (stepV _ _) (keep3 W (by decide)))

theorem out_eq : after ops W (main_v52 : DevRef τ sig)
    = full (W (main_arg0 : DevRef τ sig)) (W (main_arg1 : DevRef τ sig)) (W (main_arg2 : DevRef τ sig)) (W (main_arg3 : DevRef τ sig))
        (W (main_arg4 : DevRef τ sig)) (W (main_arg5 : DevRef τ sig)) (W (main_arg6 : DevRef τ sig)) (W (main_arg7 : DevRef τ sig))
        (W (main_arg8 : DevRef τ sig)) (W (main_arg9 : DevRef τ sig)) (W (main_arg10 : DevRef τ sig)) := by
  rw [after_ops, v52_eq, step_after, gx_after, gh_after, msg_after, take_after]
  exact congrArg₂ (fun fa ix => val fa _ ix) (keep_all W (by decide) (by decide) (by decide) (by decide))
    (keep_all W (by decide) (by decide) (by decide) (by decide))

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp [ops]

/-- The reference's run: the result is `full` of the arguments, which end unchanged, and every counter is zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v52)
          = full (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10))
      ∧ r.2.sem = fun _ => 0 :=
  (θ_run defs _ _).mono (fun r h => ⟨fun c => ⟨(h c main_v52).trans (out_eq _),
      (h c main_arg0).trans (keep _ (by decide) (by decide) (by decide) (by decide) (by decide)),
      (h c main_arg1).trans (keep _ (by decide) (by decide) (by decide) (by decide) (by decide)),
      (h c main_arg2).trans (keep _ (by decide) (by decide) (by decide) (by decide) (by decide)),
      (h c main_arg3).trans (keep _ (by decide) (by decide) (by decide) (by decide) (by decide)),
      (h c main_arg4).trans (keep _ (by decide) (by decide) (by decide) (by decide) (by decide)),
      (h c main_arg5).trans (keep _ (by decide) (by decide) (by decide) (by decide) (by decide)),
      (h c main_arg6).trans (keep _ (by decide) (by decide) (by decide) (by decide) (by decide)),
      (h c main_arg7).trans (keep _ (by decide) (by decide) (by decide) (by decide) (by decide)),
      (h c main_arg8).trans (keep _ (by decide) (by decide) (by decide) (by decide) (by decide)),
      (h c main_arg9).trans (keep _ (by decide) (by decide) (by decide) (by decide) (by decide)),
      (h c main_arg10).trans (keep _ (by decide) (by decide) (by decide) (by decide) (by decide))⟩,
      sem_eq_zero_of_no_sems (by decide) r.2⟩)
    (run_seq scopedRefs_eq scopedSems_eq defs main (fun _ => ops) main_eq (fun _ => ops_sub) m ρ)

/-! ## Where an update lands -/

section Land

local notation "D" => scatter_S100000x256_S16384x1_S16384x256_1_0_0_1

/-- The place in the column of index words that update `k` reads. -/
def colAt (k : S16384x256.Idx) : S16384x1.Idx := fun
  | 0 => k 0
  | 1 => (0 : Fin 1)

theorem start_row (k : S16384x256.Idx) (idx : IVec S16384x1 32) : ScatterDims.start D k idx 0 = (idx (colAt k)).toInt := by
  unfold ScatterDims.start
  rw [dif_pos (show (0 : Fin 2) ∈ ScatterDims.scatterDimsToOperandDims D from List.mem_singleton.2 rfl)]
  refine congrArg (fun j => (idx j).toInt) (funext fun b => ?_)
  match b with
  | 0 => rfl
  | 1 => rfl

theorem start_col (k : S16384x256.Idx) (idx : IVec S16384x1 32) : ScatterDims.start D k idx 1 = 0 := by
  unfold ScatterDims.start
  exact dif_neg (show ¬ (1 : Fin 2) ∈ [(0 : Fin 2)] by decide)

theorem window_row (k : S16384x256.Idx) : ScatterDims.window D k 0 = 0 := by
  unfold ScatterDims.window
  exact dif_neg (show ¬ (0 : Fin 2) ∈ Shape.kept S100000x256 [(0 : Fin 2)] by decide)

theorem window_col (k : S16384x256.Idx) : ScatterDims.window D k 1 = (k 1).val := by
  unfold ScatterDims.window
  exact dif_pos (show (1 : Fin 2) ∈ Shape.kept S100000x256 [(0 : Fin 2)] by decide)

theorem lands (k : S16384x256.Idx) (idx : IVec S16384x1 32) (z : S100000x256.Idx) :
    ScatterDims.resultIdx? D k idx = some z ↔ (idx (colAt k)).toInt = ((z 0).val : ℤ) ∧ (k 1).val = (z 1).val := by
  rw [Routing.resultIdx?_eq_some]
  constructor
  · intro h
    have h0 := h 0
    have h1 := h 1
    rw [start_row, window_row] at h0
    rw [start_col, window_col] at h1
    exact ⟨by omega, by omega⟩
  · rintro ⟨h0, h1⟩ a
    match a with
    | 0 => rw [start_row, window_row]; omega
    | 1 => rw [start_col, window_col]; omega

end Land

/-- Where no index word is negative, the column holds the list. -/
theorem col_word (ix : IVec S16384 32) (hix : ∀ i, 0 ≤ (ix i).toInt) (j : S16384x1.Idx) : ixCol ix j = ix (Shape.ofLane (d := ![16384]) (j 0)) := by
  let e : Fin 16384 := j 0
  have h1 : ixCol ix j = Scalar.select (IntOp.cmpi .slt (ix (Shape.ofLane (d := ![16384]) e)) 0#32)
      (ix (Shape.ofLane (d := ![16384]) e) + 100000#32) (ix (Shape.ofLane (d := ![16384]) e)) := by
    have : ∀ i : S16384.Idx, i = Shape.ofLane (d := ![16384]) e →
        (select (cmpi .slt ix (broadcastInDim S16384 ![] bcast_S_S16384 (constantI S_ 32 0#32)))
          (addi ix (broadcastInDim S16384 ![] bcast_S_S16384 (constantI S_ 32 100000#32))) ix : IVec S16384 32) i
        = Scalar.select (IntOp.cmpi .slt (ix (Shape.ofLane (d := ![16384]) e)) 0#32)
          (ix (Shape.ofLane (d := ![16384]) e) + 100000#32) (ix (Shape.ofLane (d := ![16384]) e)) := by
      rintro _ rfl; rfl
    refine this _ (funext fun a => ?_)
    match a with
    | 0 => rfl
  rw [h1, Routing.wrap_of_lt]
  have := hix (Shape.ofLane (d := ![16384]) e)
  rw [BitVec.toInt_eq_toNat_cond] at this
  have := (ix (Shape.ofLane (d := ![16384]) e)).isLt
  split at * <;> omega

open Cert.Proof.Words in
/-- Where no index word is negative, the reference's value is the array after the scatter. -/
theorem val_eq (fa : FVec F S100000x256 .f32) (fh : FVec F S16384x256 .f32) (ix : IVec S16384 32)
    (hix : ∀ i, 0 ≤ (ix i).toInt) : val fa fh ix = scat (F := F) ix fh fa := by
  have hw : ∀ k : S16384x256.Idx, (ixCol ix (colAt k)).toInt = rowZ (F := F) ix (k 0).val := fun k => by
    have hk : (k 0).val < 16384 := (k 0).isLt
    rw [col_word ix hix]
    unfold rowZ
    rw [dif_pos hk]
    rfl
  funext z
  unfold val
  rw [Routing.scatter_at]
  by_cases hz : ∃ e, LastNaming (F := F) ix ((z 0).val : ℤ) e
  · obtain ⟨e, he⟩ := hz
    let k₀ : S16384x256.Idx := at2 ⟨e, he.1⟩ (z 1)
    rw [scat_hit he k₀ rfl rfl,
      foldl_hit (fun n => ScatterDims.resultIdx? scatter_S100000x256_S16384x1_S16384x256_1_0_0_1 (S16384x256.rowMajor.symm n) (ixCol ix) = some z)
        (fun n => fh (S16384x256.rowMajor.symm n)) (fa z) (S16384x256.rowMajor k₀)]
    · rw [Equiv.symm_apply_apply]
    · rw [Equiv.symm_apply_apply, lands, hw]
      exact ⟨he.2.1, rfl⟩
    · intro n hn hl
      obtain ⟨k, rfl⟩ := S16384x256.rowMajor.surjective n
      rw [Equiv.symm_apply_apply, lands, hw] at hl
      have hv := Fin.lt_def.1 hn
      rw [Shape.rowMajor_val_two, Shape.rowMajor_val_two] at hv
      have h1 : (k₀ 1).val = (z 1).val := rfl
      have h0 : (k₀ 0).val = e := rfl
      have hlt : e < (k 0).val := by
        have : (k 1).val = (k₀ 1).val := hl.2.trans h1.symm
        rw [this, h0] at hv
        by_contra hc
        have := Nat.mul_le_mul_right (![16384, 256] 1) (Nat.not_lt.1 hc)
        omega
      exact he.2.2 _ hlt (k 0).isLt hl.1
  · rw [scat_miss (fun e he => hz ⟨e, he⟩)]
    refine foldl_miss _ (fun n => fh (S16384x256.rowMajor.symm n)) _ fun n hl => hz ?_
    rw [lands, hw] at hl
    classical
    obtain ⟨e, he, hm⟩ := (Finset.exists_max_image ((Finset.range 16384).filter fun e => rowZ (F := F) ix e = ((z 0).val : ℤ)) id
      ⟨_, Finset.mem_filter.2 ⟨Finset.mem_range.2 ((S16384x256.rowMajor.symm n) 0).isLt, hl.1⟩⟩)
    rw [Finset.mem_filter, Finset.mem_range] at he
    refine ⟨e, he.1, he.2, fun e' hlt he' heq => ?_⟩
    have := hm e' (Finset.mem_filter.2 ⟨Finset.mem_range.2 he', heq⟩)
    exact absurd this (Nat.not_le.2 hlt)

end Cert.Proof.Ref

end
-- ==== Proof.RefValue.lean ====
/-
  The reference's values: the row each index word names, and row by row the update of the rows.
-/
module

public import proofs.«01_k».proof.Proof.Reference
public import proofs.«01_k».proof.Proof.Cell
public import proofs.«01_k».proof.Proof.Gather
public import Idealize.ShloMosaic.Lib.StackMember
public import Idealize.ShloMosaic.Lib.KernelVsHost
public import Idealize.ShloMosaic.Lib.IdealHost
public import Idealize.ShloMosaic.Lib.ReduceAll

@[expose] public section

noncomputable section

namespace Cert.Proof.RefValue

open Idealize.ShloMosaic hiding ix1 ix2 ix3 addf_apply mulf_apply subf_apply constant_apply
open Idealize.ShloMosaic.ValueIdx
open Cert.ReferenceIdeal Cert.ReferenceIdeal.Gen
open Cert.Proof.Cell Cert.Proof.Ref

/-! ## The rows an index list names -/

section Take

local notation "D" => gather_S100000x256_S16384x1_S16384x256_1_0_n_n_0_1_1256

theorem gather_at {α : Type} (x : S100000x256.Idx → α) (idx : IVec S16384x1 32) (r : Fin 16384) (k : Fin 256) (n : Fin 100000)
    (h : (idx (ix2 r 0)).toInt = n.val) : Host.gather D x idx (ix2 r k) = x (ix2 n k) := by
  unfold Host.gather
  congr 1
  funext a
  refine Fin.ext ?_
  show GatherDims.start D (ix2 r k) idx a + GatherDims.batchCoord D (ix2 r k) a + GatherDims.offCoord D (ix2 r k) a = _
  match a with
  | 0 =>
    rw [GatherDims.batchCoord_eq_zero _ _ _ (fun h => List.not_mem_nil h),
      GatherDims.offCoord_eq_zero _ _ _ (fun h => ((GatherDims.mem_sKept _ _).mp h).1 (List.mem_singleton.mpr rfl))]
    have e : GatherDims.start D (ix2 r k) idx 0 = min (idx (ix2 r 0)).toInt.toNat 99999 := by
      unfold GatherDims.start
      rw [dif_pos (show (0 : Fin 2) ∈ GatherDims.startIndexMap D from List.mem_singleton.mpr rfl)]
      refine congrArg (fun j => min (idx j).toInt.toNat 99999) (funext fun b => ?_)
      match b with
      | 0 => rfl
      | 1 => rfl
    rw [e, h]
    have := n.isLt
    show min (n.val : ℤ).toNat 99999 + 0 + 0 = n.val
    omega
  | 1 =>
    rw [GatherDims.batchCoord_eq_zero _ _ _ (fun h => List.not_mem_nil h)]
    have e : GatherDims.start D (ix2 r k) idx 1 = 0 := by
      unfold GatherDims.start
      exact dif_neg (show ¬ (1 : Fin 2) ∈ [(0 : Fin 2)] by decide)
    rw [e]
    have o : GatherDims.offCoord D (ix2 r k) 1 = k.val := by
      unfold GatherDims.offCoord
      exact dif_pos (show (1 : Fin 2) ∈ GatherDims.sKept D by decide)
    rw [o]
    show 0 + 0 + k.val = k.val
    omega

end Take

/-- Where every word names a row of the table, the rows named. -/
theorem take_at (fa : FVec Ideal S100000x256 .f32) (ix : IVec S16384 32) (hix : Gather.Names (F := Ideal) ix) (r : Fin 16384) (k : Fin 256) :
    takeV fa ix (ix2 r k) = fa (ix2 (Gather.rowIx (F := Ideal) ix (Shape.ofLane (d := ![16384]) r)) k) := by
  have hn : ∀ i, (ix i).toInt = ((ix i).toNat : ℤ) := fun i => Words.toInt_nonneg (lt_trans (hix i) (by norm_num))
  have hz : ∀ i, 0 ≤ (ix i).toInt := fun i => by rw [hn]; exact Int.natCast_nonneg _
  have hin : ∀ j, inTable ix j = 1#1 := fun j => by
    have hc := col_word ix hz j
    refine (Words.and_one _ _).2 ⟨(Words.sge_one _ _).2 ?_, IntOp.cmpi_sle.2 ?_⟩
    · rw [hc]
      exact hz _
    · rw [hc, hn]
      have := hix (Shape.ofLane (d := ![16384]) (j 0))
      show _ ≤ (99999#32 : BitVec 32).toInt
      have e : (99999#32 : BitVec 32).toInt = 99999 := by decide
      rw [e]
      omega
  unfold takeV
  have hb : broadcastInDim S16384x256 ![0] bcast_S16384_S16384x256_0
      (Host.reduce IntOp.andi (inTable ix) (constantI S_ 1 1#1) reducesTo_S16384x1_S16384_d1 h_S_) (ix2 r k) = 1#1 :=
    Host.reduce_andi_one _ _ _ _ _ rfl hin
  rw [select_apply, hb]
  refine (gather_at fa (ixCol ix) r k _ ?_)
  rw [col_word ix hz, hn]
  have := hix (Shape.ofLane (d := ![16384]) r)
  exact congrArg Nat.cast (Nat.mod_eq_of_lt this).symm

/-! ## The layers and the step at an element -/

/-- A vector by its one coordinate. -/
abbrev vec {n : ℕ} (b : (⟨1, ![n]⟩ : Shape).Idx → EReal) (c : Fin n) : EReal := b (ix1 c)

theorem layer {M K N : ℕ} (d : DotDims ⟨2, ![M, K]⟩ ⟨2, ![K, N]⟩ ⟨2, ![M, N]⟩) (hd : d = DotDims.plain M K N)
    (A : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (r : Fin M) (c : Fin N) :
    addf (Host.dotGeneral d none A W) (broadcastInDim ⟨2, ![M, N]⟩ ![0, 1] h2 (broadcastInDim ⟨2, ![1, N]⟩ ![1] h1 b)) (ix2 r c)
      = lin (row A r) (row W) (vec b) c := by
  subst hd
  rw [addf_apply, StackMember.dotGeneral_plain_apply, broadcastInDim_oneRow_apply, broadcastInDim_apply ![1] h1 b _ (ix1 c) fun a => ?_]
  · rfl
  · match a with
    | 0 =>
      show c.val = if N = 1 then 0 else c.val
      have := c.isLt
      split <;> omega

theorem msg_at (x : FVec Ideal S16384x1024 .f32) (w1 : FVec Ideal S1024x512 .f32) (b1 : FVec Ideal S512 .f32) (w2 : FVec Ideal S512x100 .f32)
    (b2 : FVec Ideal S100 .f32) (r : Fin 16384) (c : Fin 100) :
    msgV x w1 b1 w2 b2 (ix2 r c) = lin (cut (lin (row x r) (row w1) (vec b1))) (row w2) (vec b2) c := by
  unfold msgV
  refine (layer _ rfl _ _ _ _ _ r c).trans (congrArg (fun y => lin y (row w2) (vec b2) c) (funext fun k => ?_))
  refine congrArg₂ max (layer _ rfl _ _ _ _ _ r k) ?_
  rw [broadcastInDim_scalar_apply]
  exact Ideal.ofBits_zero_f32

theorem ones_at (i : S16384x256.Idx) : (ones (F := Ideal)) i = (1 : EReal) := by
  unfold ones
  rw [broadcastInDim_scalar_apply]
  exact Ideal.ofBits_one_f32

theorem sig_at (v : FVec Ideal S16384x256 .f32) (i : S16384x256.Idx) : sigV v i = Ideal.logistic (v i) := by
  show Ideal.div (ones (F := Ideal) i) (ones (F := Ideal) i + Ideal.exp (-(v i))) = _
  rw [ones_at]
  rfl

theorem sliced (o : ℕ) (ho : o ≤ 512) (v : FVec Ideal S16384x768 .f32) (h : S16384x768.Slices ![0, o] S16384x256) (r : Fin 16384) (j : Fin 256) :
    extractStridedSlice S16384x256 ![0, o] v h (ix2 r j) = v (ix2 r (gate o ho j)) :=
  extractStridedSlice_apply _ _ _ _ _ fun a => by
    match a with
    | ⟨0, _⟩ => exact (Nat.zero_add _).symm
    | ⟨1, _⟩ => rfl

theorem step_at (gx gh : FVec Ideal S16384x768 .f32) (h : FVec Ideal S16384x256 .f32) (r : Fin 16384) (j : Fin 256) :
    stepV gx gh h (ix2 r j) = step (row gx r) (row gh r) (row h r) j := by
  have ht : ∀ (v : FVec Ideal S16384x256 .f32) i, Host.tanh v i = Ideal.tanh (v i) := fun _ _ => rfl
  unfold stepV updV resV step
  simp only [addf_apply, mulf_apply, subf_apply, ht, sig_at, ones_at, sliced 0 (by omega), sliced 256 (by omega), sliced 512 (by omega)]

/-- A row of the update. -/
theorem row_at (x : FVec Ideal S16384x1024 .f32) (w1 : FVec Ideal S1024x512 .f32) (b1 : FVec Ideal S512 .f32) (w2 : FVec Ideal S512x100 .f32)
    (b2 : FVec Ideal S100 .f32) (wx : FVec Ideal S100x768 .f32) (wh : FVec Ideal S256x768 .f32) (bx bh : FVec Ideal S768 .f32)
    (h : FVec Ideal S16384x256 .f32) (r : Fin 16384) (j : Fin 256) :
    stepV (gxV (msgV x w1 b1 w2 b2) wx bx) (ghV h wh bh) h (ix2 r j)
      = cell (row x r) (row h r) (row w1) (vec b1) (row w2) (vec b2) (row wx) (row wh) (vec bx) (vec bh) j := by
  have hx : row (gxV (msgV x w1 b1 w2 b2) wx bx) r = lin (lin (cut (lin (row x r) (row w1) (vec b1))) (row w2) (vec b2)) (row wx) (vec bx) :=
    funext fun c => (layer _ rfl _ _ _ _ _ r c).trans
      (congrArg (fun y => lin y (row wx) (vec bx) c) (funext fun k => msg_at x w1 b1 w2 b2 r k))
  have hh : row (ghV h wh bh) r = lin (row h r) (row wh) (vec bh) := funext fun c => layer _ rfl _ _ _ _ _ r c
  rw [step_at, hx, hh]
  rfl

end Cert.Proof.RefValue

end
-- ==== Proof.Whole.lean ====
/-
  The values of the whole program: what the update of the rows finds in its arrays — the padded weights, the one-row
  operands, the rows gathered —, the rows it leaves, and the result, which is the reference's.
-/
module

public import proofs.«01_k».proof.Proof.Values
public import proofs.«01_k».proof.Proof.Launch
public import proofs.«01_k».proof.Proof.RefValue
public import Idealize.ShloMosaic.Lib.ValueLayout

@[expose] public section

noncomputable section

namespace Cert.Proof.Whole

open Cert.KernelIdeal Cert.KernelIdeal.Gen
open Cert.Proof.Launch Cert.Proof.Cell Cert.Proof.Values
open Cert.Proof.RefValue (vec)
open Cert.Proof.Gather (Names rowIx gat)
open Idealize.ShloMosaic hiding ix1 ix2 ix3
open Idealize.ShloMosaic.ValueIdx
open Idealize.ShloMosaic.TcCoe
open Idealize.ShloMosaic.StableHlo (after)

/-! ## A matrix put at the corner of another -/

section Corner

variable {α : Type} {A B a b : ℕ} {si : Shape} (D : ScatterDims ⟨2, ![A, B]⟩ si ⟨2, ![a, b]⟩)
  (hw : ∀ k, D.window k 0 = (k 0).val ∧ D.window k 1 = (k 1).val) (idx : IVec si 32) (h0 : ∀ j, (idx j).toInt = 0)
include hw h0

theorem lands (k : (⟨2, ![a, b]⟩ : Shape).Idx) (r : Fin A) (c : Fin B) :
    D.resultIdx? k idx = some (ix2 r c) ↔ (k 0).val = r.val ∧ (k 1).val = c.val := by
  rw [Routing.resultIdx?_eq_some]
  have hs := Land.start_zero D k idx h0
  constructor
  · intro h
    have e0 := h 0
    have e1 := h 1
    rw [hs, (hw k).1] at e0
    rw [hs, (hw k).2] at e1
    have e0 : (0 : ℤ) + ((k 0).val : ℤ) = (r.val : ℤ) := e0
    have e1 : (0 : ℤ) + ((k 1).val : ℤ) = (c.val : ℤ) := e1
    omega
  · rintro ⟨e0, e1⟩ x
    match x with
    | 0 => rw [hs, (hw k).1]; show (0 : ℤ) + ((k 0).val : ℤ) = (r.val : ℤ); omega
    | 1 => rw [hs, (hw k).2]; show (0 : ℤ) + ((k 1).val : ℤ) = (c.val : ℤ); omega

theorem corner (x : (⟨2, ![A, B]⟩ : Shape).Idx → α) (u : (⟨2, ![a, b]⟩ : Shape).Idx → α) (r : Fin A) (c : Fin B) (r' : Fin a) (c' : Fin b)
    (hr : r'.val = r.val) (hc : c'.val = c.val) : Host.scatter D (fun _ y => y) x idx u (ix2 r c) = u (ix2 r' c') := by
  refine Land.scatter_hit D x idx u _ _ ((lands D hw idx h0 _ r c).2 ⟨hr, hc⟩) fun k hk => ?_
  obtain ⟨e0, e1⟩ := (lands D hw idx h0 k r c).1 hk
  refine (ValueIdx.eq_ix2 k).trans ?_
  rw [show k 0 = r' from Fin.ext (e0.trans hr.symm), show k 1 = c' from Fin.ext (e1.trans hc.symm)]
  rfl

theorem below (x : (⟨2, ![A, B]⟩ : Shape).Idx → α) (u : (⟨2, ![a, b]⟩ : Shape).Idx → α) (r : Fin A) (c : Fin B) (hr : a ≤ r.val) :
    Host.scatter D (fun _ y => y) x idx u (ix2 r c) = x (ix2 r c) := by
  refine Land.scatter_miss D x idx u _ fun k hk => ?_
  have e0 := ((lands D hw idx h0 k r c).1 hk).1
  have : (k 0).val < a := (k 0).isLt
  omega

end Corner

/-! ## The arrays the update finds -/

section Found

variable (m : (ℓ : Loc nD τ sig) → Buf (Elt Ideal) ℓ) (d : Dev nD)

/-- The index every corner is put at. -/
def corner0 : IVec S1 32 := broadcastInDim S1 ![] bcast_S_S1 (constantI S_ 32 0#32)

theorem corner0_zero (j : S1.Idx) : (corner0 j).toInt = 0 := rfl

theorem before (r : Ref sig .tc) (h1 : r ∉ W1) (hg : r ≠ main_v11) : A m d r = U0 m d (dr r) := by
  have hg' : dr r ≠ dr main_v11 := fun h => hg (Proc.devRef_injective _ h)
  unfold A U2 U1
  rw [StableHlo.after_of_writes_sub _ _ ops1_writes h1, Function.update_of_ne hg']

theorem arg_kept (r : Ref sig .tc) (h0 : r ∉ W0) (h1 : r ∉ W1) (hg : r ≠ main_v11) : A m d r = m ((SparseCore.T d).loc r) := by
  rw [before m d r h1 hg]
  unfold U0
  rw [StableHlo.after_of_writes_sub _ _ ops0_writes h0]
  rfl

theorem v2_eq : U0 m d (dr main_v2) = Host.scatter scatter_S512x128_S1_S512x100_01_n_1_0 (fun _ b => b)
    (broadcastInDim S512x128 ![] bcast_S_S512x128 (constant (F := Ideal) S_ .f32 0x00000000#32)) corner0 (m ((SparseCore.T d).loc main_arg5)) := by
  unfold U0
  after_results
  rfl

theorem v6_eq : U0 m d (dr main_v6) = Host.scatter scatter_S1x128_S1_S1x100_01_n_1_0 (fun _ b => b)
    (broadcastInDim S1x128 ![] bcast_S_S1x128 (constant (F := Ideal) S_ .f32 0x00000000#32)) corner0
    (broadcastInDim S1x100 ![1] bcast_S100_S1x100_1 (m ((SparseCore.T d).loc main_arg6))) := by
  unfold U0
  after_results
  rfl

theorem v9_eq : U0 m d (dr main_v9) = Host.scatter scatter_S128x768_S1_S100x768_01_n_0_0 (fun _ b => b)
    (broadcastInDim S128x768 ![] bcast_S_S128x768 (constant (F := Ideal) S_ .f32 0x00000000#32)) corner0 (m ((SparseCore.T d).loc main_arg7)) := by
  unfold U0
  after_results
  rfl

theorem v10_eq : U0 m d (dr main_v10) = shapeCast S100000x2x128 (m ((SparseCore.T d).loc main_arg0)) shapeCasts_S100000x256_S100000x2x128 := by
  unfold U0
  after_results
  rfl

theorem v12_eq : A m d main_v12 = shapeCast S16384x256 (rows m d) shapeCasts_S16384x2x128_S16384x256 := by
  have e : U1 m d (dr main_v11) = rows m d := Function.update_self ..
  rw [← e]
  unfold A U2
  after_results
  rfl

theorem line_kept (r : Ref sig .tc) (h0 : r ∉ W0) (hg : r ≠ main_v11) : U1 m d (dr r) = m ((SparseCore.T d).loc r) := by
  have hg' : dr r ≠ dr main_v11 := fun h => hg (Proc.devRef_injective _ h)
  unfold U1 U0
  rw [Function.update_of_ne hg', StableHlo.after_of_writes_sub _ _ ops0_writes h0]
  rfl

theorem v13_eq : A m d main_v13 = shapeCast S1x512 (m ((SparseCore.T d).loc main_arg4)) shapeCasts_S512_S1x512 := by
  rw [← line_kept m d main_arg4 (by decide) (by decide)]
  unfold A U2
  after_results
  rfl

theorem v14_eq : A m d main_v14 = shapeCast S1x768 (m ((SparseCore.T d).loc main_arg9)) shapeCasts_S768_S1x768 := by
  rw [← line_kept m d main_arg9 (by decide) (by decide)]
  unfold A U2
  after_results
  rfl

theorem v15_eq : A m d main_v15 = shapeCast S1x768 (m ((SparseCore.T d).loc main_arg10)) shapeCasts_S768_S1x768 := by
  rw [← line_kept m d main_arg10 (by decide) (by decide)]
  unfold A U2
  after_results
  rfl

/-! ## The same at an element -/

/-- What a buffer holds before the program. -/
abbrev M (r : Ref sig .tc) : Buf (Elt Ideal) ((SparseCore.T d : Thread nD τ).loc r) := m ((SparseCore.T d).loc r)

/-- Every update of the three corners lands where its coordinates say. -/
theorem windows :
    (∀ k, ScatterDims.window scatter_S512x128_S1_S512x100_01_n_1_0 k 0 = (k 0).val ∧ ScatterDims.window scatter_S512x128_S1_S512x100_01_n_1_0 k 1 = (k 1).val)
    ∧ (∀ k, ScatterDims.window scatter_S1x128_S1_S1x100_01_n_1_0 k 0 = (k 0).val ∧ ScatterDims.window scatter_S1x128_S1_S1x100_01_n_1_0 k 1 = (k 1).val)
    ∧ (∀ k, ScatterDims.window scatter_S128x768_S1_S100x768_01_n_0_0 k 0 = (k 0).val ∧ ScatterDims.window scatter_S128x768_S1_S100x768_01_n_0_0 k 1 = (k 1).val) :=
  ⟨fun _ => ⟨rfl, rfl⟩, fun _ => ⟨rfl, rfl⟩, fun _ => ⟨rfl, rfl⟩⟩

theorem w2_at (i : Fin 512) (k : Fin 100) : row (A m d main_v2) i (Fin.castAdd 28 k) = row (M m d main_arg5) i k := by
  unfold row
  rw [before m d main_v2 (by decide) (by decide), v2_eq]
  exact corner _ windows.1 _ corner0_zero _ _ i (Fin.castAdd 28 k) i k rfl rfl

theorem b2_at (k : Fin 100) : row (A m d main_v6) 0 (Fin.castAdd 28 k) = vec (M m d main_arg6) k := by
  unfold row
  rw [before m d main_v6 (by decide) (by decide), v6_eq]
  refine (corner _ windows.2.1 _ corner0_zero _ _ (0 : Fin 1) (Fin.castAdd 28 k) (0 : Fin 1) k rfl rfl).trans ?_
  refine broadcastInDim_apply ![1] bcast_S100_S1x100_1 (M m d main_arg6) _ (ix1 k) fun a => ?_
  match a with
  | 0 => rfl

theorem wx_at (k : Fin 100) (c : Fin 768) : row (A m d main_v9) (Fin.castAdd 28 k) c = row (M m d main_arg7) k c := by
  unfold row
  rw [before m d main_v9 (by decide) (by decide), v9_eq]
  exact corner _ windows.2.2 _ corner0_zero _ _ (Fin.castAdd 28 k) c k c rfl rfl

theorem wx_zero (k : Fin 28) (c : Fin 768) : row (A m d main_v9) (Fin.natAdd 100 k) c = 0 := by
  unfold row
  rw [before m d main_v9 (by decide) (by decide), v9_eq]
  refine (below _ windows.2.2 _ corner0_zero _ _ (Fin.natAdd 100 k) c (Nat.le_add_right _ _)).trans ?_
  rw [broadcastInDim_scalar_apply]
  exact Ideal.ofBits_zero_f32

theorem b1_at : row (A m d main_v13) 0 = vec (M m d main_arg4) := by
  funext k
  unfold row
  rw [v13_eq]
  exact shapeCast_a_1a_apply _ _ 0 k

theorem bx_at : row (A m d main_v14) 0 = vec (M m d main_arg9) := by
  funext k
  unfold row
  rw [v14_eq]
  exact shapeCast_a_1a_apply _ _ 0 k

theorem bh_at : row (A m d main_v15) 0 = vec (M m d main_arg10) := by
  funext k
  unfold row
  rw [v15_eq]
  exact shapeCast_a_1a_apply _ _ 0 k

/-- A row of the table by its two half rows. -/
def half (k : Fin 256) : Fin 2 := ⟨k.val / 128, by have := k.isLt; omega⟩
def lane (k : Fin 256) : Fin 128 := ⟨k.val % 128, Nat.mod_lt _ (by norm_num)⟩

theorem h_at (r : Fin 16384) : row (A m d main_v12) r
    = fun k => M m d main_arg0 (ix2 (rowIx (F := Ideal) (fI m d) (Shape.ofLane (d := ![16384]) r)) k) := by
  funext k
  unfold row
  rw [v12_eq]
  refine (shapeCast_apply (s := S16384x2x128) (rows m d) _ _ (ix3 r (half k) (lane k)) ?_).trans ?_
  · rw [Shape.rowMajor_val_two, Shape.rowMajor_val_three]
    show (r.val * 2 + k.val / 128) * 128 + k.val % 128 = r.val * 256 + k.val
    omega
  · unfold rows gat
    rw [v10_eq]
    refine shapeCast_apply (s := S100000x256) (M m d main_arg0) _ _ _ ?_
    rw [Shape.rowMajor_val_two, Shape.rowMajor_val_three]
    have e : ∀ n : ℕ, n * 256 + k.val = (n * 2 + k.val / 128) * 128 + k.val % 128 := fun n => by omega
    exact e _

/-! ## The result -/

/-- A row of the update, over the arguments. -/
theorem row_of (r : Fin 16384) : newRow (A m) d r
    = cell (row (M m d main_arg2) r) (fun k => M m d main_arg0 (ix2 (rowIx (F := Ideal) (fI m d) (Shape.ofLane (d := ![16384]) r)) k))
        (row (M m d main_arg3)) (vec (M m d main_arg4)) (row (M m d main_arg5)) (vec (M m d main_arg6)) (row (M m d main_arg7)) (row (M m d main_arg8))
        (vec (M m d main_arg9)) (vec (M m d main_arg10)) := by
  unfold newRow
  rw [h_at, b1_at, bx_at, bh_at, arg_kept m d main_arg2 (by decide) (by decide) (by decide), arg_kept m d main_arg3 (by decide) (by decide) (by decide),
    arg_kept m d main_arg8 (by decide) (by decide) (by decide)]
  exact cell_pad _ _ _ _ _ _ _ _ _ _ _ _ _ (w2_at m d) (b2_at m d) (wx_at m d) (wx_zero m d)

/-- The rows the update leaves are the reference's. -/
theorem rows_eq (hix : Names (fI m d)) : (Region.left (A m) d 12 : Vec Ideal S16384x256 .f32)
    = Ref.stepV (F := Ideal) (Ref.gxV (Ref.msgV (M m d main_arg2) (M m d main_arg3) (M m d main_arg4) (M m d main_arg5) (M m d main_arg6)) (M m d main_arg7) (M m d main_arg9))
        (Ref.ghV (Ref.takeV (M m d main_arg0) (fI m d)) (M m d main_arg8) (M m d main_arg10)) (Ref.takeV (M m d main_arg0) (fI m d)) := by
  funext z
  obtain ⟨r, k, rfl⟩ : ∃ (r : Fin 16384) (k : Fin 256), z = ix2 r k := ⟨z 0, z 1, ValueIdx.eq_ix2 z⟩
  refine (left_rows (A m) d r k).trans ?_
  refine Eq.trans ?_ (RefValue.row_at _ _ _ _ _ _ _ _ _ _ r k).symm
  have ht : row (Ref.takeV (F := Ideal) (M m d main_arg0) (fI m d)) r
      = fun k => M m d main_arg0 (ix2 (rowIx (F := Ideal) (fI m d) (Shape.ofLane (d := ![16384]) r)) k) :=
    funext fun k => RefValue.take_at (M m d main_arg0) (fI m d) hix r k
  refine (congrFun (row_of m d r) k).trans ?_
  exact congrArg (fun h => cell (row (M m d main_arg2) r) h (row (M m d main_arg3)) (vec (M m d main_arg4)) (row (M m d main_arg5))
    (vec (M m d main_arg6)) (row (M m d main_arg7)) (row (M m d main_arg8)) (vec (M m d main_arg9)) (vec (M m d main_arg10)) k) ht.symm

theorem table_eq : U4 m d (dr main_v17) = M m d main_arg0 := by
  have e : ∀ {x y : Ref sig .tc}, x ≠ y → dr x ≠ dr y := fun h h' => h (Proc.devRef_injective _ h')
  have h : U4 m d (dr main_v17) = Region.left (A m) d 11 := by
    unfold U4 U3
    rw [StableHlo.unary_result']
    rw [Function.update_of_ne (e (by decide)), Function.update_self]
    rfl
  exact h.trans ((left_copy (A m) d).trans (arg_kept m d main_arg0 (by decide) (by decide) (by decide)))

theorem rows_left : U4 m d (dr main_v16_1) = Region.left (A m) d 12 := by
  unfold U4 U3
  rw [StableHlo.unary_result_ne _ _ _ _ _ _ (by decide), Function.update_self]

/-- The program's result is the reference's. -/
theorem out_eq (hix : Names (fI m d)) : OUT m d
    = Ref.full (F := Ideal) (M m d main_arg0) (fI m d) (M m d main_arg2) (M m d main_arg3) (M m d main_arg4) (M m d main_arg5) (M m d main_arg6)
        (M m d main_arg7) (M m d main_arg8) (M m d main_arg9) (M m d main_arg10) := by
  have hz : ∀ i, 0 ≤ (fI m d i : BitVec 32).toInt := fun i => by
    rw [Words.toInt_nonneg (lt_trans (hix i) (by norm_num))]
    exact Int.natCast_nonneg _
  have h : OUT m d = Words.scat (F := Ideal) (fI m d) (U4 m d (dr main_v16_1)) (U4 m d (dr main_v17)) := rfl
  rw [h, rows_left, table_eq, rows_eq m d hix]
  exact (Ref.val_eq (F := Ideal) (M m d main_arg0) _ (fI m d) hz).symm

end Found

end Cert.Proof.Whole

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_idx_names_rows
public import proofs.«01_k».proof.Proof.Launch
public import proofs.«01_k».proof.Proof.Whole
public import Idealize.ShloMosaic.Lib.ReduceAll
public import Idealize.ShloMosaic.Adequacy
public import Idealize.ShloMosaic.Init

@[expose] public section

noncomputable section

namespace Cert.Proof

open Idealize.ShloMosaic Idealize.SL.Sem Cert.Kernel

/-! ## What the precondition says -/

instance : Subsingleton Cert.KernelIdeal.S_.Idx := ⟨fun _ _ => funext fun a => a.elim0⟩

/-- Every index word names a row of the table. -/
theorem names_of_pre {F : FTy → Type} [FloatOps F] (m : (ℓ : Loc Cert.KernelIdeal.nD Cert.KernelIdeal.τ Cert.KernelIdeal.sig) → Buf (Elt F) ℓ)
    (c : Dev Cert.KernelIdeal.nD)
    (h : Cert.Pre_idx_names_rows.fn (F := F) (m ((SparseCore.T c).loc Cert.KernelIdeal.main_arg0)) (m ((SparseCore.T c).loc Cert.KernelIdeal.main_arg1)) (m ((SparseCore.T c).loc Cert.KernelIdeal.main_arg2)) (m ((SparseCore.T c).loc Cert.KernelIdeal.main_arg3)) (m ((SparseCore.T c).loc Cert.KernelIdeal.main_arg4)) (m ((SparseCore.T c).loc Cert.KernelIdeal.main_arg5)) (m ((SparseCore.T c).loc Cert.KernelIdeal.main_arg6)) (m ((SparseCore.T c).loc Cert.KernelIdeal.main_arg7)) (m ((SparseCore.T c).loc Cert.KernelIdeal.main_arg8)) (m ((SparseCore.T c).loc Cert.KernelIdeal.main_arg9)) (m ((SparseCore.T c).loc Cert.KernelIdeal.main_arg10)) = fun _ => 1#1) : Gather.Names (Launch.fI m c) := by
  intro i
  have e := congrFun h (fun a => a.elim0)
  have hi := Host.reduce_andi_all _ _ _ _ _ e i
  obtain ⟨h0, h1⟩ := (Words.and_one _ _).1 hi
  have h0 := (Words.sge_one _ _).1 h0
  have h1 := (Words.slt_one _ _).1 h1
  have z0 : (0 : ℤ) ≤ (Launch.fI m c i : BitVec 32).toInt := h0
  have z1 : (Launch.fI m c i : BitVec 32).toInt < 100000 := h1
  rw [BitVec.toInt_eq_toNat_cond] at z0 z1
  have := (Launch.fI m c i : BitVec 32).isLt
  split at * <;> omega

/-! ## The frames -/

section Ends

variable {F : FTy → Type} [FloatOps F] [∀ e, Nonempty (Elt F e)]

/-- The arguments end as they began. -/
theorem ends {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Launch.QC m r) (c : Dev Cert.KernelIdeal.nD) :
    r.2.mem ((SparseCore.T c).loc Cert.KernelIdeal.main_arg0) = m ((SparseCore.T c).loc Cert.KernelIdeal.main_arg0)
      ∧ r.2.mem ((SparseCore.T c).loc Cert.KernelIdeal.main_arg1) = m ((SparseCore.T c).loc Cert.KernelIdeal.main_arg1)
      ∧ r.2.mem ((SparseCore.T c).loc Cert.KernelIdeal.main_arg2) = m ((SparseCore.T c).loc Cert.KernelIdeal.main_arg2)
      ∧ r.2.mem ((SparseCore.T c).loc Cert.KernelIdeal.main_arg3) = m ((SparseCore.T c).loc Cert.KernelIdeal.main_arg3)
      ∧ r.2.mem ((SparseCore.T c).loc Cert.KernelIdeal.main_arg4) = m ((SparseCore.T c).loc Cert.KernelIdeal.main_arg4)
      ∧ r.2.mem ((SparseCore.T c).loc Cert.KernelIdeal.main_arg5) = m ((SparseCore.T c).loc Cert.KernelIdeal.main_arg5)
      ∧ r.2.mem ((SparseCore.T c).loc Cert.KernelIdeal.main_arg6) = m ((SparseCore.T c).loc Cert.KernelIdeal.main_arg6)
      ∧ r.2.mem ((SparseCore.T c).loc Cert.KernelIdeal.main_arg7) = m ((SparseCore.T c).loc Cert.KernelIdeal.main_arg7)
      ∧ r.2.mem ((SparseCore.T c).loc Cert.KernelIdeal.main_arg8) = m ((SparseCore.T c).loc Cert.KernelIdeal.main_arg8)
      ∧ r.2.mem ((SparseCore.T c).loc Cert.KernelIdeal.main_arg9) = m ((SparseCore.T c).loc Cert.KernelIdeal.main_arg9)
      ∧ r.2.mem ((SparseCore.T c).loc Cert.KernelIdeal.main_arg10) = m ((SparseCore.T c).loc Cert.KernelIdeal.main_arg10) := by
  have k := (h.1 c).2.2
  refine ⟨k _ ?_, (h.1 c).2.1, k _ ?_, k _ ?_, k _ ?_, k _ ?_, k _ ?_, k _ ?_, k _ ?_, k _ ?_, k _ ?_⟩ <;> decide

/-- The run leaves the arguments as they were and every counter at zero. -/
theorem frame_any (m : (ℓ : Loc Cert.KernelIdeal.nD Cert.KernelIdeal.τ Cert.KernelIdeal.sig) → Buf (Elt F) ℓ) (ρ : Dev Cert.KernelIdeal.nD → PrngReg)
    (hix : ∀ c, Gather.Names (Launch.fI m c)) :
    θ_run (Cert.KernelIdeal.defs (F := F)) (Cert.KernelIdeal.threads (F := F)) ⟨m, fun _ => 0, ρ⟩ fun r =>
      (∀ c : Dev Cert.KernelIdeal.nD, r.2.mem ((SparseCore.T c).loc Cert.KernelIdeal.main_arg0) = m ((SparseCore.T c).loc Cert.KernelIdeal.main_arg0)
        ∧ r.2.mem ((SparseCore.T c).loc Cert.KernelIdeal.main_arg1) = m ((SparseCore.T c).loc Cert.KernelIdeal.main_arg1)
        ∧ r.2.mem ((SparseCore.T c).loc Cert.KernelIdeal.main_arg2) = m ((SparseCore.T c).loc Cert.KernelIdeal.main_arg2)
        ∧ r.2.mem ((SparseCore.T c).loc Cert.KernelIdeal.main_arg3) = m ((SparseCore.T c).loc Cert.KernelIdeal.main_arg3)
        ∧ r.2.mem ((SparseCore.T c).loc Cert.KernelIdeal.main_arg4) = m ((SparseCore.T c).loc Cert.KernelIdeal.main_arg4)
        ∧ r.2.mem ((SparseCore.T c).loc Cert.KernelIdeal.main_arg5) = m ((SparseCore.T c).loc Cert.KernelIdeal.main_arg5)
        ∧ r.2.mem ((SparseCore.T c).loc Cert.KernelIdeal.main_arg6) = m ((SparseCore.T c).loc Cert.KernelIdeal.main_arg6)
        ∧ r.2.mem ((SparseCore.T c).loc Cert.KernelIdeal.main_arg7) = m ((SparseCore.T c).loc Cert.KernelIdeal.main_arg7)
        ∧ r.2.mem ((SparseCore.T c).loc Cert.KernelIdeal.main_arg8) = m ((SparseCore.T c).loc Cert.KernelIdeal.main_arg8)
        ∧ r.2.mem ((SparseCore.T c).loc Cert.KernelIdeal.main_arg9) = m ((SparseCore.T c).loc Cert.KernelIdeal.main_arg9)
        ∧ r.2.mem ((SparseCore.T c).loc Cert.KernelIdeal.main_arg10) = m ((SparseCore.T c).loc Cert.KernelIdeal.main_arg10))
      ∧ r.2.sem = fun _ => 0 :=
  (θ_run Cert.KernelIdeal.defs _ _).mono (fun _ h => ⟨ends h, h.2⟩) (Launch.run_main m ρ hix)

end Ends

section Printed

variable {F : FTy → Type} [FloatOps F]

set_option maxHeartbeats 4000000 in
/-- The two printed programs are the same text: their body tables are equal, label by label and processor by processor. -/
theorem bodies_eq [Cert.Kernel.Facts] [Cert.KernelIdeal.Facts] : @Cert.Kernel.defs₀ F _ _ = @Cert.KernelIdeal.defs₀ F _ _ := by
  funext p l a
  match l with
  | 0 => cases p <;> rfl
  | 1 => cases p <;> rfl
  | 2 => cases p <;> rfl

theorem defs_eq [Cert.Kernel.Facts] [Cert.KernelIdeal.Facts] : @Cert.Kernel.defs F _ _ = @Cert.KernelIdeal.defs F _ _ :=
  congrArg (fun D => Cert.KernelIdeal.sc.defs (Pipeline.defs Cert.KernelIdeal.pcfgs D)) bodies_eq

end Printed

set_option maxHeartbeats 4000000 in
theorem frame_p : Cert.quiescent_Kernel := fun m ρ hpre => by
  rw [defs_eq]
  exact frame_any (F := Bits) m ρ fun c => names_of_pre m c (hpre c)

theorem frame_pi : Cert.quiescent_KernelIdeal := fun m ρ hpre => frame_any (F := Ideal) m ρ fun c => names_of_pre m c (hpre c)

theorem frame_ri : Cert.quiescent_ReferenceIdeal := fun m ρ _ =>
  (θ_run Cert.ReferenceIdeal.defs _ _).mono (fun _ h => ⟨fun c => (h.1 c).2, h.2⟩) (Ref.run_main (F := Ideal) m ρ)

/-! ## The values -/

theorem values : Cert.algebraic_KernelIdeal_ReferenceIdeal := by
  intro m ρ m' ρ' hpre hagree
  have hix := fun c => names_of_pre m c (hpre c)
  refine ⟨fun c => Launch.OUT m c, (θ_run Cert.KernelIdeal.defs _ _).mono (fun _ h c => ⟨(h.1 c).1, ends h c⟩)
    (Launch.run_main (F := Ideal) m ρ hix), ?_⟩
  refine (θ_run Cert.ReferenceIdeal.defs _ _).mono (fun _ h c => ⟨(h.1 c).1.trans ?_, (h.1 c).2⟩) (Ref.run_main (F := Ideal) m' ρ')
  obtain ⟨h0, h1, h2, h3, h4, h5, h6, h7, h8, h9, h10⟩ := hagree c
  rw [h0, h1, h2, h3, h4, h5, h6, h7, h8, h9, h10]
  exact (Whole.out_eq m c (hix c)).symm

theorem claim : Cert.Claim :=
  ⟨Cert.Kernel.Gen.facts, Cert.KernelIdeal.Gen.facts, Cert.ReferenceIdeal.Gen.facts, Cert.Pre_idx_names_rows.Gen.facts,
    frame_p, frame_pi, frame_ri, fun m ρ _ => frame_ri m ρ trivial, trivial, values⟩

end Cert.Proof

end
